-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_rows_exist : Cert.Pre_rows_exist.Facts] (m : (ℓ : Loc Cert.Kernel5.nD Cert.Kernel5.τ Cert.Kernel5.sig) → Buf (Elt Bits) ℓ) : Prop :=
  ∀ c : Dev Cert.Kernel5.nD,
    (Cert.Pre_rows_exist.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))) = (fun _ => 1#1)

def Pre_Kernel5Ideal [hPre_rows_exist : Cert.Pre_rows_exist.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_exist.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_exist [hPre_rows_exist : Cert.Pre_rows_exist.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_exist.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] [hPre_rows_exist : Cert.Pre_rows_exist.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_rows_exist : Cert.Pre_rows_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_rows_exist [hReference5Ideal : Cert.Reference5Ideal.Facts] [hPre_rows_exist : Cert.Pre_rows_exist.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_exist m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_on_used_rows [hKernelIdeal : Cert.KernelIdeal.Facts] [hReferenceIdeal : Cert.ReferenceIdeal.Facts] [hPre_in_range : Cert.Pre_in_range.Facts] [hOn_used_rows : Cert.On_used_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![82944, 2048]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![82944, 2048]⟩ : Shape).Idx, (Cert.On_used_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v57) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v14)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v18)) (v4 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v14) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v18) = v3 c
          ∧ r.2.mem ((c.tc : Thread Cert.Kernel4Ideal.nD Cert.Kernel4Ideal.τ).loc Cert.Kernel4Ideal.main_v20) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] [hPre_rows_exist : Cert.Pre_rows_exist.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v139) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_on_prompt_rows [hKernel6Ideal : Cert.Kernel6Ideal.Facts] [hReference6Ideal : Cert.Reference6Ideal.Facts] [hOn_prompt_rows : Cert.On_prompt_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![8320, 2048]⟩ : Shape).Idx, (Cert.On_prompt_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) i = 1#1 → r.2.mem ((c.tc : Thread Cert.Kernel6Ideal.nD Cert.Kernel6Ideal.τ).loc Cert.Kernel6Ideal.main_v1) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![8320, 2048]⟩ : Shape).Idx, (Cert.On_prompt_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) i = 1#1 → r.2.mem ((c.tc : Thread Cert.Reference6Ideal.nD Cert.Reference6Ideal.τ).loc Cert.Reference6Ideal.main_v95) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_range : Cert.Pre_in_range.Facts) (hPre_rows_exist : Cert.Pre_rows_exist.Facts) (hOn_used_rows : Cert.On_used_rows.Facts) (hOn_prompt_rows : Cert.On_prompt_rows.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_rows_exist := hPre_rows_exist)
    ∧ quiescent_Kernel5Ideal (hKernel5Ideal := hKernel5Ideal) (hPre_rows_exist := hPre_rows_exist)
    ∧ quiescent_Reference5Ideal (hReference5Ideal := hReference5Ideal)
    ∧ quiescent_Reference5Ideal_pre_rows_exist (hReference5Ideal := hReference5Ideal) (hPre_rows_exist := hPre_rows_exist)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_used_rows (hKernelIdeal := hKernelIdeal) (hReferenceIdeal := hReferenceIdeal) (hPre_in_range := hPre_in_range) (hOn_used_rows := hOn_used_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_rows_exist := hPre_rows_exist)
    ∧ preserves_Kernel6_Kernel6Ideal
    ∧ algebraic_Kernel6Ideal_Reference6Ideal_on_prompt_rows (hKernel6Ideal := hKernel6Ideal) (hReference6Ideal := hReference6Ideal) (hOn_prompt_rows := hOn_prompt_rows)
-- ==== On_prompt_rows.lean ====
abbrev S8320x2048 : Shape := ⟨2, ![8320, 2048]⟩
abbrev S4x512x512 : Shape := ⟨3, ![4, 512, 512]⟩
abbrev S1x2048 : Shape := ⟨2, ![1, 2048]⟩
abbrev S8320 : Shape := ⟨1, ![8320]⟩
abbrev S8320x1 : Shape := ⟨2, ![8320, 1]⟩
abbrev S_ : Shape := ⟨0, ![]⟩

class Facts : Prop where
  bcast_S8320_S8320x1_0 : S8320.BroadcastsInDim S8320x1 (![0] : Fin 1 → Fin S8320x1.rank)
  bcast_S_S8320x1 : S_.BroadcastsInDim S8320x1 (![] : Fin 0 → Fin S8320x1.rank)
  bcast_S8320x1_S8320x2048_0_1 : S8320x1.BroadcastsInDim S8320x2048 (![0, 1] : Fin 2 → Fin S8320x2048.rank)

variable [Facts]

def fn {F : FTy → Type} [FloatOps F] (main_arg0 : FVec F S8320x2048 .f32) (main_arg1 : FVec F S4x512x512 .f32) (main_arg2 : FVec F S1x2048 .f32) (main_arg3 : FVec F S1x2048 .f32) (main_arg4 : FVec F S1x2048 .f32) : IVec S8320x2048 1 :=
  let main_v0 : IVec S8320 32 := iotaInDim S8320 32 0
  let main_v1 : IVec S8320x1 32 := broadcastInDim S8320x1 ![0] bcast_S8320_S8320x1_0 main_v0
  let main_c : IVec S_ 32 := constantI S_ 32 8192#32
  let main_v2 : IVec S8320x1 32 := broadcastInDim S8320x1 ![] bcast_S_S8320x1 main_c
  let main_v3 : IVec S8320x1 1 := cmpi .slt main_v1 main_v2
  let main_v4 : IVec S8320x2048 1 := broadcastInDim S8320x2048 ![0, 1] bcast_S8320x1_S8320x2048_0_1 main_v3
  main_v4
-- ==== On_used_rows.lean ====
abbrev S82944x2048 : Shape := ⟨2, ![82944, 2048]⟩
abbrev S324 : Shape := ⟨1, ![324]⟩
abbrev S1 : Shape := ⟨1, ![1]⟩
abbrev S64x2048x512 : Shape := ⟨3, ![64, 2048, 512]⟩
abbrev S64x512x2048 : Shape := ⟨3, ![64, 512, 2048]⟩
abbrev S_ : Shape := ⟨0, ![]⟩

class Facts : Prop where
  shapeCasts_S1_S_ : S1.ShapeCasts S_
  bcast_S_S82944x2048 : S_.BroadcastsInDim S82944x2048 (![] : Fin 0 → Fin S82944x2048.rank)

variable [Facts]

def fn {F : FTy → Type} [FloatOps F] (main_arg0 : FVec F S82944x2048 .f32) (main_arg1 : IVec S324 32) (main_arg2 : IVec S1 32) (main_arg3 : FVec F S64x2048x512 .f32) (main_arg4 : FVec F S64x2048x512 .f32) (main_arg5 : FVec F S64x512x2048 .f32) : IVec S82944x2048 1 :=
  let main_v0 : IVec S82944x2048 32 := iotaInDim S82944x2048 32 0
  let main_v1 : IVec S_ 32 := shapeCast S_ main_arg2 shapeCasts_S1_S_
  let main_c : IVec S_ 32 := constantI S_ 32 256#32
  let main_v2 : IVec S_ 32 := muli main_v1 main_c
  let main_v3 : IVec S82944x2048 32 := broadcastInDim S82944x2048 ![] bcast_S_S82944x2048 main_v2
  let main_v4 : IVec S82944x2048 1 := cmpi .slt main_v0 main_v3
  main_v4
-- ==== Pre_in_range.lean ====
abbrev S82944x2048 : Shape := ⟨2, ![82944, 2048]⟩
abbrev S324 : Shape := ⟨1, ![324]⟩
abbrev S1 : Shape := ⟨1, ![1]⟩
abbrev S64x2048x512 : Shape := ⟨3, ![64, 2048, 512]⟩
abbrev S64x512x2048 : Shape := ⟨3, ![64, 512, 2048]⟩
abbrev S_ : Shape := ⟨0, ![]⟩

class Facts : Prop where
  bcast_S_S324 : S_.BroadcastsInDim S324 (![] : Fin 0 → Fin S324.rank)
  reducesTo_S324_S_d0 : S324.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S82944x2048 .f32) (main_arg1 : IVec S324 32) (main_arg2 : IVec S1 32) (main_arg3 : FVec F S64x2048x512 .f32) (main_arg4 : FVec F S64x2048x512 .f32) (main_arg5 : FVec F S64x512x2048 .f32) : IVec S_ 1 :=
  let main_c : IVec S_ 32 := constantI S_ 32 0#32
  let main_v0 : IVec S324 32 := broadcastInDim S324 ![] bcast_S_S324 main_c
  let main_v1 : IVec S324 1 := cmpi .sge main_arg1 main_v0
  let main_c_0 : IVec S_ 1 := constantI S_ 1 1#1
  let main_v2 : IVec S_ 1 := (fun x v => Host.reduce IntOp.andi x v reducesTo_S324_S_d0 h_S_) main_v1 main_c_0
  let main_c_1 : IVec S_ 32 := constantI S_ 32 64#32
  let main_v3 : IVec S324 32 := broadcastInDim S324 ![] bcast_S_S324 main_c_1
  let main_v4 : IVec S324 1 := cmpi .slt main_arg1 main_v3
  let main_c_2 : IVec S_ 1 := constantI S_ 1 1#1
  let main_v5 : IVec S_ 1 := (fun x v => Host.reduce IntOp.andi x v reducesTo_S324_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg2 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 324#32
  let main_v11 : IVec S1 32 := broadcastInDim S1 ![] bcast_S_S1 main_c_5
  let main_v12 : IVec S1 1 := cmpi .sle main_arg2 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Pre_rows_exist.lean ====
abbrev S8320x2048 : Shape := ⟨2, ![8320, 2048]⟩
abbrev S82944x2048 : Shape := ⟨2, ![82944, 2048]⟩
abbrev S8320x8 : Shape := ⟨2, ![8320, 8]⟩
abbrev S2048x512 : Shape := ⟨2, ![2048, 512]⟩
abbrev S512x2048 : Shape := ⟨2, ![512, 2048]⟩
abbrev S1x2048 : Shape := ⟨2, ![1, 2048]⟩
abbrev S_ : Shape := ⟨0, ![]⟩

class Facts : Prop where
  bcast_S_S8320x8 : S_.BroadcastsInDim S8320x8 (![] : Fin 0 → Fin S8320x8.rank)
  reducesTo_S8320x8_S_d0_1 : S8320x8.ReducesTo [0, 1] S_
  h_S_ : 0 < S_.numel

variable [Facts]

def fn {F : FTy → Type} [FloatOps F] (main_arg0 : FVec F S8320x2048 .f32) (main_arg1 : FVec F S82944x2048 .f32) (main_arg2 : IVec S8320x8 32) (main_arg3 : FVec F S8320x8 .f32) (main_arg4 : FVec F S2048x512 .f32) (main_arg5 : FVec F S2048x512 .f32) (main_arg6 : FVec F S512x2048 .f32) (main_arg7 : FVec F S1x2048 .f32) (main_arg8 : FVec F S1x2048 .f32) : IVec S_ 1 :=
  let main_c : IVec S_ 32 := constantI S_ 32 0#32
  let main_v0 : IVec S8320x8 32 := broadcastInDim S8320x8 ![] bcast_S_S8320x8 main_c
  let main_v1 : IVec S8320x8 1 := cmpi .sge main_arg2 main_v0
  let main_c_0 : IVec S_ 32 := constantI S_ 32 82944#32
  let main_v2 : IVec S8320x8 32 := broadcastInDim S8320x8 ![] bcast_S_S8320x8 main_c_0
  let main_v3 : IVec S8320x8 1 := cmpi .slt main_arg2 main_v2
  let main_v4 : IVec S8320x8 1 := andi main_v1 main_v3
  let main_c_1 : IVec S_ 1 := constantI S_ 1 1#1
  let main_v5 : IVec S_ 1 := (fun x v => Host.reduce IntOp.andi x v reducesTo_S8320x8_S_d0_1 h_S_) main_v4 main_c_1
  main_v5
-- ==== Kernel.lean ====
abbrev S82944x2048 : Shape := ⟨2, ![82944, 2048]⟩
abbrev S324 : Shape := ⟨1, ![324]⟩
abbrev S1 : Shape := ⟨1, ![1]⟩
abbrev S64x2048x512 : Shape := ⟨3, ![64, 2048, 512]⟩
abbrev S64x512x2048 : Shape := ⟨3, ![64, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S82944x2048, .f32⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S82944x2048, .f32⟩
  | .local _ .vmem, ⟨0, _⟩ => ⟨S256x2048, .f32⟩
  | .local _ .vmem, ⟨1, _⟩ => ⟨S256x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S324, .i32⟩
  | .local _ .smem, ⟨1, _⟩ => ⟨S1, .i32⟩
  | _, _ => ⟨S82944x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![324], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S324.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S324) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S324.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S324) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S324.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S324) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S82944x2048 : Shape := ⟨2, ![82944, 2048]⟩
abbrev S324 : Shape := ⟨1, ![324]⟩
abbrev S1 : Shape := ⟨1, ![1]⟩
abbrev S64x2048x512 : Shape := ⟨3, ![64, 2048, 512]⟩
abbrev S64x512x2048 : Shape := ⟨3, ![64, 512, 2048]⟩
abbrev S324x256x2048 : Shape := ⟨3, ![324, 256, 2048]⟩
abbrev S_ : Shape := ⟨0, ![]⟩
abbrev S324x1 : Shape := ⟨2, ![324, 1]⟩
abbrev S324x3 : Shape := ⟨2, ![324, 3]⟩
abbrev S324x1x2048x512 : Shape := ⟨4, ![324, 1, 2048, 512]⟩
abbrev S324x2048x512 : Shape := ⟨3, ![324, 2048, 512]⟩
abbrev S324x1x512x2048 : Shape := ⟨4, ![324, 1, 512, 2048]⟩
abbrev S324x512x2048 : Shape := ⟨3, ![324, 512, 2048]⟩
abbrev S324x256x512 : Shape := ⟨3, ![324, 256, 512]⟩

abbrev nBuf : Space → Nat
  | .hbm => 108
  | .vmem => 0
  | .smem => 0
  | _ => 0

abbrev bufTy : (tb : Table) → Fin (tcTables nBuf tb) → BufTy
  | .hbm, ⟨0, _⟩ => ⟨S82944x2048, .f32⟩
  | .hbm, ⟨1, _⟩ => ⟨S324, .i32⟩
  | .hbm, ⟨2, _⟩ => ⟨S1, .i32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S324x256x2048, .f32⟩
  | .hbm, ⟨7, _⟩ => ⟨S_, .i32⟩
  | .hbm, ⟨8, _⟩ => ⟨S324, .i32⟩
  | .hbm, ⟨9, _⟩ => ⟨S324, .i1⟩
  | .hbm, ⟨10, _⟩ => ⟨S_, .i32⟩
  | .hbm, ⟨11, _⟩ => ⟨S324, .i32⟩
  | .hbm, ⟨12, _⟩ => ⟨S324, .i32⟩
  | .hbm, ⟨13, _⟩ => ⟨S324, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S324x1, .i32⟩
  | .hbm, ⟨31, _⟩ => ⟨S324x1, .i32⟩
  | .hbm, ⟨32, _⟩ => ⟨S324x1, .i32⟩
  | .hbm, ⟨33, _⟩ => ⟨S324x3, .i32⟩
  | .hbm, ⟨34, _⟩ => ⟨S324x1x2048x512, .f32⟩
  | .hbm, ⟨35, _⟩ => ⟨S324x2048x512, .f32⟩
  | .hbm, ⟨36, _⟩ => ⟨S_, .i32⟩
  | .hbm, ⟨37, _⟩ => ⟨S324, .i32⟩
  | .hbm, ⟨38, _⟩ => ⟨S324, .i1⟩
  | .hbm, ⟨39, _⟩ => ⟨S_, .i32⟩
  | .hbm, ⟨40, _⟩ => ⟨S324, .i32⟩
  | .hbm, ⟨41, _⟩ => ⟨S324, .i32⟩
  | .hbm, ⟨42, _⟩ => ⟨S324, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S324x1, .i32⟩
  | .hbm, ⟨60, _⟩ => ⟨S324x1, .i32⟩
  | .hbm, ⟨61, _⟩ => ⟨S324x1, .i32⟩
  | .hbm, ⟨62, _⟩ => ⟨S324x3, .i32⟩
  | .hbm, ⟨63, _⟩ => ⟨S324x1x2048x512, .f32⟩
  | .hbm, ⟨64, _⟩ => ⟨S324x2048x512, .f32⟩
  | .hbm, ⟨65, _⟩ => ⟨S_, .i32⟩
  | .hbm, ⟨66, _⟩ => ⟨S324, .i32⟩
  | .hbm, ⟨67, _⟩ => ⟨S324, .i1⟩
  | .hbm, ⟨68, _⟩ => ⟨S_, .i32⟩
  | .hbm, ⟨69, _⟩ => ⟨S324, .i32⟩
  | .hbm, ⟨70, _⟩ => ⟨S324, .i32⟩
  | .hbm, ⟨71, _⟩ => ⟨S324, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S324x1, .i32⟩
  | .hbm, ⟨89, _⟩ => ⟨S324x1, .i32⟩
  | .hbm, ⟨90, _⟩ => ⟨S324x1, .i32⟩
  | .hbm, ⟨91, _⟩ => ⟨S324x3, .i32⟩
  | .hbm, ⟨92, _⟩ => ⟨S324x1x512x2048, .f32⟩
  | .hbm, ⟨93, _⟩ => ⟨S324x512x2048, .f32⟩
  | .hbm, ⟨94, _⟩ => ⟨S324x256x512, .f32⟩
  | .hbm, ⟨95, _⟩ => ⟨S324x256x512, .f32⟩
  | .hbm, ⟨96, _⟩ => ⟨S324x256x512, .f32⟩
  | .hbm, ⟨97, _⟩ => ⟨S_, .f32⟩
  | .hbm, ⟨98, _⟩ => ⟨S324x256x512, .f32⟩
  | .hbm, ⟨99, _⟩ => ⟨S324x256x512, .f32⟩
  | .hbm, ⟨100, _⟩ => ⟨S_, .f32⟩
  | .hbm, ⟨101, _⟩ => ⟨S324x256x512, .f32⟩
  | .hbm, ⟨102, _⟩ => ⟨S324x256x512, .f32⟩
  | .hbm, ⟨103, _⟩ => ⟨S324x256x512, .f32⟩
  | .hbm, ⟨104, _⟩ => ⟨S324x256x512, .f32⟩
  | .hbm, ⟨105, _⟩ => ⟨S324x256x512, .f32⟩
  | .hbm, ⟨106, _⟩ => ⟨S324x256x2048, .f32⟩
  | .hbm, ⟨107, _⟩ => ⟨S82944x2048, .f32⟩
  | _, _ => ⟨S82944x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_v7 : Ref sig .tc := ⟨.hbm, 19, rfl⟩
abbrev main_c_5 : Ref sig .tc := ⟨.hbm, 20, rfl⟩
abbrev main_v8 : Ref sig .tc := ⟨.hbm, 21, rfl⟩
abbrev main_c_6 : Ref sig .tc := ⟨.hbm, 22, rfl⟩
abbrev main_c_7 : Ref sig .tc := ⟨.hbm, 23, rfl⟩
abbrev main_v9 : Ref sig .tc := ⟨.hbm, 24, rfl⟩
abbrev main_c_8 : Ref sig .tc := ⟨.hbm, 25, rfl⟩
abbrev main_c_9 : Ref sig .tc := ⟨.hbm, 26, rfl⟩
abbrev main_v10 : Ref sig .tc := ⟨.hbm, 27, rfl⟩
abbrev main_c_10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_11 : Ref sig .tc := ⟨.hbm, 36, rfl⟩
abbrev main_v18 : Ref sig .tc := ⟨.hbm, 37, rfl⟩
abbrev main_v19 : Ref sig .tc := ⟨.hbm, 38, rfl⟩
abbrev main_c_12 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_13 : Ref sig .tc := ⟨.hbm, 43, rfl⟩
abbrev main_c_14 : Ref sig .tc := ⟨.hbm, 44, rfl⟩
abbrev main_v23 : Ref sig .tc := ⟨.hbm, 45, rfl⟩
abbrev main_c_15 : Ref sig .tc := ⟨.hbm, 46, rfl⟩
abbrev main_c_16 : Ref sig .tc := ⟨.hbm, 47, rfl⟩
abbrev main_v24 : Ref sig .tc := ⟨.hbm, 48, rfl⟩
abbrev main_c_17 : Ref sig .tc := ⟨.hbm, 49, rfl⟩
abbrev main_v25 : Ref sig .tc := ⟨.hbm, 50, rfl⟩
abbrev main_c_18 : Ref sig .tc := ⟨.hbm, 51, rfl⟩
abbrev main_c_19 : Ref sig .tc := ⟨.hbm, 52, rfl⟩
abbrev main_v26 : Ref sig .tc := ⟨.hbm, 53, rfl⟩
abbrev main_c_20 : Ref sig .tc := ⟨.hbm, 54, rfl⟩
abbrev main_c_21 : Ref sig .tc := ⟨.hbm, 55, rfl⟩
abbrev main_v27 : Ref sig .tc := ⟨.hbm, 56, rfl⟩
abbrev main_c_22 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_23 : Ref sig .tc := ⟨.hbm, 65, rfl⟩
abbrev main_v35 : Ref sig .tc := ⟨.hbm, 66, rfl⟩
abbrev main_v36 : Ref sig .tc := ⟨.hbm, 67, rfl⟩
abbrev main_c_24 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_25 : Ref sig .tc := ⟨.hbm, 72, rfl⟩
abbrev main_c_26 : Ref sig .tc := ⟨.hbm, 73, rfl⟩
abbrev main_v40 : Ref sig .tc := ⟨.hbm, 74, rfl⟩
abbrev main_c_27 : Ref sig .tc := ⟨.hbm, 75, rfl⟩
abbrev main_c_28 : Ref sig .tc := ⟨.hbm, 76, rfl⟩
abbrev main_v41 : Ref sig .tc := ⟨.hbm, 77, rfl⟩
abbrev main_c_29 : Ref sig .tc := ⟨.hbm, 78, rfl⟩
abbrev main_v42 : Ref sig .tc := ⟨.hbm, 79, rfl⟩
abbrev main_c_30 : Ref sig .tc := ⟨.hbm, 80, rfl⟩
abbrev main_c_31 : Ref sig .tc := ⟨.hbm, 81, rfl⟩
abbrev main_v43 : Ref sig .tc := ⟨.hbm, 82, rfl⟩
abbrev main_c_32 : Ref sig .tc := ⟨.hbm, 83, rfl⟩
abbrev main_c_33 : Ref sig .tc := ⟨.hbm, 84, rfl⟩
abbrev main_v44 : Ref sig .tc := ⟨.hbm, 85, rfl⟩
abbrev main_c_34 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩

abbrev nD : Nat := 1
abbrev τ : Topo := Topo.v7x

variable {F : FTy → Type} [FloatOps F]
-- ==== Kernel2.lean ====
abbrev S8320x2048 : Shape := ⟨2, ![8320, 2048]⟩
abbrev S2048x8208 : Shape := ⟨2, ![2048, 8208]⟩
abbrev S2048x8192 : Shape := ⟨2, ![2048, 8192]⟩
abbrev S8320x8192 : Shape := ⟨2, ![8320, 8192]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S2048x8192, .f32⟩
  | .hbm, ⟨3, _⟩ => ⟨S2048x8192, .bf16⟩
  | .hbm, ⟨4, _⟩ => ⟨S8320x8192, .f32⟩
  | .local _ .vmem, ⟨0, _⟩ => ⟨S640x2048, .f32⟩
  | .local _ .vmem, ⟨1, _⟩ => ⟨S640x2048, .f32⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8320x2048 : Shape := ⟨2, ![8320, 2048]⟩
abbrev S2048x8208 : Shape := ⟨2, ![2048, 8208]⟩
abbrev S8320x8208 : Shape := ⟨2, ![8320, 8208]⟩
abbrev S8320x8192 : Shape := ⟨2, ![8320, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S8320x8208, .f32⟩
  | .hbm, ⟨3, _⟩ => ⟨S8320x8192, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S8320x2048 : Shape := ⟨2, ![8320, 2048]⟩
abbrev S2048x2048 : Shape := ⟨2, ![2048, 2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩

abbrev nBuf : Space → Nat
  | .hbm => 7
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S8320x2048, .f32⟩
  | .local _ .vmem, ⟨0, _⟩ => ⟨S320x2048, .f32⟩
  | .local _ .vmem, ⟨1, _⟩ => ⟨S320x2048, .f32⟩
  | .local _ .vmem, ⟨2, _⟩ => ⟨S2048x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8320x2048 : Shape := ⟨2, ![8320, 2048]⟩
abbrev S2048x2048 : Shape := ⟨2, ![2048, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩

abbrev nBuf : Space → Nat
  | .hbm => 37
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320, .f32⟩
  | .hbm, ⟨21, _⟩ => ⟨S8320x1, .f32⟩
  | .hbm, ⟨22, _⟩ => ⟨S_, .f32⟩
  | .hbm, ⟨23, _⟩ => ⟨S8320x1, .f32⟩
  | .hbm, ⟨24, _⟩ => ⟨S8320x1, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S8320x2048, .f32⟩
  | .hbm, ⟨32, _⟩ => ⟨S8320x2048, .f32⟩
  | .hbm, ⟨33, _⟩ => ⟨S8320x2048, .f32⟩
  | .hbm, ⟨34, _⟩ => ⟨S8320x2048, .f32⟩
  | .hbm, ⟨35, _⟩ => ⟨S8320x2048, .f32⟩
  | .hbm, ⟨36, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel4.lean ====
abbrev S8320x2048 : Shape := ⟨2, ![8320, 2048]⟩
abbrev S32x128x4x64 : Shape := ⟨4, ![32, 128, 4, 64]⟩
abbrev S2048x2560 : Shape := ⟨2, ![2048, 2560]⟩
abbrev S8320x2560 : Shape := ⟨2, ![8320, 2560]⟩
abbrev S640x2048 : Shape := ⟨2, ![640, 2048]⟩
abbrev S2048x1280 : Shape := ⟨2, ![2048, 1280]⟩
abbrev S640x1280 : Shape := ⟨2, ![640, 1280]⟩
abbrev S128x2560 : Shape := ⟨2, ![128, 2560]⟩
abbrev S32x4x2560 : Shape := ⟨3, ![32, 4, 2560]⟩
abbrev S32x4x256 : Shape := ⟨3, ![32, 4, 256]⟩
abbrev S32x128x256 : Shape := ⟨3, ![32, 128, 256]⟩
abbrev S32x132x256 : Shape := ⟨3, ![32, 132, 256]⟩
abbrev S8192x2560 : Shape := ⟨2, ![8192, 2560]⟩
abbrev S2x4096x2560 : Shape := ⟨3, ![2, 4096, 2560]⟩
abbrev S2x128x2560 : Shape := ⟨3, ![2, 128, 2560]⟩
abbrev S2x128x256 : Shape := ⟨3, ![2, 128, 256]⟩
abbrev S2x128x4x64 : Shape := ⟨4, ![2, 128, 4, 64]⟩

abbrev nBuf : Space → Nat
  | .hbm => 25
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S32x128x4x64, .f32⟩
  | .hbm, ⟨2, _⟩ => ⟨S32x128x4x64, .f32⟩
  | .hbm, ⟨3, _⟩ => ⟨S2048x2560, .f32⟩
  | .hbm, ⟨4, _⟩ => ⟨S2048x2560, .bf16⟩
  | .hbm, ⟨5, _⟩ => ⟨S8320x2560, .f32⟩
  | .hbm, ⟨6, _⟩ => ⟨S128x2560, .f32⟩
  | .hbm, ⟨7, _⟩ => ⟨S32x4x2560, .f32⟩
  | .hbm, ⟨8, _⟩ => ⟨S32x4x256, .f32⟩
  | .hbm, ⟨9, _⟩ => ⟨S32x4x256, .f32⟩
  | .hbm, ⟨10, _⟩ => ⟨S32x128x256, .f32⟩
  | .hbm, ⟨11, _⟩ => ⟨S32x132x256, .f32⟩
  | .hbm, ⟨12, _⟩ => ⟨S32x128x256, .f32⟩
  | .hbm, ⟨13, _⟩ => ⟨S32x132x256, .f32⟩
  | .hbm, ⟨14, _⟩ => ⟨S8192x2560, .f32⟩
  | .hbm, ⟨15, _⟩ => ⟨S2x4096x2560, .f32⟩
  | .hbm, ⟨16, _⟩ => ⟨S2x128x2560, .f32⟩
  | .hbm, ⟨17, _⟩ => ⟨S2x128x256, .f32⟩
  | .hbm, ⟨18, _⟩ => ⟨S2x128x4x64, .f32⟩
  | .hbm, ⟨19, _⟩ => ⟨S2x128x256, .f32⟩
  | .hbm, ⟨20, _⟩ => ⟨S2x128x4x64, .f32⟩
  | .hbm, ⟨21, _⟩ => ⟨S32x128x256, .f32⟩
  | .hbm, ⟨22, _⟩ => ⟨S32x128x4x64, .f32⟩
  | .hbm, ⟨23, _⟩ => ⟨S32x128x256, .f32⟩
  | .hbm, ⟨24, _⟩ => ⟨S32x128x4x64, .f32⟩
  | .local _ .vmem, ⟨0, _⟩ => ⟨S640x2048, .f32⟩
  | .local _ .vmem, ⟨1, _⟩ => ⟨S640x2048, .f32⟩
  | .local _ .vmem, ⟨2, _⟩ => ⟨S2048x1280, .bf16⟩
  | .local _ .vmem, ⟨3, _⟩ => ⟨S2048x1280, .bf16⟩
  | .local _ .vmem, ⟨4, _⟩ => ⟨S640x1280, .f32⟩
  | .local _ .vmem, ⟨5, _⟩ => ⟨S640x1280, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x2048 : Shape := ⟨2, ![8320, 2048]⟩
abbrev S32x128x4x64 : Shape := ⟨4, ![32, 128, 4, 64]⟩
abbrev S2048x2560 : Shape := ⟨2, ![2048, 2560]⟩
abbrev S8320x2560 : Shape := ⟨2, ![8320, 2560]⟩
abbrev S_ : Shape := ⟨0, ![]⟩
abbrev S2x128x4x64 : Shape := ⟨4, ![2, 128, 4, 64]⟩
abbrev S8192x2560 : Shape := ⟨2, ![8192, 2560]⟩
abbrev S8192x256 : Shape := ⟨2, ![8192, 256]⟩
abbrev S2x4096x4x64 : Shape := ⟨4, ![2, 4096, 4, 64]⟩
abbrev S2x4224x4x64 : Shape := ⟨4, ![2, 4224, 4, 64]⟩
abbrev S128x2560 : Shape := ⟨2, ![128, 2560]⟩
abbrev S128x256 : Shape := ⟨2, ![128, 256]⟩
abbrev S32x4x4x64 : Shape := ⟨4, ![32, 4, 4, 64]⟩
abbrev S32x132x4x64 : Shape := ⟨4, ![32, 132, 4, 64]⟩

abbrev nBuf : Space → Nat
  | .hbm => 25
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S32x128x4x64, .f32⟩
  | .hbm, ⟨2, _⟩ => ⟨S32x128x4x64, .f32⟩
  | .hbm, ⟨3, _⟩ => ⟨S2048x2560, .f32⟩
  | .hbm, ⟨4, _⟩ => ⟨S8320x2560, .f32⟩
  | .hbm, ⟨5, _⟩ => ⟨S_, .f32⟩
  | .hbm, ⟨6, _⟩ => ⟨S2x128x4x64, .f32⟩
  | .hbm, ⟨7, _⟩ => ⟨S8192x2560, .f32⟩
  | .hbm, ⟨8, _⟩ => ⟨S8192x256, .f32⟩
  | .hbm, ⟨9, _⟩ => ⟨S2x4096x4x64, .f32⟩
  | .hbm, ⟨10, _⟩ => ⟨S8192x256, .f32⟩
  | .hbm, ⟨11, _⟩ => ⟨S2x4096x4x64, .f32⟩
  | .hbm, ⟨12, _⟩ => ⟨S2x4224x4x64, .f32⟩
  | .hbm, ⟨13, _⟩ => ⟨S2x4224x4x64, .f32⟩
  | .hbm, ⟨14, _⟩ => ⟨S2x128x4x64, .f32⟩
  | .hbm, ⟨15, _⟩ => ⟨S2x128x4x64, .f32⟩
  | .hbm, ⟨16, _⟩ => ⟨S128x2560, .f32⟩
  | .hbm, ⟨17, _⟩ => ⟨S128x256, .f32⟩
  | .hbm, ⟨18, _⟩ => ⟨S32x4x4x64, .f32⟩
  | .hbm, ⟨19, _⟩ => ⟨S128x256, .f32⟩
  | .hbm, ⟨20, _⟩ => ⟨S32x4x4x64, .f32⟩
  | .hbm, ⟨21, _⟩ => ⟨S32x132x4x64, .f32⟩
  | .hbm, ⟨22, _⟩ => ⟨S32x132x4x64, .f32⟩
  | .hbm, ⟨23, _⟩ => ⟨S32x128x4x64, .f32⟩
  | .hbm, ⟨24, _⟩ => ⟨S32x128x4x64, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel5.lean ====
abbrev S8320x2048 : Shape := ⟨2, ![8320, 2048]⟩
abbrev S82944x2048 : Shape := ⟨2, ![82944, 2048]⟩
abbrev S8320x8 : Shape := ⟨2, ![8320, 8]⟩
abbrev S2048x512 : Shape := ⟨2, ![2048, 512]⟩
abbrev S512x2048 : Shape := ⟨2, ![512, 2048]⟩
abbrev S1x2048 : Shape := ⟨2, ![1, 2048]⟩
abbrev S130x1x512 : Shape := ⟨3, ![130, 1, 512]⟩
abbrev S1x1x512 : Shape := ⟨3, ![1, 1, 512]⟩
abbrev S64x2048 : Shape := ⟨2, ![64, 2048]⟩
abbrev S64x8 : Shape := ⟨2, ![64, 8]⟩
abbrev S8x64x2048 : Shape := ⟨3, ![8, 64, 2048]⟩
abbrev S_ : Shape := ⟨0, ![]⟩
abbrev S1x1x1 : Shape := ⟨3, ![1, 1, 1]⟩
abbrev S1x1x2048 : Shape := ⟨3, ![1, 1, 2048]⟩
abbrev S64x512 : Shape := ⟨2, ![64, 512]⟩
abbrev S64x1 : Shape := ⟨2, ![64, 1]⟩
abbrev S1x64x2048 : Shape := ⟨3, ![1, 64, 2048]⟩
abbrev S64 : Shape := ⟨1, ![64]⟩

abbrev nBuf : Space → Nat
  | .hbm => 14
  | .vmem => 12
  | .smem => 2
  | _ => 0

abbrev bufTy : (tb : Table) → Fin (tcTables nBuf tb) → BufTy
  | .hbm, ⟨0, _⟩ => ⟨S8320x2048, .f32⟩
  | .hbm, ⟨1, _⟩ => ⟨S82944x2048, .f32⟩
  | .hbm, ⟨2, _⟩ => ⟨S8320x8, .i32⟩
  | .hbm, ⟨3, _⟩ => ⟨S8320x8, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S1x2048, .f32⟩
  | .hbm, ⟨8, _⟩ => ⟨S1x2048, .f32⟩
  | .hbm, ⟨9, _⟩ => ⟨S130x1x512, .i32⟩
  | .hbm, ⟨10, _⟩ => ⟨S2048x512, .bf16⟩
  | .hbm, ⟨11, _⟩ => ⟨S2048x512, .bf16⟩
  | .hbm, ⟨12, _⟩ => ⟨S512x2048, .bf16⟩
  | .hbm, ⟨13, _⟩ => ⟨S8320x2048, .f32⟩
  | .local _ .vmem, ⟨0, _⟩ => ⟨S64x2048, .f32⟩
  | .local _ .vmem, ⟨1, _⟩ => ⟨S64x2048, .f32⟩
  | .local _ .vmem, ⟨2, _⟩ => ⟨S64x8, .f32⟩
  | .local _ .vmem, ⟨3, _⟩ => ⟨S64x8, .f32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S64x2048, .f32⟩
  | .local _ .vmem, ⟨10, _⟩ => ⟨S64x2048, .f32⟩
  | .local _ .vmem, ⟨11, _⟩ => ⟨S8x64x2048, .f32⟩
  | .local _ .smem, ⟨0, _⟩ => ⟨S1x1x512, .i32⟩
  | .local _ .smem, ⟨1, _⟩ => ⟨S1x1x512, .i32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![130], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0_44 : Index := 0#32
  let c0_45 : Index := 0#32
  let c0_i32 : BitVec 32 := 0#32
  let c1_i32 : BitVec 32 := 1#32
  let arg13 : BitVec 32 := Scf.iv c0_i32 c1_i32 k0_t1
  let v92 : Index := Scalar.indexCast arg13
  ![0, 0, v92.toNat]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let c8_i32 : BitVec 32 := 8#32
  let c0_i32_46 : BitVec 32 := 0#32
  let v94 : BitVec 1 := Scalar.cmpi .eq c8_i32 c0_i32_46
  let c1_i32_47 : BitVec 32 := 1#32
  let v95 : BitVec 32 := Scalar.select v94 c1_i32_47 c8_i32
  let v96 : BitVec 32 := Scalar.remsi arg13 v95
  let c0_i32_49 : BitVec 32 := 0#32
  let v98 : BitVec 1 := Scalar.cmpi .slt v96 c0_i32_49
  let c0_i32_50 : BitVec 32 := 0#32
  let v99 : BitVec 1 := Scalar.cmpi .slt v95 c0_i32_50
  let v100 : BitVec 1 := Scalar.xori v98 v99
  let c0_i32_48 : BitVec 32 := 0#32
  let v97 : BitVec 1 := Scalar.cmpi .ne v96 c0_i32_48
  let v101 : BitVec 1 := Scalar.andi v100 v97
  let v102 : BitVec 32 := Scalar.addi v96 v95
  let v103 : BitVec 32 := Scalar.select v101 v102 v96
  let c0_i32_52 : BitVec 32 := 0#32
  let v105 : BitVec 1 := Scalar.cmpi .sgt arg13 c0_i32_52
  let v106 : BitVec 32 := Scalar.extui v105
  let c0_i32_53 : BitVec 32 := 0#32
  let v107 : BitVec 1 := Scalar.cmpi .slt arg13 c0_i32_53
  let v108 : BitVec 32 := Scalar.extui v107
  let v109 : BitVec 32 := Scalar.subi v106 v108
  let c8_i32_51 : BitVec 32 := 8#32
  let c0_i32_54 : BitVec 32 := 0#32
  let v110 : BitVec 1 := Scalar.cmpi .sgt c8_i32_51 c0_i32_54
  let v111 : BitVec 32 := Scalar.extui v110
  let c0_i32_55 : BitVec 32 := 0#32
  let v112 : BitVec 1 := Scalar.cmpi .slt c8_i32_51 c0_i32_55
  let v113 : BitVec 32 := Scalar.extui v112
  let v114 : BitVec 32 := Scalar.subi v111 v113
  let v115 : BitVec 1 := Scalar.cmpi .ne v109 v114
  let v116 : BitVec 32 := Scalar.remsi arg13 c8_i32_51
  let c0_i32_56 : BitVec 32 := 0#32
  let v117 : BitVec 1 := Scalar.cmpi .ne v116 c0_i32_56
  let v118 : BitVec 1 := Scalar.andi v115 v117
  let v104 : BitVec 32 := Scalar.divsi arg13 c8_i32_51
  let c1_i32_57 : BitVec 32 := 1#32
  let v119 : BitVec 32 := Scalar.subi v104 c1_i32_57
  let v120 : BitVec 32 := Scalar.select v118 v119 v104
  let c0_i32_58 : BitVec 32 := 0#32
  ![v103.toNat, v120.toNat, 0]
def k0_off3 (v93 : BitVec 32) : Fin 2 → Nat :=
  let c0_i32_59 : BitVec 32 := 0#32
  ![v93.toNat, 0]

def k0_chk1 (v93 : BitVec 32) : Prop :=
  (∀ a, (k0_off3 v93) a + S1x2048.size a ≤ S82944x2048.size a)
theorem k0_off3_inb : ∀ (v93 : BitVec 32) (k0_hw1 : k0_chk1 v93), ∀ a, (k0_off3 v93) a + S1x2048.size a ≤ S82944x2048.size a := fun v93 k0_hw1 => k0_hw1

@[reducible] def k0_t2_loop : Scf.Loop 32 :=
  let c0_i32_10 : BitVec 32 := 0#32
  let c512_i32_11 : BitVec 32 := 512#32
  let v16 : BitVec 32 := Scalar.addi c0_i32_10 c512_i32_11
  let c1_i32_12 : BitVec 32 := 1#32
  ⟨c0_i32_10, v16, c1_i32_12⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8320x2048 : Shape := ⟨2, ![8320, 2048]⟩
abbrev S82944x2048 : Shape := ⟨2, ![82944, 2048]⟩
abbrev S8320x8 : Shape := ⟨2, ![8320, 8]⟩
abbrev S2048x512 : Shape := ⟨2, ![2048, 512]⟩
abbrev S512x2048 : Shape := ⟨2, ![512, 2048]⟩
abbrev S1x2048 : Shape := ⟨2, ![1, 2048]⟩
abbrev S8320x1 : Shape := ⟨2, ![8320, 1]⟩
abbrev S8320 : Shape := ⟨1, ![8320]⟩
abbrev S_ : Shape := ⟨0, ![]⟩
abbrev S8320x512 : Shape := ⟨2, ![8320, 512]⟩

abbrev nBuf : Space → Nat
  | .hbm => 173
  | .vmem => 0
  | .smem => 0
  | _ => 0

abbrev hbmTy0_0 (i : Nat) : BufTy := match i % 128 with
  | 0 => ⟨S8320x2048, .f32⟩
  | 1 => ⟨S82944x2048, .f32⟩
  | 2 => ⟨S8320x8, .i32⟩
  | 3 => ⟨S8320x8, .f32⟩
  | 4 => ⟨S2048x512, .f32⟩
  | 5 => ⟨S2048x512, .f32⟩
  | 6 => ⟨S512x2048, .f32⟩
  | 7 => ⟨S1x2048, .f32⟩
  | 8 => ⟨S1x2048, .f32⟩
  | 9 => ⟨S8320x1, .f32⟩
  | 10 => ⟨S8320x1, .i32⟩
  | 11 => ⟨S8320, .i32⟩
  | 12 => ⟨S_, .i32⟩
  | 13 => ⟨S8320, .i32⟩
  | 14 => ⟨S8320, .i1⟩
  | 15 => ⟨S_, .i32⟩
  | 16 => ⟨S8320, .i32⟩
  | 17 => ⟨S8320, .i32⟩
  | 18 => ⟨S8320, .i32⟩
  | 19 => ⟨S8320x1, .i32⟩
  | 20 => ⟨S8320x2048, .f32⟩
  | 21 => ⟨S8320x2048, .f32⟩
  | 22 => ⟨S8320x2048, .f32⟩
  | 23 => ⟨S8320x1, .f32⟩
  | 24 => ⟨S8320x1, .i32⟩
  | 25 => ⟨S8320, .i32⟩
  | 26 => ⟨S_, .i32⟩
  | 27 => ⟨S8320, .i32⟩
  | 28 => ⟨S8320, .i1⟩
  | 29 => ⟨S_, .i32⟩
  | 30 => ⟨S8320, .i32⟩
  | 31 => ⟨S8320, .i32⟩
  | 32 => ⟨S8320, .i32⟩
  | 33 => ⟨S8320x1, .i32⟩
  | 34 => ⟨S8320x2048, .f32⟩
  | 35 => ⟨S8320x2048, .f32⟩
  | 36 => ⟨S8320x2048, .f32⟩
  | 37 => ⟨S8320x2048, .f32⟩
  | 38 => ⟨S8320x1, .f32⟩
  | 39 => ⟨S8320x1, .i32⟩
  | 40 => ⟨S8320, .i32⟩
  | 41 => ⟨S_, .i32⟩
  | 42 => ⟨S8320, .i32⟩
  | 43 => ⟨S8320, .i1⟩
  | 44 => ⟨S_, .i32⟩
  | 45 => ⟨S8320, .i32⟩
  | 46 => ⟨S8320, .i32⟩
  | 47 => ⟨S8320, .i32⟩
  | 48 => ⟨S8320x1, .i32⟩
  | 49 => ⟨S8320x2048, .f32⟩
  | 50 => ⟨S8320x2048, .f32⟩
  | 51 => ⟨S8320x2048, .f32⟩
  | 52 => ⟨S8320x2048, .f32⟩
  | 53 => ⟨S8320x1, .f32⟩
  | 54 => ⟨S8320x1, .i32⟩
  | 55 => ⟨S8320, .i32⟩
  | 56 => ⟨S_, .i32⟩
  | 57 => ⟨S8320, .i32⟩
  | 58 => ⟨S8320, .i1⟩
  | 59 => ⟨S_, .i32⟩
  | 60 => ⟨S8320, .i32⟩
  | 61 => ⟨S8320, .i32⟩
  | 62 => ⟨S8320, .i32⟩
  | 63 => ⟨S8320x1, .i32⟩
  | 64 => ⟨S8320x2048, .f32⟩
  | 65 => ⟨S8320x2048, .f32⟩
  | 66 => ⟨S8320x2048, .f32⟩
  | 67 => ⟨S8320x2048, .f32⟩
  | 68 => ⟨S8320x1, .f32⟩
  | 69 => ⟨S8320x1, .i32⟩
  | 70 => ⟨S8320, .i32⟩
  | 71 => ⟨S_, .i32⟩
  | 72 => ⟨S8320, .i32⟩
  | 73 => ⟨S8320, .i1⟩
  | 74 => ⟨S_, .i32⟩
  | 75 => ⟨S8320, .i32⟩
  | 76 => ⟨S8320, .i32⟩
  | 77 => ⟨S8320, .i32⟩
  | 78 => ⟨S8320x1, .i32⟩
  | 79 => ⟨S8320x2048, .f32⟩
  | 80 => ⟨S8320x2048, .f32⟩
  | 81 => ⟨S8320x2048, .f32⟩
  | 82 => ⟨S8320x2048, .f32⟩
  | 83 => ⟨S8320x1, .f32⟩
  | 84 => ⟨S8320x1, .i32⟩
  | 85 => ⟨S8320, .i32⟩
  | 86 => ⟨S_, .i32⟩
  | 87 => ⟨S8320, .i32⟩
  | 88 => ⟨S8320, .i1⟩
  | 89 => ⟨S_, .i32⟩
  | 90 => ⟨S8320, .i32⟩
  | 91 => ⟨S8320, .i32⟩
  | 92 => ⟨S8320, .i32⟩
  | 93 => ⟨S8320x1, .i32⟩
  | 94 => ⟨S8320x2048, .f32⟩
  | 95 => ⟨S8320x2048, .f32⟩
  | 96 => ⟨S8320x2048, .f32⟩
  | 97 => ⟨S8320x2048, .f32⟩
  | 98 => ⟨S8320x1, .f32⟩
  | 99 => ⟨S8320x1, .i32⟩
  | 100 => ⟨S8320, .i32⟩
  | 101 => ⟨S_, .i32⟩
  | 102 => ⟨S8320, .i32⟩
  | 103 => ⟨S8320, .i1⟩
  | 104 => ⟨S_, .i32⟩
  | 105 => ⟨S8320, .i32⟩
  | 106 => ⟨S8320, .i32⟩
  | 107 => ⟨S8320, .i32⟩
  | 108 => ⟨S8320x1, .i32⟩
  | 109 => ⟨S8320x2048, .f32⟩
  | 110 => ⟨S8320x2048, .f32⟩
  | 111 => ⟨S8320x2048, .f32⟩
  | 112 => ⟨S8320x2048, .f32⟩
  | 113 => ⟨S8320x1, .f32⟩
  | 114 => ⟨S8320x1, .i32⟩
  | 115 => ⟨S8320, .i32⟩
  | 116 => ⟨S_, .i32⟩
  | 117 => ⟨S8320, .i32⟩
  | 118 => ⟨S8320, .i1⟩
  | 119 => ⟨S_, .i32⟩
  | 120 => ⟨S8320, .i32⟩
  | 121 => ⟨S8320, .i32⟩
  | 122 => ⟨S8320, .i32⟩
  | 123 => ⟨S8320x1, .i32⟩
  | 124 => ⟨S8320x2048, .f32⟩
  | 125 => ⟨S8320x2048, .f32⟩
  | 126 => ⟨S8320x2048, .f32⟩
  | 127 => ⟨S8320x2048, .f32⟩
  | _ => ⟨S8320x2048, .f32⟩

abbrev hbmTy0_1 (i : Nat) : BufTy := match i % 128 with
  | 0 => ⟨S8320x512, .f32⟩
  | 1 => ⟨S8320x512, .f32⟩
  | 2 => ⟨S8320x512, .f32⟩
  | 3 => ⟨S_, .f32⟩
  | 4 => ⟨S8320x512, .f32⟩
  | 5 => ⟨S8320x512, .f32⟩
  | 6 => ⟨S_, .f32⟩
  | 7 => ⟨S8320x512, .f32⟩
  | 8 => ⟨S8320x512, .f32⟩
  | 9 => ⟨S8320x512, .f32⟩
  | 10 => ⟨S8320x512, .f32⟩
  | 11 => ⟨S8320x512, .f32⟩
  | 12 => ⟨S8320x2048, .f32⟩
  | 13 => ⟨S_, .f32⟩
  | 14 => ⟨S8320x2048, .f32⟩
  | 15 => ⟨S8320x2048, .f32⟩
  | 16 => ⟨S8320x2048, .f32⟩
  | 17 => ⟨S8320x2048, .f32⟩
  | 18 => ⟨S_, .f32⟩
  | 19 => ⟨S8320, .f32⟩
  | 20 => ⟨S8320x1, .f32⟩
  | 21 => ⟨S_, .f32⟩
  | 22 => ⟨S8320x1, .f32⟩
  | 23 => ⟨S8320x1, .f32⟩
  | 24 => ⟨S8320x2048, .f32⟩
  | 25 => ⟨S8320x2048, .f32⟩
  | 26 => ⟨S8320x2048, .f32⟩
  | 27 => ⟨S_, .f32⟩
  | 28 => ⟨S8320, .f32⟩
  | 29 => ⟨S8320x1, .f32⟩
  | 30 => ⟨S_, .f32⟩
  | 31 => ⟨S8320x1, .f32⟩
  | 32 => ⟨S8320x1, .f32⟩
  | 33 => ⟨S8320x2048, .f32⟩
  | 34 => ⟨S8320x2048, .f32⟩
  | 35 => ⟨S_, .f32⟩
  | 36 => ⟨S8320x1, .f32⟩
  | 37 => ⟨S8320x1, .f32⟩
  | 38 => ⟨S8320x1, .f32⟩
  | 39 => ⟨S8320x2048, .f32⟩
  | 40 => ⟨S8320x2048, .f32⟩
  | 41 => ⟨S8320x2048, .f32⟩
  | 42 => ⟨S8320x2048, .f32⟩
  | 43 => ⟨S8320x2048, .f32⟩
  | 44 => ⟨S8320x2048, .f32⟩
  | _ => ⟨S8320x2048, .f32⟩

abbrev hbmTy (i : Nat) : BufTy := match i / 128 with
  | 0 => hbmTy0_0 i
  | 1 => hbmTy0_1 i
  | _ => ⟨S8320x2048, .f32⟩

abbrev bufTy : (tb : Table) → Fin (tcTables nBuf tb) → BufTy
  | .hbm, ⟨i, _⟩ => hbmTy i
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_9 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_11 : Ref sig .tc := ⟨.hbm, 101, rfl⟩
abbrev main_v80 : Ref sig .tc := ⟨.hbm, 102, rfl⟩
abbrev main_v81 : Ref sig .tc := ⟨.hbm, 103, rfl⟩
abbrev main_c_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_13 : Ref sig .tc := ⟨.hbm, 116, rfl⟩
abbrev main_v93 : Ref sig .tc := ⟨.hbm, 117, rfl⟩
abbrev main_v94 : Ref sig .tc := ⟨.hbm, 118, rfl⟩
abbrev main_c_14 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst : Ref sig .tc := ⟨.hbm, 131, rfl⟩
abbrev main_v106 : Ref sig .tc := ⟨.hbm, 132, rfl⟩
abbrev main_v107 : Ref sig .tc := ⟨.hbm, 133, rfl⟩
abbrev main_cst_15 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_16 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_17 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_19 : Ref sig .tc := ⟨.hbm, 155, rfl⟩
abbrev main_v125 : Ref sig .tc := ⟨.hbm, 156, rfl⟩
abbrev main_v126 : Ref sig .tc := ⟨.hbm, 157, rfl⟩
abbrev main_cst_20 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩

abbrev nD : Nat := 1
abbrev τ : Topo := Topo.v7x

variable {F : FTy → Type} [FloatOps F]
-- ==== Kernel6.lean ====
abbrev S8320x2048 : Shape := ⟨2, ![8320, 2048]⟩
abbrev S4x512x512 : Shape := ⟨3, ![4, 512, 512]⟩
abbrev S1x2048 : Shape := ⟨2, ![1, 2048]⟩
abbrev S512x2048 : Shape := ⟨2, ![512, 2048]⟩
abbrev S16x2048 : Shape := ⟨2, ![16, 2048]⟩
abbrev S528x2048 : Shape := ⟨2, ![528, 2048]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S4x512x512, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4x512x512, .bf16⟩
  | .hbm, ⟨6, _⟩ => ⟨S8320x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S4x512x512, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S528x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8320x2048 : Shape := ⟨2, ![8320, 2048]⟩
abbrev S4x512x512 : Shape := ⟨3, ![4, 512, 512]⟩
abbrev S1x2048 : Shape := ⟨2, ![1, 2048]⟩
abbrev S8192x2048 : Shape := ⟨2, ![8192, 2048]⟩
abbrev S2x4096x2048 : Shape := ⟨3, ![2, 4096, 2048]⟩
abbrev S_ : Shape := ⟨0, ![]⟩
abbrev S2x15x2048 : Shape := ⟨3, ![2, 15, 2048]⟩
abbrev S2x4111x2048 : Shape := ⟨3, ![2, 4111, 2048]⟩
abbrev S4096 : Shape := ⟨1, ![4096]⟩
abbrev S1x4096x1 : Shape := ⟨3, ![1, 4096, 1]⟩
abbrev S2x4110x2048 : Shape := ⟨3, ![2, 4110, 2048]⟩
abbrev S2x4096x512 : Shape := ⟨3, ![2, 4096, 512]⟩
abbrev S1x512x512 : Shape := ⟨3, ![1, 512, 512]⟩
abbrev S512x512 : Shape := ⟨2, ![512, 512]⟩
abbrev S2x4108x2048 : Shape := ⟨3, ![2, 4108, 2048]⟩
abbrev S2x4104x2048 : Shape := ⟨3, ![2, 4104, 2048]⟩
abbrev S1x1x2048 : Shape := ⟨3, ![1, 1, 2048]⟩
abbrev S8192 : Shape := ⟨1, ![8192]⟩
abbrev S8192x1 : Shape := ⟨2, ![8192, 1]⟩
abbrev S128x2048 : Shape := ⟨2, ![128, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S4x512x512, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2x4096x2048, .f32⟩
  | .hbm, ⟨7, _⟩ => ⟨S_, .f32⟩
  | .hbm, ⟨8, _⟩ => ⟨S2x15x2048, .f32⟩
  | .hbm, ⟨9, _⟩ => ⟨S2x4111x2048, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S1x4096x1, .i32⟩
  | .hbm, ⟨15, _⟩ => ⟨S2x4110x2048, .f32⟩
  | .hbm, ⟨16, _⟩ => ⟨S2x4110x2048, .f32⟩
  | .hbm, ⟨17, _⟩ => ⟨S2x4110x2048, .f32⟩
  | .hbm, ⟨18, _⟩ => ⟨S2x4096x512, .f32⟩
  | .hbm, ⟨19, _⟩ => ⟨S_, .i32⟩
  | .hbm, ⟨20, _⟩ => ⟨S1x4096x1, .i32⟩
  | .hbm, ⟨21, _⟩ => ⟨S1x4096x1, .i32⟩
  | .hbm, ⟨22, _⟩ => ⟨S1x4096x1, .f32⟩
  | .hbm, ⟨23, _⟩ => ⟨S2x4096x512, .f32⟩
  | .hbm, ⟨24, _⟩ => ⟨S2x4096x512, .f32⟩
  | .hbm, ⟨25, _⟩ => ⟨S2x4096x512, .f32⟩
  | .hbm, ⟨26, _⟩ => ⟨S2x4096x512, .f32⟩
  | .hbm, ⟨27, _⟩ => ⟨S1x512x512, .f32⟩
  | .hbm, ⟨28, _⟩ => ⟨S512x512, .f32⟩
  | .hbm, ⟨29, _⟩ => ⟨S2x4096x512, .f32⟩
  | .hbm, ⟨30, _⟩ => ⟨S2x4108x2048, .f32⟩
  | .hbm, ⟨31, _⟩ => ⟨S2x4108x2048, .f32⟩
  | .hbm, ⟨32, _⟩ => ⟨S2x4108x2048, .f32⟩
  | .hbm, ⟨33, _⟩ => ⟨S2x4096x512, .f32⟩
  | .hbm, ⟨34, _⟩ => ⟨S_, .i32⟩
  | .hbm, ⟨35, _⟩ => ⟨S1x4096x1, .i32⟩
  | .hbm, ⟨36, _⟩ => ⟨S1x4096x1, .i32⟩
  | .hbm, ⟨37, _⟩ => ⟨S1x4096x1, .f32⟩
  | .hbm, ⟨38, _⟩ => ⟨S2x4096x512, .f32⟩
  | .hbm, ⟨39, _⟩ => ⟨S2x4096x512, .f32⟩
  | .hbm, ⟨40, _⟩ => ⟨S2x4096x512, .f32⟩
  | .hbm, ⟨41, _⟩ => ⟨S2x4096x512, .f32⟩
  | .hbm, ⟨42, _⟩ => ⟨S1x512x512, .f32⟩
  | .hbm, ⟨43, _⟩ => ⟨S512x512, .f32⟩
  | .hbm, ⟨44, _⟩ => ⟨S2x4096x512, .f32⟩
  | .hbm, ⟨45, _⟩ => ⟨S2x4104x2048, .f32⟩
  | .hbm, ⟨46, _⟩ => ⟨S2x4104x2048, .f32⟩
  | .hbm, ⟨47, _⟩ => ⟨S2x4104x2048, .f32⟩
  | .hbm, ⟨48, _⟩ => ⟨S2x4096x512, .f32⟩
  | .hbm, ⟨49, _⟩ => ⟨S_, .i32⟩
  | .hbm, ⟨50, _⟩ => ⟨S1x4096x1, .i32⟩
  | .hbm, ⟨51, _⟩ => ⟨S1x4096x1, .i32⟩
  | .hbm, ⟨52, _⟩ => ⟨S1x4096x1, .f32⟩
  | .hbm, ⟨53, _⟩ => ⟨S2x4096x512, .f32⟩
  | .hbm, ⟨54, _⟩ => ⟨S2x4096x512, .f32⟩
  | .hbm, ⟨55, _⟩ => ⟨S2x4096x512, .f32⟩
  | .hbm, ⟨56, _⟩ => ⟨S2x4096x512, .f32⟩
  | .hbm, ⟨57, _⟩ => ⟨S1x512x512, .f32⟩
  | .hbm, ⟨58, _⟩ => ⟨S512x512, .f32⟩
  | .hbm, ⟨59, _⟩ => ⟨S2x4096x512, .f32⟩
  | .hbm, ⟨60, _⟩ => ⟨S2x4096x2048, .f32⟩
  | .hbm, ⟨61, _⟩ => ⟨S2x4096x2048, .f32⟩
  | .hbm, ⟨62, _⟩ => ⟨S2x4096x2048, .f32⟩
  | .hbm, ⟨63, _⟩ => ⟨S2x4096x512, .f32⟩
  | .hbm, ⟨64, _⟩ => ⟨S_, .i32⟩
  | .hbm, ⟨65, _⟩ => ⟨S1x4096x1, .i32⟩
  | .hbm, ⟨66, _⟩ => ⟨S1x4096x1, .i32⟩
  | .hbm, ⟨67, _⟩ => ⟨S1x4096x1, .f32⟩
  | .hbm, ⟨68, _⟩ => ⟨S2x4096x512, .f32⟩
  | .hbm, ⟨69, _⟩ => ⟨S2x4096x512, .f32⟩
  | .hbm, ⟨70, _⟩ => ⟨S2x4096x512, .f32⟩
  | .hbm, ⟨71, _⟩ => ⟨S2x4096x512, .f32⟩
  | .hbm, ⟨72, _⟩ => ⟨S1x512x512, .f32⟩
  | .hbm, ⟨73, _⟩ => ⟨S512x512, .f32⟩
  | .hbm, ⟨74, _⟩ => ⟨S2x4096x512, .f32⟩
  | .hbm, ⟨75, _⟩ => ⟨S2x4096x2048, .f32⟩
  | .hbm, ⟨76, _⟩ => ⟨S1x1x2048, .f32⟩
  | .hbm, ⟨77, _⟩ => ⟨S2x4096x2048, .f32⟩
  | .hbm, ⟨78, _⟩ => ⟨S2x4096x2048, .f32⟩
  | .hbm, ⟨79, _⟩ => ⟨S_, .f32⟩
  | .hbm, ⟨80, _⟩ => ⟨S2x4096x2048, .f32⟩
  | .hbm, ⟨81, _⟩ => ⟨S2x4096x2048, .f32⟩
  | .hbm, ⟨82, _⟩ => ⟨S2x4096x2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S8192x1, .f32⟩
  | .hbm, ⟨105, _⟩ => ⟨S8192x2048, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S_, .f32⟩
  | .hbm, ⟨112, _⟩ => ⟨S128x2048, .f32⟩
  | .hbm, ⟨113, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_3 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_9 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_10 : Ref sig .tc := ⟨.hbm, 111, rfl⟩
abbrev main_v94 : Ref sig .tc := ⟨.hbm, 112, rfl⟩
abbrev main_v95 : Ref sig .tc := ⟨.hbm, 113, rfl⟩

abbrev nD : Nat := 1
abbrev τ : Topo := Topo.v7x

variable {F : FTy → Type} [FloatOps F]
-- ==== Proof.Words.lean ====
/- Facts about 32-bit words and about the two tables the kernel prefetches: what the precondition says of their entries. -/
module

public import proofs.«01_k».proof.Defs
public import proofs.«01_k».proof.Proof.Gen.Pre_in_range
public import Idealize.ShloMosaic.Lib.StableHlo.Predicate
public import Idealize.ShloMosaic.Lib.WordArith
public import Idealize.ShloMosaic.Lib.ReduceAll

@[expose] public section

set_option maxRecDepth 16384

noncomputable section

namespace Experts

open Idealize.ShloMosaic

/-- A block table index, by its number. -/
abbrev at324 (k : Fin 324) : (⟨1, ![324]⟩ : Shape).Idx := Shape.Idx.ofFin k

/-- What the two tables hold when the routing made them: every block's expert exists, and between one and all of the
    blocks are used. -/
structure Tabs (be : (⟨1, ![324]⟩ : Shape).Idx → BitVec 32) (nu : (⟨1, ![1]⟩ : Shape).Idx → BitVec 32) : Prop where
  be_lt : ∀ x, (be x).toNat < 64
  nu_pos : ∀ x, 1 ≤ (nu x).toNat
  nu_le : ∀ x, (nu x).toNat ≤ 324

/-- The number of used blocks. -/
def used (nu : (⟨1, ![1]⟩ : Shape).Idx → BitVec 32) : ℕ := (nu (Shape.Idx.ofFin 0)).toNat

theorem used_eq (nu : (⟨1, ![1]⟩ : Shape).Idx → BitVec 32) (x : (⟨1, ![1]⟩ : Shape).Idx) : (nu x).toNat = used nu := by
  unfold used; congr 2; funext a; match a with | ⟨0, _⟩ => exact Subsingleton.elim (α := Fin 1) _ _

/-- A grid number as a word. -/
theorem toNat_grid (k : Fin 324) : (BitVec.ofNat 32 k.val).toNat = k.val := by
  rw [BitVec.toNat_ofNat]; exact Nat.mod_eq_of_lt (by omega)

/-- The smaller of a grid number and the last used block, computed in words. -/
theorem toNat_min_last (k : Fin 324) (n : BitVec 32) (h1 : 1 ≤ n.toNat) (h2 : n.toNat ≤ 324) :
    (Scalar.minsi (BitVec.ofNat 32 k.val) (Scalar.subi n 1#32)).toNat = min k.val (n.toNat - 1) := by
  have hs : (Scalar.subi n 1#32).toNat = n.toNat - 1 := by
    show (n - 1#32).toNat = _
    rw [BitVec.toNat_sub]; simp only [BitVec.toNat_ofNat]; omega
  have hk := toNat_grid k
  have h := k.isLt
  rw [show Scalar.minsi (BitVec.ofNat 32 k.val) (Scalar.subi n 1#32) = IntOp.minsi (BitVec.ofNat 32 k.val) (Scalar.subi n 1#32) from rfl,
    WordArith.toNat_minsi_of_lt _ _ (by omega) (by omega), hk, hs]

/-- The previous grid number, zero at the first point, computed in words. -/
theorem toNat_prev (k : Fin 324) :
    (Scalar.maxsi (Scalar.subi (BitVec.ofNat 32 k.val) 1#32) 0#32).toNat = k.val - 1 := by
  revert k; decide +kernel

/-- Whether a grid number is below the number of used blocks, computed in words. -/
theorem slt_grid (k : Fin 324) (n : BitVec 32) (h2 : n.toNat ≤ 324) :
    Scalar.cmpi .slt (BitVec.ofNat 32 k.val) n = 1#1 ↔ k.val < n.toNat := by
  have hk := toNat_grid k
  have h := k.isLt
  have e := StableHlo.Predicate.slt_iff_toNat (a := BitVec.ofNat 32 k.val) (b := n) (by omega) (by omega)
  rw [hk] at e; exact e

/-- A truth value widened to a word is nonzero exactly when it is true. -/
theorem ne_extui (b : BitVec 1) : Scalar.cmpi .ne (Scalar.extui b : BitVec 32) 0#32 = 1#1 ↔ b = 1#1 := by
  revert b; decide

/-- The precondition, decoded: the tables are what the routing makes them. -/
theorem tabs_of_pre {F : FTy → Type} [FloatOps F] (a0) (be : IVec Cert.Pre_in_range.S324 32) (nu : IVec Cert.Pre_in_range.S1 32) (a3 a4 a5)
    (h : haveI := Cert.Pre_in_range.Gen.facts; Cert.Pre_in_range.fn (F := F) a0 be nu a3 a4 a5 = fun _ => 1#1) : Tabs be nu := by
  have e := congrFun h (fun a => a.elim0)
  simp only [Cert.Pre_in_range.fn, andi] at e
  have two : ∀ p q : BitVec 1, IntOp.andi p q = 1#1 → p = 1#1 ∧ q = 1#1 := by decide
  haveI : Subsingleton Cert.Pre_in_range.S_.Idx := ⟨fun a b => funext fun z => z.elim0⟩
  obtain ⟨e, e4⟩ := two _ _ e
  obtain ⟨e, e3⟩ := two _ _ e
  obtain ⟨e1, e2⟩ := two _ _ e
  have one := fun b => (StableHlo.Predicate.ofBool_eq_one_iff b).mp
  have f1 : ∀ x, (0 : ℤ) ≤ (be x).toInt := fun x => of_decide_eq_true (one _ (Host.reduce_andi_all _ _ _ _ _ e1 x))
  have f2 : ∀ x, (be x).toInt < (64 : ℤ) := fun x => of_decide_eq_true (one _ (Host.reduce_andi_all _ _ _ _ _ e2 x))
  have f3 : ∀ x, (1 : ℤ) ≤ (nu x).toInt := fun x => of_decide_eq_true (one _ (Host.reduce_andi_all _ _ _ _ _ e3 x))
  have f4 : ∀ x, (nu x).toInt ≤ (324 : ℤ) := fun x => of_decide_eq_true (one _ (Host.reduce_andi_all _ _ _ _ _ e4 x))
  refine ⟨fun x => ?_, fun x => ?_, fun x => ?_⟩
  · have := f1 x; have := f2 x; have c := BitVec.toInt_eq_toNat_cond (be x); split at c <;> omega
  · have := f3 x; have := f4 x; have c := BitVec.toInt_eq_toNat_cond (nu x); split at c <;> omega
  · have := f3 x; have := f4 x; have c := BitVec.toInt_eq_toNat_cond (nu x); split at c <;> omega

end Experts

end
-- ==== Proof.BitsRuns.lean ====
/- What the body leaves on its three paths, as the body's own arithmetic of what it finds: the three weight copies and the
   block of results. -/
module

public import proofs.«01_k».proof.Proof.BitsTables
public import Idealize.ShloMosaic.Lib.VecWindow

@[expose] public section

set_option maxRecDepth 16384

noncomputable section

namespace Cert.Kernel.Exp

open Cert.Kernel Cert.Kernel.Gen Experts
open Idealize.ShloMosaic
open Idealize.ShloMosaic.TcCoe

/-- The gate weights as the body keeps them. -/
abbrev gateCopy (x : S1x2048x512.Idx → Elt Bits .f32) : S2048x512.Idx → Elt Bits .bf16 := k0_pay1 (F := Bits) x
/-- The up weights as the body keeps them. -/
abbrev upCopy (x : S1x2048x512.Idx → Elt Bits .f32) : S2048x512.Idx → Elt Bits .bf16 := k0_pay2 (F := Bits) x
/-- The down weights as the body keeps them. -/
abbrev downCopy (x : S1x512x2048.Idx → Elt Bits .f32) : S512x2048.Idx → Elt Bits .bf16 := k0_pay3 (F := Bits) x
/-- The block of results from a block of rows and the kept weights. -/
abbrev rowsOut (x : S256x2048.Idx → Elt Bits .f32) (g u : S2048x512.Idx → Elt Bits .bf16) (d : S512x2048.Idx → Elt Bits .bf16) :
    S256x2048.Idx → Elt Bits .f32 := k0_pay4 (F := Bits) x g u d

section

variable (c : Dev nD) (i : grid0.Coords)
  (arg3 : Memref sig .tc .vmem S256x2048 .f32) (harg3 : arg3.IsWhole) (arg4 : Memref sig .tc .vmem S1x2048x512 .f32) (harg4 : arg4.IsWhole)
  (arg5 : Memref sig .tc .vmem S1x2048x512 .f32) (harg5 : arg5.IsWhole) (arg6 : Memref sig .tc .vmem S1x512x2048 .f32) (harg6 : arg6.IsWhole)
  (arg7 : Memref sig .tc .vmem S256x2048 .f32) (harg7 : arg7.IsWhole) (T0 : S324.Idx → Elt Bits .i32) (T1 : S1.Idx → Elt Bits .i32)
  (x0 : S256x2048.Idx → Elt Bits .f32) (x1 x2 : S1x2048x512.Idx → Elt Bits .f32) (x3 : S1x512x2048.Idx → Elt Bits .f32)

/-- Where the expert changes, the gate weights are copied. -/
theorem gate_changed (h1 : InUse T1 i) (h2 : Changed T0 i) :
    (kernelRun0_A c i arg3 harg3 arg4 harg4 arg5 harg5 arg6 harg6 arg7 harg7 T0 T1 x0 x1 x2 x3 h1 h2).2.1 = gateCopy x1 := by
  unfold kernelRun0_A
  dsimp only
  unfold kernelRun0_A.sl.HS0_1
  refine Eq.trans ?_ (congrArg (k0_pay1 (F := Bits)) (View.readAt_rep_full arg4.view x1 inb_S1x2048x512_S1x2048x512_0_0_0))
  have h := View.read_writes_full (Val := Elt Bits) (View.whole cc0_scratch0) (View.whole cc0_scratch0).junk (off := ![0, 0]) inb_S2048x512_S2048x512_0_0
    (k0_pay1 (F := Bits) (View.readAt (Elt Bits) arg4.view (Rect.unit ![0, 0, 0] S1x2048x512.size inb_S1x2048x512_S1x2048x512_0_0_0).toLoadRect (arg4.view.rep x1))) []
  exact (View.read_whole (Val := Elt Bits) cc0_scratch0 _).symm.trans h

/-- So are the up weights, -/
theorem up_changed (h1 : InUse T1 i) (h2 : Changed T0 i) :
    (kernelRun0_A c i arg3 harg3 arg4 harg4 arg5 harg5 arg6 harg6 arg7 harg7 T0 T1 x0 x1 x2 x3 h1 h2).2.2.1 = upCopy x2 := by
  unfold kernelRun0_A
  dsimp only
  unfold kernelRun0_A.sl.HS1_1
  refine Eq.trans ?_ (congrArg (k0_pay2 (F := Bits)) (View.readAt_rep_full arg5.view x2 inb_S1x2048x512_S1x2048x512_0_0_0))
  have h := View.read_writes_full (Val := Elt Bits) (View.whole cc0_scratch1) (View.whole cc0_scratch1).junk (off := ![0, 0]) inb_S2048x512_S2048x512_0_0
    (k0_pay2 (F := Bits) (View.readAt (Elt Bits) arg5.view (Rect.unit ![0, 0, 0] S1x2048x512.size inb_S1x2048x512_S1x2048x512_0_0_0).toLoadRect (arg5.view.rep x2))) []
  exact (View.read_whole (Val := Elt Bits) cc0_scratch1 _).symm.trans h

/-- and the down weights, -/
theorem down_changed (h1 : InUse T1 i) (h2 : Changed T0 i) :
    (kernelRun0_A c i arg3 harg3 arg4 harg4 arg5 harg5 arg6 harg6 arg7 harg7 T0 T1 x0 x1 x2 x3 h1 h2).2.2.2.1 = downCopy x3 := by
  unfold kernelRun0_A
  dsimp only
  unfold kernelRun0_A.sl.HS2_1
  refine Eq.trans ?_ (congrArg (k0_pay3 (F := Bits)) (View.readAt_rep_full arg6.view x3 inb_S1x512x2048_S1x512x2048_0_0_0))
  have h := View.read_writes_full (Val := Elt Bits) (View.whole cc0_scratch2) (View.whole cc0_scratch2).junk (off := ![0, 0]) inb_S512x2048_S512x2048_0_0
    (k0_pay3 (F := Bits) (View.readAt (Elt Bits) arg6.view (Rect.unit ![0, 0, 0] S1x512x2048.size inb_S1x512x2048_S1x512x2048_0_0_0).toLoadRect (arg6.view.rep x3))) []
  exact (View.read_whole (Val := Elt Bits) cc0_scratch2 _).symm.trans h

/-- and the results are made with the new copies. -/
theorem out_changed (h1 : InUse T1 i) (h2 : Changed T0 i) :
    out0_A_4 c i arg3 harg3 arg4 harg4 arg5 harg5 arg6 harg6 arg7 harg7 T0 T1 x0 x1 x2 x3 h1 h2
      = rowsOut x0 (gateCopy x1) (upCopy x2) (downCopy x3) := by
  unfold out0_A_4 kernelRun0_A
  dsimp only
  unfold kernelRun0_A.sl.HO4_1
  unfold kernelRun0_A.sl.v17 kernelRun0_A.sl.v21 kernelRun0_A.sl.v25
  unfold kernelRun0_A.sl.HS0_1 kernelRun0_A.sl.HS1_1 kernelRun0_A.sl.HS2_1
  refine (View.read_writes_full _ _ _ _ _).trans ?_
  refine congr (congr (congr (congrArg (k0_pay4 (F := Bits)) ?_) ?_) ?_) ?_
  · exact View.readAt_rep_full arg3.view x0 _
  · exact (View.readCov_full scM0_0.view _ _ _ _).trans (congrArg _ (View.readAt_rep_full arg4.view x1 _))
  · exact (View.readCov_full scM0_1.view _ _ _ _).trans (congrArg _ (View.readAt_rep_full arg5.view x2 _))
  · exact (View.readCov_full scM0_2.view _ _ _ _).trans (congrArg _ (View.readAt_rep_full arg6.view x3 _))

/-- Where the expert stays, the results are made with the kept copies. -/
theorem out_same (g : S2048x512.Idx → Elt Bits .bf16) (u : S2048x512.Idx → Elt Bits .bf16) (d : S512x2048.Idx → Elt Bits .bf16) (h1 : InUse T1 i) (h2 : ¬Changed T0 i) :
    out0_B_4 c i arg3 harg3 arg4 harg4 arg5 harg5 arg6 harg6 arg7 harg7 T0 T1 x0 x1 x2 x3 g u d h1 h2 = rowsOut x0 g u d := by
  unfold out0_B_4 kernelRun0_B
  dsimp only
  unfold kernelRun0_B.sl.HO4_1
  refine (View.read_writes_full _ _ _ _ _).trans ?_
  refine congr (congr (congr (congrArg (k0_pay4 (F := Bits)) ?_) ?_) ?_) ?_
  · exact View.readAt_rep_full arg3.view x0 _
  · exact View.readAt_full scM0_0.view g _
  · exact View.readAt_full scM0_1.view u _
  · exact View.readAt_full scM0_2.view d _

end

end Cert.Kernel.Exp

end
-- ==== Proof.IdealTables.lean ====
/- The pipeline of the experts' call at tables made by the routing: which blocks its windows name at each grid point, when
   the output's block is written back, and which branch the body takes. -/
module

public import proofs.«01_k».proof.Proof.Words
public import proofs.«01_k».proof.Proof.Gen.KernelIdeal.Launch
public import proofs.«01_k».proof.Proof.Gen.KernelIdeal.Flash.Runs
public import Idealize.ShloMosaic.Lib.Pipeline.TableIdle

@[expose] public section

set_option maxRecDepth 16384

noncomputable section

namespace Cert.KernelIdeal.Exp

open Cert.KernelIdeal Cert.KernelIdeal.Gen Experts
open Idealize.ShloMosaic
open Idealize.ShloMosaic.TcCoe

variable (be : S324.Idx → BitVec 32) (nu : S1.Idx → BitVec 32)

set_option backward.proofsInPublic true in
/-- The two tables as the region reads them. -/
def pfT : pre0.Contents (Elt Ideal) := fun | ⟨0, _⟩ => be | ⟨1, _⟩ => nu | ⟨_ + 2, h⟩ => absurd h (by simp)

variable {be nu}

/-- Rows: the block of the grid number, held at the last used one. -/
theorem row_index (hT : Tabs be nu) (i : grid0.Coords) :
    cc0_transform_0 (F := Ideal) inb_S1_S1_0 numel1_S1 (pfT be nu) i = ![min (i 0).val (used nu - 1), 0] :=
  congrArg (fun n : ℕ => (![n, 0] : Fin 2 → ℕ))
    ((toNat_min_last (i 0) (nu _) (hT.nu_pos _) (hT.nu_le _)).trans (congrArg (fun n => min (i 0).val (n - 1)) (used_eq nu _)))

theorem row_index' (hT : Tabs be nu) (i : grid0.Coords) :
    cc0_transform_4 (F := Ideal) inb_S1_S1_0 numel1_S1 (pfT be nu) i = ![min (i 0).val (used nu - 1), 0] := row_index hT i

/-- The element of a table of 324 words under a unit rectangle at offset `k`. -/
theorem unit_emb (o : Fin 1 → ℕ) (h : ∀ a, o a + S1.size a ≤ S324.size a) (k : Fin 324) (hk : o 0 = k.val)
    (x : (Rect.unit (s := S324) o S1.size h).shape.Idx) : (Rect.unit (s := S324) o S1.size h).emb x = at324 k := by
  funext a
  match a with
  | ⟨0, _⟩ =>
    apply Fin.ext
    have hx : (x 0).val < 1 := (x 0).isLt
    show o 0 + 1 * (x 0).val = k.val
    omega

theorem off1_eq (i : grid0.Coords) : k0_off1 i 0 = (i 0).val := toNat_grid (i 0)
theorem off2_eq (i : grid0.Coords) : k0_off2 i 0 = (i 0).val := toNat_grid (i 0)
theorem off3_eq (i : grid0.Coords) : k0_off3 i 0 = (i 0).val - 1 := toNat_prev (i 0)

/-- Weights: the block's expert. -/
theorem expert_index (i : grid0.Coords) :
    cc0_transform_1 (F := Ideal) k0_off1_inb numel1_S1 (pfT be nu) i = ![(be (at324 (i 0))).toNat, 0, 0] :=
  congrArg (fun x : S324.Idx => (![(be x).toNat, 0, 0] : Fin 3 → ℕ)) (unit_emb (k0_off1 i) (k0_off1_inb i) (i 0) (off1_eq i) _)

/-- The side condition of the region: every block lies inside its array. -/
theorem ok_pfT (hT : Tabs be nu) : ok0 (F := Ideal) (pfT be nu) := by
  have hn := hT.nu_le (Shape.Idx.ofFin 0)
  have hp := hT.nu_pos (Shape.Idx.ofFin 0)
  rw [used_eq] at hn hp
  have rows : ∀ i : grid0.Coords, ∀ a : Fin 2, ((![min (i 0).val (used nu - 1), 0] : Fin 2 → ℕ) a + 1) * S256x2048.size a ≤ S82944x2048.size a := by
    intro i a
    match a with
    | ⟨0, _⟩ => show (min (i 0).val (used nu - 1) + 1) * 256 ≤ 82944; omega
    | ⟨1, _⟩ => show (0 + 1) * 2048 ≤ 2048; omega
  have wts : ∀ i : grid0.Coords, ∀ a : Fin 3, ((![(be (at324 (i 0))).toNat, 0, 0] : Fin 3 → ℕ) a + 1) * S1x2048x512.size a ≤ S64x2048x512.size a := by
    intro i a
    have := hT.be_lt (at324 (i 0))
    match a with
    | ⟨0, _⟩ => show ((be (at324 (i 0))).toNat + 1) * 1 ≤ 64; omega
    | ⟨1, _⟩ => show (0 + 1) * 2048 ≤ 2048; omega
    | ⟨2, _⟩ => show (0 + 1) * 512 ≤ 512; omega
  have wts' : ∀ i : grid0.Coords, ∀ a : Fin 3, ((![(be (at324 (i 0))).toNat, 0, 0] : Fin 3 → ℕ) a + 1) * S1x512x2048.size a ≤ S64x512x2048.size a := by
    intro i a
    have := hT.be_lt (at324 (i 0))
    match a with
    | ⟨0, _⟩ => show ((be (at324 (i 0))).toNat + 1) * 1 ≤ 64; omega
    | ⟨1, _⟩ => show (0 + 1) * 512 ≤ 512; omega
    | ⟨2, _⟩ => show (0 + 1) * 2048 ≤ 2048; omega
  refine ⟨fun i => ⟨?_, .inl rfl⟩, fun i => ⟨?_, .inl rfl⟩, fun i => ⟨?_, .inl rfl⟩, fun i => ⟨?_, .inl rfl⟩, fun i => ⟨?_, .inl rfl⟩⟩
  · rw [row_index hT]; exact rows i
  · rw [expert_index]; exact wts i
  · exact fun a => by have := wts i a; rw [← expert_index (nu := nu)] at this; exact this
  · exact fun a => by have := wts' i a; rw [← expert_index (nu := nu)] at this; exact this
  · rw [row_index' hT]; exact rows i

/-- The tables as admissible contents, and the pipeline at them. -/
def adm (hT : Tabs be nu) : (pcfg0 (F := Ideal)).Adm := ⟨pfT be nu, ok_pfT hT⟩
abbrev cfgA (hT : Tabs be nu) : Pipeline.Cfg sig Λ₀ := cfg0 (F := Ideal) (adm hT)
abbrev pcs (hT : Tabs be nu) : Fin 1 → Pipeline.Cfg sig Λ₀ := Pipeline.pin (pcfgs (F := Ideal)) fun _ => adm hT

theorem N_eq (hT : Tabs be nu) : (cfgA hT).N = 324 := N_0

/-- Point `t`'s coordinates: its number. -/
abbrev crd (hT : Tabs be nu) (t : Fin (cfgA hT).N) : (cfgA hT).grid.Coords := (cfgA hT).grid.coords t

theorem coords_val : ∀ t : Fin grid0.N, ((grid0.coords t) 0).val = t.val := by decide +kernel

theorem crd_val (hT : Tabs be nu) (t : Fin (cfgA hT).N) : ((crd hT t) 0).val = t.val := coords_val t

/-- A point's number as a table index. -/
abbrev pt (hT : Tabs be nu) (t : Fin (cfgA hT).N) : Fin 324 := ⟨t.val, t.isLt⟩

theorem crd_eq (hT : Tabs be nu) (t : Fin (cfgA hT).N) : (crd hT t) 0 = pt hT t := Fin.ext (crd_val hT t)

theorem index_rows (hT : Tabs be nu) (t : Fin (cfgA hT).N) : ((cfgA hT).win (4 : Fin 5)).index t = ![min t.val (used nu - 1), 0] :=
  (row_index' hT (crd hT t)).trans (congrArg (fun n : ℕ => (![min n (used nu - 1), 0] : Fin 2 → ℕ)) (crd_val hT t))

theorem index_xs (hT : Tabs be nu) (t : Fin (cfgA hT).N) : ((cfgA hT).win (0 : Fin 5)).index t = ![min t.val (used nu - 1), 0] :=
  index_rows hT t

theorem index_gate (hT : Tabs be nu) (t : Fin (cfgA hT).N) : ((cfgA hT).win (1 : Fin 5)).index t = ![(be (at324 (pt hT t))).toNat, 0, 0] :=
  (expert_index (crd hT t)).trans (congrArg (fun k : Fin 324 => (![(be (at324 k)).toNat, 0, 0] : Fin 3 → ℕ)) (crd_eq hT t))

theorem index_up (hT : Tabs be nu) (t : Fin (cfgA hT).N) : ((cfgA hT).win (2 : Fin 5)).index t = ![(be (at324 (pt hT t))).toNat, 0, 0] :=
  index_gate hT t

theorem index_down (hT : Tabs be nu) (t : Fin (cfgA hT).N) : ((cfgA hT).win (3 : Fin 5)).index t = ![(be (at324 (pt hT t))).toNat, 0, 0] :=
  index_gate hT t

theorem used_pos (hT : Tabs be nu) : 1 ≤ used nu := hT.nu_pos _
theorem used_le (hT : Tabs be nu) : used nu ≤ 324 := hT.nu_le _

/-- The output's block is written back at the last point and at every used point but the last used one. -/
theorem flush_iff (hT : Tabs be nu) (t : Fin (cfgA hT).N) :
    ((cfgA hT).win (4 : Fin 5)).flush t = true ↔ t.val + 1 = 324 ∨ t.val + 1 < used nu := by
  have hp := used_pos hT
  have hN : (cfgA hT).grid.N = 324 := N_eq hT
  unfold Pipeline.Window.flush
  rw [show ((cfgA hT).win (4 : Fin 5)).isOut = true from rfl, Bool.true_and, Bool.or_eq_true, decide_eq_true_eq, decide_eq_true_eq]
  refine or_congr ⟨fun h => h.trans hN, fun h => h.trans hN.symm⟩ ⟨fun ⟨h, hne⟩ => ?_, fun h => ⟨lt_of_lt_of_le h ((used_le hT).trans hN.ge), fun e => ?_⟩⟩
  · by_contra hc
    refine hne ?_
    rw [index_rows, index_rows]
    have : min (t.val + 1) (used nu - 1) = min t.val (used nu - 1) := by omega
    exact congrArg (fun n : ℕ => (![n, 0] : Fin 2 → ℕ)) this
  · rw [index_rows, index_rows] at e
    have : min (t.val + 1) (used nu - 1) = min t.val (used nu - 1) := congrFun e 0
    omega

theorem readNu (hT : Tabs be nu) (x : (Rect.unit (s := S1) ![0] S1.size inb_S1_S1_0).toLoadRect.shape.Idx) :
    (View.readAt (Elt Ideal) (tbM0_1).view (Rect.unit (s := S1) ![0] S1.size inb_S1_S1_0).toLoadRect nu x : BitVec 32).toNat = used nu :=
  used_eq nu _

theorem readBe2 (i : grid0.Coords) (x : (Rect.unit (s := S324) (k0_off2 i) S1.size (k0_off2_inb i)).toLoadRect.shape.Idx) :
    (View.readAt (Elt Ideal) (tbM0_0).view (Rect.unit (s := S324) (k0_off2 i) S1.size (k0_off2_inb i)).toLoadRect be x : BitVec 32) = be (at324 (i 0)) :=
  congrArg be (unit_emb (k0_off2 i) (k0_off2_inb i) (i 0) (off2_eq i) x)

theorem readBe3 (i : grid0.Coords) (x : (Rect.unit (s := S324) (k0_off3 i) S1.size (k0_off3_inb i)).toLoadRect.shape.Idx) :
    (View.readAt (Elt Ideal) (tbM0_0).view (Rect.unit (s := S324) (k0_off3 i) S1.size (k0_off3_inb i)).toLoadRect be x : BitVec 32)
      = be (at324 ⟨(i 0).val - 1, lt_of_le_of_lt (Nat.sub_le _ _) (i 0).isLt⟩) :=
  congrArg be (unit_emb (k0_off3 i) (k0_off3_inb i) ⟨(i 0).val - 1, lt_of_le_of_lt (Nat.sub_le _ _) (i 0).isLt⟩ (off3_eq i) x)

/-- The body's first condition: the point is a used one. -/
abbrev InUse (nu : S1.Idx → BitVec 32) (i : grid0.Coords) : Prop := k0_cond1 i (View.readAt (Elt Ideal) (tbM0_1).view (Rect.unit (s := S1) ![0] S1.size inb_S1_S1_0).toLoadRect nu (Shape.Idx.first (numel1_S1.symm ▸ Nat.one_pos))) = 1#1

/-- Its second: the block's expert is not the block before's. -/
abbrev Changed (be : S324.Idx → BitVec 32) (i : grid0.Coords) : Prop := (Scalar.cmpi .ne (Scalar.extui (Scalar.ori (Scalar.cmpi .eq (BitVec.ofNat 32 (i 0).val) 0#32) (Scalar.cmpi .ne (View.readAt (Elt Ideal) (tbM0_0).view (Rect.unit (s := S324) (k0_off2 i) S1.size (k0_off2_inb i)).toLoadRect be (Shape.Idx.first (numel1_S1.symm ▸ Nat.one_pos))) (View.readAt (Elt Ideal) (tbM0_0).view (Rect.unit (s := S324) (k0_off3 i) S1.size (k0_off3_inb i)).toLoadRect be (Shape.Idx.first (numel1_S1.symm ▸ Nat.one_pos)))))) 0#32) = 1#1

theorem cond1_iff (i : grid0.Coords) (v : BitVec 32) (h : v.toNat ≤ 324) : k0_cond1 i v = 1#1 ↔ (i 0).val < v.toNat :=
  (ne_extui _).trans (slt_grid (i 0) v h)

theorem inUse_iff (hT : Tabs be nu) (t : Fin (cfgA hT).N) : InUse nu (crd hT t) ↔ t.val < used nu := by
  refine (cond1_iff (crd hT t) _ ((readNu hT _).le.trans (used_le hT))).trans ?_
  rw [readNu hT, crd_val]

theorem changed_iff (i : grid0.Coords) : Changed be i ↔
    ((i 0).val = 0 ∨ be (at324 (i 0)) ≠ be (at324 ⟨(i 0).val - 1, lt_of_le_of_lt (Nat.sub_le _ _) (i 0).isLt⟩)) := by
  have two : ∀ p q : BitVec 1, Scalar.ori p q = 1#1 ↔ p = 1#1 ∨ q = 1#1 := by decide
  refine (ne_extui _).trans ((two _ _).trans (or_congr ?_ ?_))
  · refine (StableHlo.Predicate.cmpi_eq_iff (w := 32)).trans ⟨fun h => ?_, fun h => by rw [h]⟩
    have := congrArg BitVec.toNat h
    rw [toNat_grid (i 0)] at this; exact this
  · rw [readBe2, readBe3]
    show BitVec.ofBool _ = 1#1 ↔ _
    rw [StableHlo.Predicate.ofBool_eq_one_iff]
    exact bne_iff_ne

/-- The output window is idle exactly past the used points. -/
theorem idle_eq (hT : Tabs be nu) (t : Fin (cfgA hT).N) : (cfgA hT).idle (4 : Fin 5) ((cfgA hT).grid.coords t) = !decide (t.val < used nu) := by
  show (!(k0_cond1 (crd hT t) ((pfT be nu).atD 1 ![0]) == 1#1)) = _
  have e : (pfT be nu).atD 1 ![0] = nu (Shape.Idx.ofFin 0) := by
    unfold Pipeline.Prefetch.Contents.atD
    rw [dif_pos (fun a => by match a with | ⟨0, _⟩ => exact Nat.le_refl 1)]
    refine congrArg nu ?_
    funext a; match a with | ⟨0, _⟩ => rfl
  have h := cond1_iff (crd hT t) (nu (Shape.Idx.ofFin 0)) (hT.nu_le _)
  rw [crd_val] at h
  congr 1
  rw [e, Bool.eq_iff_iff, beq_iff_eq, decide_eq_true_eq]
  exact h

/-- Its staging buffer holds nothing a point has determined exactly at the used points. -/
theorem fresh_eq (hT : Tabs be nu) : ∀ n, n < 324 → (cfgA hT).fresh (4 : Fin 5) n = decide (n < used nu)
  | 0, _ => by
    rw [Pipeline.Cfg.fresh_zero]
    exact (decide_eq_true (used_pos hT)).symm
  | n + 1, h => by
    have hn : n < (cfgA hT).N := by rw [N_eq]; omega
    rw [Pipeline.Cfg.fresh_succ _ _ _ hn, idle_eq, fresh_eq hT n (by omega), Bool.eq_iff_iff, Bool.or_eq_true, flush_iff]
    simp only [Bool.and_eq_true, Bool.not_eq_true', decide_eq_true_eq, decide_eq_false_iff_not]
    omega

end Cert.KernelIdeal.Exp

end
-- ==== Proof.IdealRuns.lean ====
/- What the body leaves on its three paths, as the body's own arithmetic of what it finds: the three weight copies and the
   block of results. -/
module

public import proofs.«01_k».proof.Proof.IdealTables
public import Idealize.ShloMosaic.Lib.VecWindow

@[expose] public section

set_option maxRecDepth 16384

noncomputable section

namespace Cert.KernelIdeal.Exp

open Cert.KernelIdeal Cert.KernelIdeal.Gen Experts
open Idealize.ShloMosaic
open Idealize.ShloMosaic.TcCoe

/-- The gate weights as the body keeps them. -/
abbrev gateCopy (x : S1x2048x512.Idx → Elt Ideal .f32) : S2048x512.Idx → Elt Ideal .bf16 := k0_pay1 (F := Ideal) x
/-- The up weights as the body keeps them. -/
abbrev upCopy (x : S1x2048x512.Idx → Elt Ideal .f32) : S2048x512.Idx → Elt Ideal .bf16 := k0_pay2 (F := Ideal) x
/-- The down weights as the body keeps them. -/
abbrev downCopy (x : S1x512x2048.Idx → Elt Ideal .f32) : S512x2048.Idx → Elt Ideal .bf16 := k0_pay3 (F := Ideal) x
/-- The block of results from a block of rows and the kept weights. -/
abbrev rowsOut (x : S256x2048.Idx → Elt Ideal .f32) (g u : S2048x512.Idx → Elt Ideal .bf16) (d : S512x2048.Idx → Elt Ideal .bf16) :
    S256x2048.Idx → Elt Ideal .f32 := k0_pay4 (F := Ideal) x g u d

section

variable (c : Dev nD) (i : grid0.Coords)
  (arg3 : Memref sig .tc .vmem S256x2048 .f32) (harg3 : arg3.IsWhole) (arg4 : Memref sig .tc .vmem S1x2048x512 .f32) (harg4 : arg4.IsWhole)
  (arg5 : Memref sig .tc .vmem S1x2048x512 .f32) (harg5 : arg5.IsWhole) (arg6 : Memref sig .tc .vmem S1x512x2048 .f32) (harg6 : arg6.IsWhole)
  (arg7 : Memref sig .tc .vmem S256x2048 .f32) (harg7 : arg7.IsWhole) (T0 : S324.Idx → Elt Ideal .i32) (T1 : S1.Idx → Elt Ideal .i32)
  (x0 : S256x2048.Idx → Elt Ideal .f32) (x1 x2 : S1x2048x512.Idx → Elt Ideal .f32) (x3 : S1x512x2048.Idx → Elt Ideal .f32)

/-- Where the expert changes, the gate weights are copied. -/
theorem gate_changed (h1 : InUse T1 i) (h2 : Changed T0 i) :
    (kernelRun0_A c i arg3 harg3 arg4 harg4 arg5 harg5 arg6 harg6 arg7 harg7 T0 T1 x0 x1 x2 x3 h1 h2).2.1 = gateCopy x1 := by
  unfold kernelRun0_A
  dsimp only
  unfold kernelRun0_A.sl.HS0_1
  refine Eq.trans ?_ (congrArg (k0_pay1 (F := Ideal)) (View.readAt_rep_full arg4.view x1 inb_S1x2048x512_S1x2048x512_0_0_0))
  have h := View.read_writes_full (Val := Elt Ideal) (View.whole cc0_scratch0) (View.whole cc0_scratch0).junk (off := ![0, 0]) inb_S2048x512_S2048x512_0_0
    (k0_pay1 (F := Ideal) (View.readAt (Elt Ideal) arg4.view (Rect.unit ![0, 0, 0] S1x2048x512.size inb_S1x2048x512_S1x2048x512_0_0_0).toLoadRect (arg4.view.rep x1))) []
  exact (View.read_whole (Val := Elt Ideal) cc0_scratch0 _).symm.trans h

/-- So are the up weights, -/
theorem up_changed (h1 : InUse T1 i) (h2 : Changed T0 i) :
    (kernelRun0_A c i arg3 harg3 arg4 harg4 arg5 harg5 arg6 harg6 arg7 harg7 T0 T1 x0 x1 x2 x3 h1 h2).2.2.1 = upCopy x2 := by
  unfold kernelRun0_A
  dsimp only
  unfold kernelRun0_A.sl.HS1_1
  refine Eq.trans ?_ (congrArg (k0_pay2 (F := Ideal)) (View.readAt_rep_full arg5.view x2 inb_S1x2048x512_S1x2048x512_0_0_0))
  have h := View.read_writes_full (Val := Elt Ideal) (View.whole cc0_scratch1) (View.whole cc0_scratch1).junk (off := ![0, 0]) inb_S2048x512_S2048x512_0_0
    (k0_pay2 (F := Ideal) (View.readAt (Elt Ideal) arg5.view (Rect.unit ![0, 0, 0] S1x2048x512.size inb_S1x2048x512_S1x2048x512_0_0_0).toLoadRect (arg5.view.rep x2))) []
  exact (View.read_whole (Val := Elt Ideal) cc0_scratch1 _).symm.trans h

/-- and the down weights, -/
theorem down_changed (h1 : InUse T1 i) (h2 : Changed T0 i) :
    (kernelRun0_A c i arg3 harg3 arg4 harg4 arg5 harg5 arg6 harg6 arg7 harg7 T0 T1 x0 x1 x2 x3 h1 h2).2.2.2.1 = downCopy x3 := by
  unfold kernelRun0_A
  dsimp only
  unfold kernelRun0_A.sl.HS2_1
  refine Eq.trans ?_ (congrArg (k0_pay3 (F := Ideal)) (View.readAt_rep_full arg6.view x3 inb_S1x512x2048_S1x512x2048_0_0_0))
  have h := View.read_writes_full (Val := Elt Ideal) (View.whole cc0_scratch2) (View.whole cc0_scratch2).junk (off := ![0, 0]) inb_S512x2048_S512x2048_0_0
    (k0_pay3 (F := Ideal) (View.readAt (Elt Ideal) arg6.view (Rect.unit ![0, 0, 0] S1x512x2048.size inb_S1x512x2048_S1x512x2048_0_0_0).toLoadRect (arg6.view.rep x3))) []
  exact (View.read_whole (Val := Elt Ideal) cc0_scratch2 _).symm.trans h

/-- and the results are made with the new copies. -/
theorem out_changed (h1 : InUse T1 i) (h2 : Changed T0 i) :
    out0_A_4 c i arg3 harg3 arg4 harg4 arg5 harg5 arg6 harg6 arg7 harg7 T0 T1 x0 x1 x2 x3 h1 h2
      = rowsOut x0 (gateCopy x1) (upCopy x2) (downCopy x3) := by
  unfold out0_A_4 kernelRun0_A
  dsimp only
  unfold kernelRun0_A.sl.HO4_1
  unfold kernelRun0_A.sl.v17 kernelRun0_A.sl.v21 kernelRun0_A.sl.v25
  unfold kernelRun0_A.sl.HS0_1 kernelRun0_A.sl.HS1_1 kernelRun0_A.sl.HS2_1
  refine (View.read_writes_full _ _ _ _ _).trans ?_
  refine congr (congr (congr (congrArg (k0_pay4 (F := Ideal)) ?_) ?_) ?_) ?_
  · exact View.readAt_rep_full arg3.view x0 _
  · exact (View.readCov_full scM0_0.view _ _ _ _).trans (congrArg _ (View.readAt_rep_full arg4.view x1 _))
  · exact (View.readCov_full scM0_1.view _ _ _ _).trans (congrArg _ (View.readAt_rep_full arg5.view x2 _))
  · exact (View.readCov_full scM0_2.view _ _ _ _).trans (congrArg _ (View.readAt_rep_full arg6.view x3 _))

/-- Where the expert stays, the results are made with the kept copies. -/
theorem out_same (g : S2048x512.Idx → Elt Ideal .bf16) (u : S2048x512.Idx → Elt Ideal .bf16) (d : S512x2048.Idx → Elt Ideal .bf16) (h1 : InUse T1 i) (h2 : ¬Changed T0 i) :
    out0_B_4 c i arg3 harg3 arg4 harg4 arg5 harg5 arg6 harg6 arg7 harg7 T0 T1 x0 x1 x2 x3 g u d h1 h2 = rowsOut x0 g u d := by
  unfold out0_B_4 kernelRun0_B
  dsimp only
  unfold kernelRun0_B.sl.HO4_1
  refine (View.read_writes_full _ _ _ _ _).trans ?_
  refine congr (congr (congr (congrArg (k0_pay4 (F := Ideal)) ?_) ?_) ?_) ?_
  · exact View.readAt_rep_full arg3.view x0 _
  · exact View.readAt_full scM0_0.view g _
  · exact View.readAt_full scM0_1.view u _
  · exact View.readAt_full scM0_2.view d _

end

end Cert.KernelIdeal.Exp

end
-- ==== Proof.IdealData.lean ====
/- The proof data of the experts' pipeline: what each window's block holds at a grid point, what the kept weights and the
   results are after it, and what the staging buffers hold when the body runs. -/
module

public import proofs.«01_k».proof.Proof.IdealRuns
public import Idealize.ShloMosaic.Lib.Pipeline.Kit
public import Idealize.ShloMosaic.Lib.Pipeline.FrameBody
public import Idealize.ShloMosaic.Lib.Pipeline.Value
public import Idealize.ShloMosaic.Lib.ValueIdxCore
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.KernelIdeal.Exp

open Cert.KernelIdeal Cert.KernelIdeal.Gen Experts
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resources: the pipeline library's own. -/
abbrev EP : Emb (UR sig nD τ) 𝕄 := emb₁

variable {be : S324.Idx → BitVec 32} {nu : S1.Idx → BitVec 32} (hT : Tabs be nu)
variable (m : (ℓ : Loc nD τ sig) → Buf (Elt Ideal) ℓ) (ρ : Dev nD → PrngReg)

/-! ## The windows' staging memrefs -/

abbrev stXs (t : Fin (cfgA hT).N) : Memref sig .tc .vmem S256x2048 .f32 := spec0_0.stage ((cfgA hT).slots t (0 : Fin 5))
abbrev whXs (t : Fin (cfgA hT).N) : (stXs hT t).IsWhole := hstage0_0 (((cfgA hT).slots t (0 : Fin 5)).cast nbuf0_0)
abbrev stGate (t : Fin (cfgA hT).N) : Memref sig .tc .vmem S1x2048x512 .f32 := spec0_1.stage ((cfgA hT).slots t (1 : Fin 5))
abbrev whGate (t : Fin (cfgA hT).N) : (stGate hT t).IsWhole := hstage0_1 (((cfgA hT).slots t (1 : Fin 5)).cast nbuf0_1)
abbrev stUp (t : Fin (cfgA hT).N) : Memref sig .tc .vmem S1x2048x512 .f32 := spec0_2.stage ((cfgA hT).slots t (2 : Fin 5))
abbrev whUp (t : Fin (cfgA hT).N) : (stUp hT t).IsWhole := hstage0_2 (((cfgA hT).slots t (2 : Fin 5)).cast nbuf0_2)
abbrev stDown (t : Fin (cfgA hT).N) : Memref sig .tc .vmem S1x512x2048 .f32 := spec0_3.stage ((cfgA hT).slots t (3 : Fin 5))
abbrev whDown (t : Fin (cfgA hT).N) : (stDown hT t).IsWhole := hstage0_3 (((cfgA hT).slots t (3 : Fin 5)).cast nbuf0_3)
abbrev stOut (t : Fin (cfgA hT).N) : Memref sig .tc .vmem S256x2048 .f32 := spec0_4.stage ((cfgA hT).slots t (4 : Fin 5))
abbrev whOut (t : Fin (cfgA hT).N) : (stOut hT t).IsWhole := hstage0_4 (((cfgA hT).slots t (4 : Fin 5)).cast nbuf0_4)

/-! ## The windows' blocks -/

/-- A window's block at a point, off its array as launched. -/
def blkAt (c : Dev nD) (w : Fin (cfgA hT).W) (t : Fin (cfgA hT).N) : (((cfgA hT).win w).xblock (crd hT t)).Idx → Elt Ideal ((cfgA hT).win w).elt :=
  (((cfgA hT).win w).blk t).view.read (Elt Ideal) ((s₀ m ρ).mem (((cfgA hT).win w).arr.view.loc (c : Thread nD τ)))

/-- The point's expert. -/
def expertAt (t : Fin (cfgA hT).N) : Fin 64 := ⟨(be (at324 (pt hT t))).toNat, hT.be_lt _⟩

/-- The gate block of a point is its expert's gate matrix. -/
theorem blkAt_gate (c : Dev nD) (t : Fin (cfgA hT).N) (y : S1x2048x512.Idx) :
    blkAt hT m ρ c (1 : Fin 5) t y = m ((c : Thread nD τ).loc main_arg3) (ix3 (expertAt hT t) (y 1) (y 2)) := by
  refine congrArg (m ((c : Thread nD τ).loc main_arg3)) (show (((cfgA hT).win (1 : Fin 5)).rect t).emb y = ix3 (expertAt hT t) (y 1) (y 2) from ?_)
  have h : ∀ a : Fin 3, ((((cfgA hT).win (1 : Fin 5)).rect t).emb y a : Nat) = (![(be (at324 (pt hT t))).toNat, 0, 0] : Fin 3 → ℕ) a * S1x2048x512.size a + (y a).val := fun a => by
    refine (Pipeline.Window.rect_emb_val ((cfgA hT).win (1 : Fin 5)) t y a).trans ?_
    rw [index_gate]
  funext a
  match a with
  | ⟨0, _⟩ =>
    have h0 := h 0
    have hy : (y 0).val < 1 := (y 0).isLt
    refine Fin.ext (h0.trans ?_)
    show (be (at324 (pt hT t))).toNat * 1 + (y 0).val = (be (at324 (pt hT t))).toNat
    omega
  | ⟨1, _⟩ => exact Fin.ext ((h 1).trans (by show 0 * 2048 + (y 1).val = (y 1).val; omega))
  | ⟨2, _⟩ => exact Fin.ext ((h 2).trans (by show 0 * 512 + (y 2).val = (y 2).val; omega))

/-- The up block is its up matrix. -/
theorem blkAt_up (c : Dev nD) (t : Fin (cfgA hT).N) (y : S1x2048x512.Idx) :
    blkAt hT m ρ c (2 : Fin 5) t y = m ((c : Thread nD τ).loc main_arg4) (ix3 (expertAt hT t) (y 1) (y 2)) := by
  refine congrArg (m ((c : Thread nD τ).loc main_arg4)) (show (((cfgA hT).win (2 : Fin 5)).rect t).emb y = ix3 (expertAt hT t) (y 1) (y 2) from ?_)
  have h : ∀ a : Fin 3, ((((cfgA hT).win (2 : Fin 5)).rect t).emb y a : Nat) = (![(be (at324 (pt hT t))).toNat, 0, 0] : Fin 3 → ℕ) a * S1x2048x512.size a + (y a).val := fun a => by
    refine (Pipeline.Window.rect_emb_val ((cfgA hT).win (2 : Fin 5)) t y a).trans ?_
    rw [index_up]
  funext a
  match a with
  | ⟨0, _⟩ =>
    have h0 := h 0
    have hy : (y 0).val < 1 := (y 0).isLt
    refine Fin.ext (h0.trans ?_)
    show (be (at324 (pt hT t))).toNat * 1 + (y 0).val = (be (at324 (pt hT t))).toNat
    omega
  | ⟨1, _⟩ => exact Fin.ext ((h 1).trans (by show 0 * 2048 + (y 1).val = (y 1).val; omega))
  | ⟨2, _⟩ => exact Fin.ext ((h 2).trans (by show 0 * 512 + (y 2).val = (y 2).val; omega))

/-- The down block is its down matrix. -/
theorem blkAt_down (c : Dev nD) (t : Fin (cfgA hT).N) (y : S1x512x2048.Idx) :
    blkAt hT m ρ c (3 : Fin 5) t y = m ((c : Thread nD τ).loc main_arg5) (ix3 (expertAt hT t) (y 1) (y 2)) := by
  refine congrArg (m ((c : Thread nD τ).loc main_arg5)) (show (((cfgA hT).win (3 : Fin 5)).rect t).emb y = ix3 (expertAt hT t) (y 1) (y 2) from ?_)
  have h : ∀ a : Fin 3, ((((cfgA hT).win (3 : Fin 5)).rect t).emb y a : Nat) = (![(be (at324 (pt hT t))).toNat, 0, 0] : Fin 3 → ℕ) a * S1x512x2048.size a + (y a).val := fun a => by
    refine (Pipeline.Window.rect_emb_val ((cfgA hT).win (3 : Fin 5)) t y a).trans ?_
    rw [index_down]
  funext a
  match a with
  | ⟨0, _⟩ =>
    have h0 := h 0
    have hy : (y 0).val < 1 := (y 0).isLt
    refine Fin.ext (h0.trans ?_)
    show (be (at324 (pt hT t))).toNat * 1 + (y 0).val = (be (at324 (pt hT t))).toNat
    omega
  | ⟨1, _⟩ => exact Fin.ext ((h 1).trans (by show 0 * 512 + (y 1).val = (y 1).val; omega))
  | ⟨2, _⟩ => exact Fin.ext ((h 2).trans (by show 0 * 2048 + (y 2).val = (y 2).val; omega))

/-! ## What the body has left after each point -/

/-- The last used point up to position `n`. -/
def upTo (n : ℕ) : Fin (cfgA hT).N := ⟨min n (used nu - 1), by have h := used_le hT; have h' := used_pos hT; have hN := N_eq hT; omega⟩

theorem upTo_used (t : Fin (cfgA hT).N) (h : t.val < used nu) : upTo hT t.val = t :=
  Fin.ext (by show min t.val (used nu - 1) = t.val; omega)

theorem upTo_idle (t : Fin (cfgA hT).N) (h : ¬ t.val < used nu) : upTo hT t.val = upTo hT (t.val - 1) :=
  Fin.ext (by have h' := used_pos hT; show min t.val (used nu - 1) = min (t.val - 1) (used nu - 1); omega)

/-- The kept gate weights after point `n`, -/
def keptGate (c : Dev nD) (n : ℕ) : S2048x512.Idx → Elt Ideal .bf16 := gateCopy (blkAt hT m ρ c (1 : Fin 5) (upTo hT n))
/-- the kept up weights, -/
def keptUp (c : Dev nD) (n : ℕ) : S2048x512.Idx → Elt Ideal .bf16 := upCopy (blkAt hT m ρ c (2 : Fin 5) (upTo hT n))
/-- the kept down weights, -/
def keptDown (c : Dev nD) (n : ℕ) : S512x2048.Idx → Elt Ideal .bf16 := downCopy (blkAt hT m ρ c (3 : Fin 5) (upTo hT n))
/-- and the results in the output's buffer. -/
def results (c : Dev nD) (n : ℕ) : S256x2048.Idx → Elt Ideal .f32 :=
  rowsOut (blkAt hT m ρ c (0 : Fin 5) (upTo hT n)) (keptGate hT m ρ c n) (keptUp hT m ρ c n) (keptDown hT m ρ c n)

theorem keptGate_idle (c : Dev nD) (t : Fin (cfgA hT).N) (h : ¬ t.val < used nu) : keptGate hT m ρ c t.val = keptGate hT m ρ c (t.val - 1) := by
  unfold keptGate; rw [upTo_idle hT t h]
theorem keptUp_idle (c : Dev nD) (t : Fin (cfgA hT).N) (h : ¬ t.val < used nu) : keptUp hT m ρ c t.val = keptUp hT m ρ c (t.val - 1) := by
  unfold keptUp; rw [upTo_idle hT t h]
theorem keptDown_idle (c : Dev nD) (t : Fin (cfgA hT).N) (h : ¬ t.val < used nu) : keptDown hT m ρ c t.val = keptDown hT m ρ c (t.val - 1) := by
  unfold keptDown; rw [upTo_idle hT t h]
theorem results_idle (c : Dev nD) (t : Fin (cfgA hT).N) (h : ¬ t.val < used nu) : results hT m ρ c t.val = results hT m ρ c (t.val - 1) := by
  unfold results; rw [upTo_idle hT t h, keptGate_idle hT m ρ c t h, keptUp_idle hT m ρ c t h, keptDown_idle hT m ρ c t h]

theorem keptGate_used (c : Dev nD) (t : Fin (cfgA hT).N) (h : t.val < used nu) : keptGate hT m ρ c t.val = gateCopy (blkAt hT m ρ c (1 : Fin 5) t) := by
  unfold keptGate; rw [upTo_used hT t h]
theorem keptUp_used (c : Dev nD) (t : Fin (cfgA hT).N) (h : t.val < used nu) : keptUp hT m ρ c t.val = upCopy (blkAt hT m ρ c (2 : Fin 5) t) := by
  unfold keptUp; rw [upTo_used hT t h]
theorem keptDown_used (c : Dev nD) (t : Fin (cfgA hT).N) (h : t.val < used nu) : keptDown hT m ρ c t.val = downCopy (blkAt hT m ρ c (3 : Fin 5) t) := by
  unfold keptDown; rw [upTo_used hT t h]
theorem results_used (c : Dev nD) (t : Fin (cfgA hT).N) (h : t.val < used nu) :
    results hT m ρ c t.val = rowsOut (blkAt hT m ρ c (0 : Fin 5) t) (keptGate hT m ρ c t.val) (keptUp hT m ρ c t.val) (keptDown hT m ρ c t.val) := by
  unfold results; rw [upTo_used hT t h]

/-- Where a used point's expert does not change, it is the point before's, -/
theorem expert_same (t : Fin (cfgA hT).N) (h : t.val < used nu) (hs : ¬Changed be (crd hT t)) :
    t.val ≠ 0 ∧ expertAt hT (upTo hT t.val) = expertAt hT (upTo hT (t.val - 1)) := by
  have hs' := (not_congr (changed_iff (be := be) (crd hT t))).mp hs
  rw [not_or, not_not] at hs'
  have h0 : t.val ≠ 0 := fun e => hs'.1 ((crd_val hT t).trans e)
  refine ⟨h0, ?_⟩
  have h1 : upTo hT (t.val - 1) = ⟨t.val - 1, by omega⟩ := Fin.ext (by show min (t.val - 1) (used nu - 1) = t.val - 1; omega)
  rw [upTo_used hT t h, h1]
  refine Fin.ext ?_
  have e : be (at324 (pt hT t)) = be (at324 (pt hT ⟨t.val - 1, by omega⟩)) := ?_
  · have e2 : (be (at324 (pt hT t))).toNat = (be (at324 (pt hT ⟨t.val - 1, by omega⟩))).toNat := by rw [e]
    exact e2
  refine Eq.trans ?_ (hs'.2.trans ?_)
  · exact congrArg (fun k : Fin 324 => be (at324 k)) (crd_eq hT t).symm
  · refine congrArg (fun k : Fin 324 => be (at324 k)) (Fin.ext ?_)
    show ((crd hT t) 0).val - 1 = t.val - 1
    rw [crd_val]

/-- so the kept weights are the right ones still. -/
theorem keptGate_same (c : Dev nD) (t : Fin (cfgA hT).N) (h : t.val < used nu) (hs : ¬Changed be (crd hT t)) :
    keptGate hT m ρ c t.val = keptGate hT m ρ c (t.val - 1) := by
  unfold keptGate
  refine congrArg gateCopy (funext fun y => ?_)
  exact (blkAt_gate hT m ρ c _ y).trans ((congrArg (fun e => m ((c : Thread nD τ).loc main_arg3) (ix3 e (y 1) (y 2))) (expert_same hT t h hs).2).trans (blkAt_gate hT m ρ c _ y).symm)
theorem keptUp_same (c : Dev nD) (t : Fin (cfgA hT).N) (h : t.val < used nu) (hs : ¬Changed be (crd hT t)) :
    keptUp hT m ρ c t.val = keptUp hT m ρ c (t.val - 1) := by
  unfold keptUp
  refine congrArg upCopy (funext fun y => ?_)
  exact (blkAt_up hT m ρ c _ y).trans ((congrArg (fun e => m ((c : Thread nD τ).loc main_arg4) (ix3 e (y 1) (y 2))) (expert_same hT t h hs).2).trans (blkAt_up hT m ρ c _ y).symm)
theorem keptDown_same (c : Dev nD) (t : Fin (cfgA hT).N) (h : t.val < used nu) (hs : ¬Changed be (crd hT t)) :
    keptDown hT m ρ c t.val = keptDown hT m ρ c (t.val - 1) := by
  unfold keptDown
  refine congrArg downCopy (funext fun y => ?_)
  exact (blkAt_down hT m ρ c _ y).trans ((congrArg (fun e => m ((c : Thread nD τ).loc main_arg5) (ix3 e (y 1) (y 2))) (expert_same hT t h hs).2).trans (blkAt_down hT m ρ c _ y).symm)

/-! ## The data -/

/-- Between points: past the first, the kept weights are what they should be; the body's halves of the tables. -/
def between (c : Dev nD) (t : Fin ((cfgA hT).N + 1)) : sProp 𝕄 :=
  iprop((∃ a, ⌜t.val ≠ 0 → a = keptGate hT m ρ c (t.val - 1)⌝ ∗ (scM0_0.view.loc (c : Thread nD τ) ↦{fullShare} a))
    ∗ (∃ a, ⌜t.val ≠ 0 → a = keptUp hT m ρ c (t.val - 1)⌝ ∗ (scM0_1.view.loc (c : Thread nD τ) ↦{fullShare} a))
    ∗ (∃ a, ⌜t.val ≠ 0 → a = keptDown hT m ρ c (t.val - 1)⌝ ∗ (scM0_2.view.loc (c : Thread nD τ) ↦{fullShare} a))
    ∗ (tbM0_0.view.loc (c : Thread nD τ) ↦{fullShare.right} be) ∗ (tbM0_1.view.loc (c : Thread nD τ) ↦{fullShare.right} nu))

/-- The pipeline's data on one core. -/
def dats (_ : Fin 1) (c : Dev nD) : Dat τ (Elt Ideal) Unit ℕ (UR sig nD τ) ℕ (cfgA hT) c where
  A w := (s₀ m ρ).mem (((cfgA hT).win w).arr.view.loc (c : Thread nD τ))
  after w t := match w with
    | ⟨0, _⟩ => blkAt hT m ρ c (0 : Fin 5) t
    | ⟨1, _⟩ => blkAt hT m ρ c (1 : Fin 5) t
    | ⟨2, _⟩ => blkAt hT m ρ c (2 : Fin 5) t
    | ⟨3, _⟩ => blkAt hT m ρ c (3 : Fin 5) t
    | ⟨4, _⟩ => results hT m ρ c t.val
  Φ t := between hT m ρ c t
  q _ := fullShare
  owed _ := 0

theorem after_xs (c : Dev nD) (t : Fin (cfgA hT).N) : (dats hT m ρ 0 c).after (0 : Fin 5) t = blkAt hT m ρ c (0 : Fin 5) t := rfl
theorem after_gate (c : Dev nD) (t : Fin (cfgA hT).N) : (dats hT m ρ 0 c).after (1 : Fin 5) t = blkAt hT m ρ c (1 : Fin 5) t := rfl
theorem after_up (c : Dev nD) (t : Fin (cfgA hT).N) : (dats hT m ρ 0 c).after (2 : Fin 5) t = blkAt hT m ρ c (2 : Fin 5) t := rfl
theorem after_down (c : Dev nD) (t : Fin (cfgA hT).N) : (dats hT m ρ 0 c).after (3 : Fin 5) t = blkAt hT m ρ c (3 : Fin 5) t := rfl
theorem after_out (c : Dev nD) (t : Fin (cfgA hT).N) : (dats hT m ρ 0 c).after (4 : Fin 5) t = results hT m ρ c t.val := rfl

/-! ## What the staging buffers hold when the body runs -/

theorem before_xs (c : Dev nD) (t : Fin (cfgA hT).N) (d) : (dats hT m ρ 0 c).before (0 : Fin 5) t d = blkAt hT m ρ c (0 : Fin 5) t :=
  ((dats hT m ρ 0 c).before_in_eq_fetched (0 : Fin 5) rfl (fun _ => rfl) (fun _ _ _ => rfl) (fun t => by rw [after_xs]; unfold Dat.blockOf blkAt; rfl) t d).trans
    (by unfold Dat.fetched Dat.blockOf blkAt; rfl)
theorem before_gate (c : Dev nD) (t : Fin (cfgA hT).N) (d) : (dats hT m ρ 0 c).before (1 : Fin 5) t d = blkAt hT m ρ c (1 : Fin 5) t :=
  ((dats hT m ρ 0 c).before_in_eq_fetched (1 : Fin 5) rfl (fun _ => rfl) (fun _ _ _ => rfl) (fun t => by rw [after_gate]; unfold Dat.blockOf blkAt; rfl) t d).trans
    (by unfold Dat.fetched Dat.blockOf blkAt; rfl)
theorem before_up (c : Dev nD) (t : Fin (cfgA hT).N) (d) : (dats hT m ρ 0 c).before (2 : Fin 5) t d = blkAt hT m ρ c (2 : Fin 5) t :=
  ((dats hT m ρ 0 c).before_in_eq_fetched (2 : Fin 5) rfl (fun _ => rfl) (fun _ _ _ => rfl) (fun t => by rw [after_up]; unfold Dat.blockOf blkAt; rfl) t d).trans
    (by unfold Dat.fetched Dat.blockOf blkAt; rfl)
theorem before_down (c : Dev nD) (t : Fin (cfgA hT).N) (d) : (dats hT m ρ 0 c).before (3 : Fin 5) t d = blkAt hT m ρ c (3 : Fin 5) t :=
  ((dats hT m ρ 0 c).before_in_eq_fetched (3 : Fin 5) rfl (fun _ => rfl) (fun _ _ _ => rfl) (fun t => by rw [after_down]; unfold Dat.blockOf blkAt; rfl) t d).trans
    (by unfold Dat.fetched Dat.blockOf blkAt; rfl)

/-- An idle point leaves the results as they were. -/
theorem carried (c : Dev nD) : ∀ (t : Fin (cfgA hT).N) (ht : t.val ≠ 0), (cfgA hT).idle (4 : Fin 5) ((cfgA hT).grid.coords t) = true → (cfgA hT).fresh (4 : Fin 5) t.val = false →
    (dats hT m ρ 0 c).after (4 : Fin 5) t = (dats hT m ρ 0 c).after (4 : Fin 5) ⟨t.val - 1, by omega⟩ := by
  intro t ht hi hf
  rw [after_out, after_out]
  rw [idle_eq, Bool.not_eq_true', decide_eq_false_iff_not] at hi
  exact results_idle hT m ρ c t hi

/-- The output's buffer: anything where nothing is stored in it since it was last written back, the results before otherwise. -/
theorem before_out (c : Dev nD) (t : Fin (cfgA hT).N) (d) :
    (dats hT m ρ 0 c).before (4 : Fin 5) t d = if (cfgA hT).fresh (4 : Fin 5) t.val then d else results hT m ρ c (t.val - 1) := by
  rw [(dats hT m ρ 0 c).before_out_traj (4 : Fin 5) rfl (fun _ _ => rfl) (carried hT m ρ c) t.val t rfl d]
  rfl

end Cert.KernelIdeal.Exp

end
-- ==== Proof.IdealFrame.lean ====
/- The frame and the final arrays of the experts' call at tables made by the routing: the body's obligation at a point, path
   by path, and the launch. -/
module

public import proofs.«01_k».proof.Proof.IdealData
public import Idealize.ShloMosaic.Lib.Pipeline.Quiescent
public import Idealize.ShloMosaic.Lib.Claim
public import Idealize.ShloMosaic.Lib.Affine
public import Idealize.ShloMosaic.PureOps.Ideal
public import Idealize.ShloMosaic.Adequacy
public import Idealize.ShloMosaic.Init

@[expose] public section

set_option maxRecDepth 16384
set_option Elab.async false

noncomputable section

namespace Cert.KernelIdeal.Exp

open Cert.KernelIdeal Cert.KernelIdeal.Gen Experts
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable {be : S324.Idx → BitVec 32} {nu : S1.Idx → BitVec 32} (hT : Tabs be nu)
variable (m : (ℓ : Loc nD τ sig) → Buf (Elt Ideal) ℓ) (ρ : Dev nD → PrngReg)

/-- The body at a point, on its staging memrefs. -/
abbrev bodyAt (t : Fin (cfgA hT).N) : Prog (TpuEff nD τ sig (Elt Ideal) Λ₀ .tc) PUnit :=
  cc0_moe_experts (crd hT t) (Memref.whole main_arg1) (Memref.isWhole_whole _) (Memref.whole main_arg2) (Memref.isWhole_whole _) (stXs hT t) (whXs hT t) (stGate hT t) (whGate hT t) (stUp hT t) (whUp hT t) (stDown hT t) (whDown hT t) (stOut hT t) (whOut hT t) (Memref.whole cc0_scratch0) (Memref.isWhole_whole _) (Memref.whole cc0_scratch1) (Memref.isWhole_whole _) (Memref.whole cc0_scratch2) (Memref.isWhole_whole _)

set_option maxHeartbeats 4000000 in
/-- The body at a point keeps the data: where the expert changes it copies the weights and writes the results, where it stays it
    writes them with the kept copies, past the used points it does nothing. -/
theorem body_keeps (c : Dev nD) (t : Fin (cfgA hT).N) :
    iprop((dats hT m ρ 0 c).Φ t.castSucc ∗ (dats hT m ρ 0 c).owesAt () t.castSucc
        ∗ (∃ d, owns (c : Thread nD τ) (stXs hT t) fullShare ((dats hT m ρ 0 c).before (0 : Fin 5) t d))
        ∗ (∃ d, owns (c : Thread nD τ) (stGate hT t) fullShare ((dats hT m ρ 0 c).before (1 : Fin 5) t d))
        ∗ (∃ d, owns (c : Thread nD τ) (stUp hT t) fullShare ((dats hT m ρ 0 c).before (2 : Fin 5) t d))
        ∗ (∃ d, owns (c : Thread nD τ) (stDown hT t) fullShare ((dats hT m ρ 0 c).before (3 : Fin 5) t d))
        ∗ (∃ d, owns (c : Thread nD τ) (stOut hT t) fullShare ((dats hT m ρ 0 c).before (4 : Fin 5) t d)))
      ⊢ wp frame (wpE (defs₀ (F := Ideal)) Variants.none c none) Set.univ (bodyAt hT t) fun _ =>
          iprop((dats hT m ρ 0 c).Φ t.succ ∗ (dats hT m ρ 0 c).owesAt () t.succ
            ∗ bigSep Finset.univ fun w : Fin (cfgA hT).W =>
                match (cfgA hT).idle w ((cfgA hT).grid.coords t) with
                | true =>
                  match ((cfgA hT).win w).flush t with
                  | false => iprop(∃ d, owns (c : Thread nD τ) (((cfgA hT).win w).stage ((cfgA hT).slots t w)) fullShare ((dats hT m ρ 0 c).before w t d))
                  | true => owns (c : Thread nD τ) (((cfgA hT).win w).stage ((cfgA hT).slots t w)) fullShare ((dats hT m ρ 0 c).after w t)
                | false => owns (c : Thread nD τ) (((cfgA hT).win w).stage ((cfgA hT).slots t w)) fullShare ((dats hT m ρ 0 c).after w t)) := by
  rw [bigSep_W0]
  have hlt : t.val < 324 := t.isLt
  by_cases hu : t.val < used nu
  · have fi : (cfgA hT).idle (4 : Fin 5) ((cfgA hT).grid.coords t) = false := by rw [idle_eq, decide_eq_true hu]; rfl
    have fr : (cfgA hT).fresh (4 : Fin 5) t.val = true := by rw [fresh_eq hT t.val hlt, decide_eq_true hu]
    have h1 : InUse nu (crd hT t) := (inUse_iff hT t).mpr hu
    by_cases h2 : Changed be (crd hT t)
    · have hk0 : keptGate hT m ρ c (t.succ.val - 1) = gateCopy (blkAt hT m ρ c (1 : Fin 5) t) := keptGate_used hT m ρ c t hu
      have hk1 : keptUp hT m ρ c (t.succ.val - 1) = upCopy (blkAt hT m ρ c (2 : Fin 5) t) := keptUp_used hT m ρ c t hu
      have hk2 : keptDown hT m ρ c (t.succ.val - 1) = downCopy (blkAt hT m ρ c (3 : Fin 5) t) := keptDown_used hT m ρ c t hu
      have ho : results hT m ρ c t.val = rowsOut (blkAt hT m ρ c (0 : Fin 5) t) (gateCopy (blkAt hT m ρ c (1 : Fin 5) t)) (upCopy (blkAt hT m ρ c (2 : Fin 5) t)) (downCopy (blkAt hT m ρ c (3 : Fin 5) t)) :=
        (results_used hT m ρ c t hu).trans (by rw [keptGate_used hT m ρ c t hu, keptUp_used hT m ρ c t hu, keptDown_used hT m ρ c t hu])
      rewrite [fi]
      simp only [before_xs, before_gate, before_up, before_down, before_out, after_xs, after_gate, after_up, after_down, after_out]
      simp only [fr, Bool.false_eq_true, ↓reduceIte]
      rewrite [show (dats hT m ρ 0 c).Φ t.succ = between hT m ρ c t.succ from rfl, show (dats hT m ρ 0 c).Φ t.castSucc = between hT m ρ c t.castSucc from rfl,
        show (dats hT m ρ 0 c).owesAt () t.succ = (dats hT m ρ 0 c).owesAt () t.castSucc from rfl]
      unfold between
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd hT t) (stXs hT t) (whXs hT t) (stGate hT t) (whGate hT t) (stUp hT t) (whUp hT t) (stDown hT t) (whDown hT t) (stOut hT t) (whOut hT t) be nu (blkAt hT m ρ c (0 : Fin 5) t) (blkAt hT m ρ c (1 : Fin 5) t) (blkAt hT m ρ c (2 : Fin 5) t) (blkAt hT m ρ c (3 : Fin 5) t) h1 h2).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => (gate_changed c _ _ _ _ _ _ _ _ _ _ _ be nu _ _ _ _ h1 h2).trans hk0.symm
        isplitl [HS1]
        · iexists _; isplitr; swap
          · iexact HS1
          · ipureintro; exact fun _ => (up_changed c _ _ _ _ _ _ _ _ _ _ _ be nu _ _ _ _ h1 h2).trans hk1.symm
        isplitl [HS2]
        · iexists _; isplitr; swap
          · iexact HS2
          · ipureintro; exact fun _ => (down_changed c _ _ _ _ _ _ _ _ _ _ _ be nu _ _ _ _ h1 h2).trans hk2.symm
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (cover0_A_4 c _ _ _ _ _ _ _ _ _ _ _ _ _ _ _ _ _ _ _)).trans ((out_changed c _ _ _ _ _ _ _ _ _ _ _ be nu _ _ _ _ h1 h2).trans ho.symm)
    · have hne : t.castSucc.val ≠ 0 := (expert_same hT t hu h2).1
      have hk0 : keptGate hT m ρ c (t.succ.val - 1) = keptGate hT m ρ c (t.castSucc.val - 1) := keptGate_same hT m ρ c t hu h2
      have hk1 : keptUp hT m ρ c (t.succ.val - 1) = keptUp hT m ρ c (t.castSucc.val - 1) := keptUp_same hT m ρ c t hu h2
      have hk2 : keptDown hT m ρ c (t.succ.val - 1) = keptDown hT m ρ c (t.castSucc.val - 1) := keptDown_same hT m ρ c t hu h2
      have ho : results hT m ρ c t.val = rowsOut (blkAt hT m ρ c (0 : Fin 5) t) (keptGate hT m ρ c (t.castSucc.val - 1)) (keptUp hT m ρ c (t.castSucc.val - 1)) (keptDown hT m ρ c (t.castSucc.val - 1)) :=
        (results_used hT m ρ c t hu).trans (by rw [← hk0, ← hk1, ← hk2]; rfl)
      rewrite [fi]
      simp only [before_xs, before_gate, before_up, before_down, before_out, after_xs, after_gate, after_up, after_down, after_out]
      simp only [fr, Bool.false_eq_true, ↓reduceIte]
      rewrite [show (dats hT m ρ 0 c).Φ t.succ = between hT m ρ c t.succ from rfl, show (dats hT m ρ 0 c).Φ t.castSucc = between hT m ρ c t.castSucc from rfl,
        show (dats hT m ρ 0 c).owesAt () t.succ = (dats hT m ρ 0 c).owesAt () t.castSucc from rfl]
      unfold between
      simp only [exists_held hne]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd hT t) (stXs hT t) (whXs hT t) (stGate hT t) (whGate hT t) (stUp hT t) (whUp hT t) (stDown hT t) (whDown hT t) (stOut hT t) (whOut hT t) be nu (blkAt hT m ρ c (0 : Fin 5) t) (blkAt hT m ρ c (1 : Fin 5) t) (blkAt hT m ρ c (2 : Fin 5) t) (blkAt hT m ρ c (3 : Fin 5) t) _ _ _ h1 h2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => hk0.symm
        isplitl [HS1]
        · iexists _; isplitr; swap
          · iexact HS1
          · ipureintro; exact fun _ => hk1.symm
        isplitl [HS2]
        · iexists _; isplitr; swap
          · iexact HS2
          · ipureintro; exact fun _ => hk2.symm
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (cover0_B_4 c _ _ _ _ _ _ _ _ _ _ _ _ _ _ _ _ _ _ _ _ _ _)).trans ((out_same c _ _ _ _ _ _ _ _ _ _ _ be nu _ _ _ _ _ _ _ h1 h2).trans ho.symm)
  · have fi : (cfgA hT).idle (4 : Fin 5) ((cfgA hT).grid.coords t) = true := by rw [idle_eq, decide_eq_false hu]; rfl
    have fr : (cfgA hT).fresh (4 : Fin 5) t.val = false := by rw [fresh_eq hT t.val hlt, decide_eq_false hu]
    have h1 : ¬InUse nu (crd hT t) := fun h => hu ((inUse_iff hT t).mp h)
    have hne : t.castSucc.val ≠ 0 := fun h => hu (by have := used_pos hT; have h' : t.val = 0 := h; omega)
    have hk0 : keptGate hT m ρ c (t.succ.val - 1) = keptGate hT m ρ c (t.castSucc.val - 1) := keptGate_idle hT m ρ c t hu
    have hk1 : keptUp hT m ρ c (t.succ.val - 1) = keptUp hT m ρ c (t.castSucc.val - 1) := keptUp_idle hT m ρ c t hu
    have hk2 : keptDown hT m ρ c (t.succ.val - 1) = keptDown hT m ρ c (t.castSucc.val - 1) := keptDown_idle hT m ρ c t hu
    have ho : results hT m ρ c t.val = results hT m ρ c (t.val - 1) := results_idle hT m ρ c t hu
    cases ff : ((cfgA hT).win (4 : Fin 5)).flush t
    · skip
      rewrite [fi]
      simp only [before_xs, before_gate, before_up, before_down, before_out, after_xs, after_gate, after_up, after_down, after_out, ff, ho]
      simp only [fr, Bool.false_eq_true, ↓reduceIte]
      rewrite [show (dats hT m ρ 0 c).Φ t.succ = between hT m ρ c t.succ from rfl, show (dats hT m ρ 0 c).Φ t.castSucc = between hT m ρ c t.castSucc from rfl,
        show (dats hT m ρ 0 c).owesAt () t.succ = (dats hT m ρ 0 c).owesAt () t.castSucc from rfl]
      unfold between
      simp only [exists_held hne]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd hT t) (stXs hT t) (whXs hT t) (stGate hT t) (whGate hT t) (stUp hT t) (whUp hT t) (stDown hT t) (whDown hT t) (stOut hT t) (whOut hT t) be nu (blkAt hT m ρ c (0 : Fin 5) t) (blkAt hT m ρ c (1 : Fin 5) t) (blkAt hT m ρ c (2 : Fin 5) t) (blkAt hT m ρ c (3 : Fin 5) t) _ _ _ h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; exact fun _ => hk0.symm
        isplitl [HS1]
        · iexists _; isplitr; swap
          · iexact HS1
          · ipureintro; exact fun _ => hk1.symm
        isplitl [HS2]
        · iexists _; isplitr; swap
          · iexact HS2
          · ipureintro; exact fun _ => hk2.symm
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      first | (iexists d4; iexact H4) | iexact H4
    · skip
      rewrite [fi]
      simp only [before_xs, before_gate, before_up, before_down, before_out, after_xs, after_gate, after_up, after_down, after_out, ff, ho]
      simp only [fr, Bool.false_eq_true, ↓reduceIte]
      rewrite [show (dats hT m ρ 0 c).Φ t.succ = between hT m ρ c t.succ from rfl, show (dats hT m ρ 0 c).Φ t.castSucc = between hT m ρ c t.castSucc from rfl,
        show (dats hT m ρ 0 c).owesAt () t.succ = (dats hT m ρ 0 c).owesAt () t.castSucc from rfl]
      unfold between
      simp only [exists_held hne]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd hT t) (stXs hT t) (whXs hT t) (stGate hT t) (whGate hT t) (stUp hT t) (whUp hT t) (stDown hT t) (whDown hT t) (stOut hT t) (whOut hT t) be nu (blkAt hT m ρ c (0 : Fin 5) t) (blkAt hT m ρ c (1 : Fin 5) t) (blkAt hT m ρ c (2 : Fin 5) t) (blkAt hT m ρ c (3 : Fin 5) t) _ _ _ h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; exact fun _ => hk0.symm
        isplitl [HS1]
        · iexists _; isplitr; swap
          · iexact HS1
          · ipureintro; exact fun _ => hk1.symm
        isplitl [HS2]
        · iexists _; isplitr; swap
          · iexact HS2
          · ipureintro; exact fun _ => hk2.symm
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      first | (iexists d4; iexact H4) | iexact H4

/-- The library's obligation, at every point. -/
theorem obligation (c : Dev nD) : BodyObligation (dats hT m ρ 0 c) (defs₀ (F := Ideal)) Variants.none () Set.univ := fun t => by
  rw [bigSep_W0]
  exact body_keeps hT m ρ c t

/-! ## The launch -/

/-- The launch's element of the pipeline's resources. -/
def u₀ : UR sig nD τ :=
  initOf (Pipeline.cells (pcs hT) ((launch0 (F := Ideal)).cellOf_inj fun _ => adm hT))
    (Pipeline.launchToks (pcs hT) ((launch0 (F := Ideal)).cellOf_inj fun _ => adm hT))

theorem share_full (c : Dev nD) (w : Fin (cfgA hT).W) : (dats hT m ρ 0 c).share w = fullShare := by unfold Dat.share; split <;> rfl

/-- The two tables, one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Before the first point: the tables and the scratch buffers, holding anything. -/
theorem at_start (c : Dev nD) :
    iprop(BI.emp ∗ Pipeline.prefHeld pre0 c (fun _ => fullShare.right) (adm hT).1 ∗ Pipeline.scopedRest spec0 c) ⊢ (dats hT m ρ 0 c).Φ 0 := by
  rw [tables_held, scopedRest0_eq, show (dats hT m ρ 0 c).Φ 0 = between hT m ρ c 0 from rfl]
  unfold between
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  iexact HT1

/-- After the last one: the scratch buffers given back. -/
theorem at_end (c : Dev nD) : (dats hT m ρ 0 c).Φ (Fin.last (cfgA hT).N) ⊢ iprop(BI.emp ∗ Pipeline.scopedRest spec0 c) := by
  rw [scopedRest0_eq, show (dats hT m ρ 0 c).Φ (Fin.last (cfgA hT).N) = between hT m ρ c (Fin.last _) from rfl]
  unfold between
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the run leaves: every array as the data compute it, both tables as they were. -/
def Leaves : PUnit × MemSt nD τ sig (Elt Ideal) → Prop := fun r =>
  ∀ c : Dev nD, (∀ w : Fin (cfgA hT).W, r.2.mem (((cfgA hT).win w).arr.view.loc (c : Thread nD τ)) = (dats hT m ρ 0 c).arrAt w (cfgA hT).N)
    ∧ ∀ j, r.2.mem ((c : Thread nD τ).loc (pre0.ref j)) = (adm hT).1 j

variable (hbe : ∀ c : Dev nD, m ((c : Thread nD τ).loc main_arg1) = be) (hnu : ∀ c : Dev nD, m ((c : Thread nD τ).loc main_arg2) = nu)
include hbe hnu

theorem tables_at (c : Dev nD) (j : Fin 2) : m ((c : Thread nD τ).loc (pre0.ref j)) = (adm hT).1 j := by
  fin_cases j
  · exact hbe c
  · exact hnu c

set_option backward.isDefEq.respectTransparency.types false in
set_option maxHeartbeats 4000000 in
/-- Every fair execution of the call from a memory holding the tables ends, with the arrays as computed and every semaphore
    counter at zero. -/
theorem runs : θ_run (defs (F := Ideal)) (onTc (τ := τ) (main (F := Ideal))) (s₀ m ρ) (fun r => Leaves hT m ρ r ∧ r.2.sem = fun _ => 0) :=
  Pipeline.θ_run_region_noSem_pf_quiescent pcfgs (fun _ => adm hT) (dats hT m ρ) () ((launch0 (F := Ideal)).cellOf_inj fun _ => adm hT) (0 : Fin 1)
    (launch0 (F := Ideal)).win.to₀ (launch0 (F := Ideal)).pre EP defs₀ Variants.none m ρ main
    (hbody := fun c => (obligation hT m ρ c).loose) (hne := (launch0 (F := Ideal)).block_pos)
    (harr := (launch0 (F := Ideal)).arr_whole) (hstage := (launch0 (F := Ideal)).stage_whole) (howed := fun _ _ => rfl)
    (u₀ := u₀ hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hT) (dats hT m ρ) 0 (launch0 (F := Ideal)).win.arr_inj c (launch0 (F := Ideal)).arr_whole
      (share_full hT m ρ c) _ _ fun _ => rfl)
    (hpf := tables_at hT m hbe hnu)
    (X := fun _ => iprop(emp)) (Y := fun _ => iprop(emp)) (Z := fun _ => iprop(emp))
    (hX := fun c => by rw [unscopedRestP0_eq]; iintro -; isplitr <;> iempintro)
    (hin := at_start hT m ρ)
    (hout := at_end hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments, among what the run leaves. -/
theorem leaves_args {r : PUnit × MemSt nD τ sig (Elt Ideal)} (h : Leaves hT m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats hT m ρ 0 c).arrAt_in (0 : Fin 5) rfl _), ((h c).2 0).trans (hbe c).symm, ((h c).2 1).trans (hnu c).symm,
    ((h c).1 (1 : Fin 5)).trans ((dats hT m ρ 0 c).arrAt_in (1 : Fin 5) rfl _), ((h c).1 (2 : Fin 5)).trans ((dats hT m ρ 0 c).arrAt_in (2 : Fin 5) rfl _),
    ((h c).1 (3 : Fin 5)).trans ((dats hT m ρ 0 c).arrAt_in (3 : Fin 5) rfl _)⟩

end Cert.KernelIdeal.Exp

end
-- ==== Proof.RowValue.lean ====
/- One expert's results as a plain formula over the extended reals, and the gather of a block's matrix. -/
module

public import proofs.«01_k».proof.Proof.Words
public import Idealize.ShloMosaic.Lib.Pointwise

@[expose] public section

set_option maxRecDepth 16384

noncomputable section

namespace Experts

open Idealize.ShloMosaic

/-- A hidden unit: the gate's product under the swish, times the up product. -/
def hiddenUnit (x : Fin 2048 → EReal) (g u : Fin 2048 → Fin 512 → EReal) (k : Fin 512) : EReal :=
  (∑ i : Fin 2048, x i * g i k) * Ideal.logistic (∑ i : Fin 2048, x i * g i k) * ∑ i : Fin 2048, x i * u i k

/-- An expert applied to a row: the hidden units through the down matrix. -/
def expertRow (x : Fin 2048 → EReal) (g u : Fin 2048 → Fin 512 → EReal) (d : Fin 512 → Fin 2048 → EReal) (b : Fin 2048) : EReal :=
  ∑ k : Fin 512, hiddenUnit x g u k * d k b

/-- The expert of a row: the one the table gives the row's block. -/
def rowExpert {be : (⟨1, ![324]⟩ : Shape).Idx → BitVec 32} {nu : (⟨1, ![1]⟩ : Shape).Idx → BitVec 32} (hT : Tabs be nu) (r : Fin 82944) : Fin 64 :=
  ⟨(be (at324 ⟨r.val / 256, by omega⟩)).toNat, hT.be_lt _⟩

/-- Every row through its expert. -/
def expertsOut {be : (⟨1, ![324]⟩ : Shape).Idx → BitVec 32} {nu : (⟨1, ![1]⟩ : Shape).Idx → BitVec 32} (hT : Tabs be nu)
    (xs : (⟨2, ![82944, 2048]⟩ : Shape).Idx → EReal) (wg wu : (⟨3, ![64, 2048, 512]⟩ : Shape).Idx → EReal)
    (wd : (⟨3, ![64, 512, 2048]⟩ : Shape).Idx → EReal) (i : (⟨2, ![82944, 2048]⟩ : Shape).Idx) : EReal :=
  expertRow (fun k => xs (ix2 (i 0) k)) (fun k j => wg (ix3 (rowExpert hT (i 0)) k j)) (fun k j => wu (ix3 (rowExpert hT (i 0)) k j))
    (fun k j => wd (ix3 (rowExpert hT (i 0)) k j)) (i 1)

/-- The dimension numbers with which the reference takes a block's matrix out of the stack of experts. -/
abbrev takeMatrix (A B : ℕ)
    (wf : GatherDims.WF ⟨3, ![64, A, B]⟩ ⟨2, ![324, 3]⟩ ⟨4, ![324, 1, A, B]⟩ [1, 2, 3] [] [] [0, 1, 2] [] 1 ![1, A, B]) :
    GatherDims ⟨3, ![64, A, B]⟩ ⟨2, ![324, 3]⟩ ⟨4, ![324, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

/-- That gather at an index: the matrix of the expert that the first index word of the block names, when it names one. -/
theorem takeMatrix_apply {α : Type} {A B : ℕ}
    (wf : GatherDims.WF ⟨3, ![64, A, B]⟩ ⟨2, ![324, 3]⟩ ⟨4, ![324, 1, A, B]⟩ [1, 2, 3] [] [] [0, 1, 2] [] 1 ![1, A, B])
    (x : (⟨3, ![64, A, B]⟩ : Shape).Idx → α) (idx : IVec ⟨2, ![324, 3]⟩ 32) (t : Fin 324) (z : Fin 1) (a : Fin A) (b : Fin B) (e : Fin 64)
    (h : (idx (ix2 t 0)).toInt.toNat = e.val) :
    Host.gather (takeMatrix A B wf) x idx (ix4 t z a b) = x (ix3 e a b) := by
  unfold Host.gather
  refine congrArg x (funext fun c => Fin.ext ?_)
  show (takeMatrix A B wf).start (ix4 t z a b) idx c + (takeMatrix A B wf).batchCoord (ix4 t z a b) c + (takeMatrix A B wf).offCoord (ix4 t z a b) c = _
  rw [GatherDims.batchCoord_eq_zero _ _ _ List.not_mem_nil, Nat.add_zero]
  match c with
  | ⟨0, _⟩ =>
    have h1 : (takeMatrix A B wf).start (ix4 t z a b) idx 0 = min (idx (ix2 t 0)).toInt.toNat (64 - 1) := by
      unfold GatherDims.start
      rw [dif_pos (show (0 : Fin 3) ∈ (takeMatrix A B wf).startIndexMap from List.mem_cons_self)]
      refine congrArg (fun i : (⟨2, ![324, 3]⟩ : Shape).Idx => min (idx i).toInt.toNat (64 - 1)) ?_
      funext b'; refine Fin.ext ?_
      match b' with
      | ⟨0, _⟩ => rfl
      | ⟨1, _⟩ => rfl
    have h2 : (takeMatrix A B wf).offCoord (ix4 t z a b) 0 = z.val := rfl
    have hz := z.isLt
    have he := e.isLt
    refine (congrArg₂ (· + ·) h1 h2).trans ?_
    rw [h]
    show min e.val (64 - 1) + z.val = e.val
    omega
  | ⟨1, _⟩ =>
    have h1 : (takeMatrix A B wf).start (ix4 t z a b) idx 1 = 0 := by
      have := (takeMatrix A B wf).start_le (ix4 t z a b) idx 1
      have e : (⟨3, ![64, A, B]⟩ : Shape).size 1 - (takeMatrix A B wf).sliceSizes 1 = 0 := Nat.sub_self A
      omega
    have h2 : (takeMatrix A B wf).offCoord (ix4 t z a b) 1 = a.val := rfl
    exact (congrArg₂ (· + ·) h1 h2).trans (Nat.zero_add _)
  | ⟨2, _⟩ =>
    have h1 : (takeMatrix A B wf).start (ix4 t z a b) idx 2 = 0 := by
      have := (takeMatrix A B wf).start_le (ix4 t z a b) idx 2
      have e : (⟨3, ![64, A, B]⟩ : Shape).size 2 - (takeMatrix A B wf).sliceSizes 2 = 0 := Nat.sub_self B
      omega
    have h2 : (takeMatrix A B wf).offCoord (ix4 t z a b) 2 = b.val := rfl
    exact (congrArg₂ (· + ·) h1 h2).trans (Nat.zero_add _)

end Experts

end
-- ==== Proof.IdealValue.lean ====
/- The experts' call over the extended reals: the rows of the used blocks end as every row through its expert. -/
module

public import proofs.«01_k».proof.Proof.IdealFrame
public import proofs.«01_k».proof.Proof.RowValue

@[expose] public section

set_option maxRecDepth 16384
set_option Elab.async false

noncomputable section

namespace Cert.KernelIdeal.Exp

open Cert.KernelIdeal Cert.KernelIdeal.Gen Experts
open Idealize.ShloMosaic
open Idealize.ShloMosaic.TcCoe
open Idealize.ShloMosaic.Pipeline (Dat)

variable {be : S324.Idx → BitVec 32} {nu : S1.Idx → BitVec 32} (hT : Tabs be nu)
variable (m : (ℓ : Loc nD τ sig) → Buf (Elt Ideal) ℓ) (ρ : Dev nD → PrngReg)

/-- The body's block product at an index: the block's row through the matrices. -/
theorem rowsOut_apply (x : S256x2048.Idx → Elt Ideal .f32) (g u : S1x2048x512.Idx → Elt Ideal .f32) (d : S1x512x2048.Idx → Elt Ideal .f32)
    (a : Fin 256) (b : Fin 2048) :
    rowsOut x (gateCopy g) (upCopy u) (downCopy d) (ix2 a b)
      = expertRow (fun k => x (ix2 a k)) (fun k j => g (ix3 0 k j)) (fun k j => u (ix3 0 k j)) (fun k j => d (ix3 0 k j)) b := by
  unfold expertRow hiddenUnit
  pointwise [rowsOut, gateCopy, upCopy, downCopy, k0_pay1, k0_pay2, k0_pay3, k0_pay4]

/-- The rows' block of a point lies at its row block's rows. -/
theorem row_lt (t : Fin (cfgA hT).N) (a : Fin 256) : min t.val (used nu - 1) * 256 + a.val < 82944 := by
  have h := used_le hT; have h' := used_pos hT; omega

/-- The row of the whole array at a place of a point's block. -/
abbrev rowAt (t : Fin (cfgA hT).N) (a : Fin 256) : Fin 82944 := ⟨min t.val (used nu - 1) * 256 + a.val, row_lt hT t a⟩

/-- Where the rows' block of a point sits, -/
theorem emb_xs (t : Fin (cfgA hT).N) (a : Fin 256) (b : Fin 2048) : (((cfgA hT).win (0 : Fin 5)).rect t).emb (ix2 a b) = ix2 (rowAt hT t a) b := by
  have h : ∀ x : Fin 2, ((((cfgA hT).win (0 : Fin 5)).rect t).emb (ix2 a b) x : Nat) = (![min t.val (used nu - 1), 0] : Fin 2 → ℕ) x * S256x2048.size x + ((ix2 a b : S256x2048.Idx) x).val := fun x => by
    refine (Pipeline.Window.rect_emb_val ((cfgA hT).win (0 : Fin 5)) t (ix2 a b) x).trans ?_
    rw [index_xs]
  funext x
  match x with
  | ⟨0, _⟩ => exact Fin.ext (h 0)
  | ⟨1, _⟩ => exact Fin.ext ((h 1).trans (by show 0 * 2048 + b.val = b.val; omega))

/-- and where its results' block does. -/
theorem emb_out (t : Fin (cfgA hT).N) (a : Fin 256) (b : Fin 2048) : (((cfgA hT).win (4 : Fin 5)).rect t).emb (ix2 a b) = ix2 (rowAt hT t a) b := by
  have h : ∀ x : Fin 2, ((((cfgA hT).win (4 : Fin 5)).rect t).emb (ix2 a b) x : Nat) = (![min t.val (used nu - 1), 0] : Fin 2 → ℕ) x * S256x2048.size x + ((ix2 a b : S256x2048.Idx) x).val := fun x => by
    refine (Pipeline.Window.rect_emb_val ((cfgA hT).win (4 : Fin 5)) t (ix2 a b) x).trans ?_
    rw [index_rows]
  funext x
  match x with
  | ⟨0, _⟩ => exact Fin.ext (h 0)
  | ⟨1, _⟩ => exact Fin.ext ((h 1).trans (by show 0 * 2048 + b.val = b.val; omega))

theorem blkAt_xs (c : Dev nD) (t : Fin (cfgA hT).N) (a : Fin 256) (b : Fin 2048) :
    blkAt hT m ρ c (0 : Fin 5) t (ix2 a b) = m ((c : Thread nD τ).loc main_arg0) (ix2 (rowAt hT t a) b) :=
  congrArg (m ((c : Thread nD τ).loc main_arg0)) (emb_xs hT t a b)

/-- The whole-array contents the used blocks are blocks of. -/
def whole (c : Dev nD) : S82944x2048.Idx → EReal :=
  expertsOut hT (m ((c : Thread nD τ).loc main_arg0)) (m ((c : Thread nD τ).loc main_arg3)) (m ((c : Thread nD τ).loc main_arg4)) (m ((c : Thread nD τ).loc main_arg5))

/-- The expert of a used point is the expert of its rows. -/
theorem expertAt_eq (t : Fin (cfgA hT).N) (ht : t.val < used nu) (a : Fin 256) : expertAt hT t = rowExpert hT (rowAt hT t a) := by
  refine Fin.ext ?_
  have e : (pt hT t : Fin 324) = ⟨(rowAt hT t a).val / 256, by have := (rowAt hT t a).isLt; omega⟩ := by
    refine Fin.ext ?_
    show t.val = (min t.val (used nu - 1) * 256 + a.val) / 256
    have := a.isLt
    omega
  have e2 : (be (at324 (pt hT t))).toNat = (be (at324 ⟨(rowAt hT t a).val / 256, by have := (rowAt hT t a).isLt; omega⟩)).toNat := by rw [e]
  exact e2

theorem used_block (c : Dev nD) (t : Fin (cfgA hT).N) (ht : t.val < used nu) (a : Fin 256) (b : Fin 2048) :
    results hT m ρ c t.val (ix2 a b) = whole hT m c (ix2 (rowAt hT t a) b) := by
  rw [results_used hT m ρ c t ht, keptGate_used hT m ρ c t ht, keptUp_used hT m ρ c t ht, keptDown_used hT m ρ c t ht, rowsOut_apply]
  unfold whole expertsOut
  have hx : ∀ k : Fin 2048, blkAt hT m ρ c (0 : Fin 5) t (ix2 a k) = m ((c : Thread nD τ).loc main_arg0) (ix2 (rowAt hT t a) k) := fun k => blkAt_xs hT m ρ c t a k
  have he := expertAt_eq hT t ht a
  have hg : ∀ (k : Fin 2048) (j : Fin 512), blkAt hT m ρ c (1 : Fin 5) t (ix3 0 k j) = m ((c : Thread nD τ).loc main_arg3) (ix3 (rowExpert hT (rowAt hT t a)) k j) := fun k j => by
    rw [← he]; exact (blkAt_gate hT m ρ c t (ix3 0 k j)).trans (by rw [ix3_eq_valueIdx]; rfl)
  have hu : ∀ (k : Fin 2048) (j : Fin 512), blkAt hT m ρ c (2 : Fin 5) t (ix3 0 k j) = m ((c : Thread nD τ).loc main_arg4) (ix3 (rowExpert hT (rowAt hT t a)) k j) := fun k j => by
    rw [← he]; exact (blkAt_up hT m ρ c t (ix3 0 k j)).trans (by rw [ix3_eq_valueIdx]; rfl)
  have hd : ∀ (k : Fin 512) (j : Fin 2048), blkAt hT m ρ c (3 : Fin 5) t (ix3 0 k j) = m ((c : Thread nD τ).loc main_arg5) (ix3 (rowExpert hT (rowAt hT t a)) k j) := fun k j => by
    rw [← he]; exact (blkAt_down hT m ρ c t (ix3 0 k j)).trans (by rw [ix3_eq_valueIdx]; rfl)
  have h1 := funext hx
  have h2 := funext fun k => funext (hg k)
  have h3 := funext fun k => funext (hu k)
  have h4 := funext fun k => funext (hd k)
  exact (congrArg (fun x => expertRow x _ _ _ b) h1).trans ((congrArg (fun x => expertRow _ x _ _ b) h2).trans
    ((congrArg (fun x => expertRow _ _ x _ b) h3).trans (congrArg (fun x => expertRow _ _ _ x b) h4)))

/-- Every point leaves its block of the whole-array contents in the output's buffer. -/
theorem results_apply (c : Dev nD) (t : Fin (cfgA hT).N) (a : Fin 256) (b : Fin 2048) :
    results hT m ρ c t.val (ix2 a b) = whole hT m c (ix2 (rowAt hT t a) b) := by
  have hu : (upTo hT t.val).val < used nu := by
    have := used_pos hT
    show min t.val (used nu - 1) < used nu
    omega
  have h := used_block hT m ρ c (upTo hT t.val) hu a b
  have e : upTo hT (upTo hT t.val).val = upTo hT t.val := upTo_used hT _ hu
  have e1 : results hT m ρ c (upTo hT t.val).val = results hT m ρ c t.val := by
    unfold results keptGate keptUp keptDown
    rw [e]
  have e2 : rowAt hT (upTo hT t.val) a = rowAt hT t a := Fin.ext (by
    show min (min t.val (used nu - 1)) (used nu - 1) * 256 + a.val = min t.val (used nu - 1) * 256 + a.val
    rw [min_assoc, min_self])
  exact (congrFun e1 (ix2 a b)).symm.trans (h.trans (congrArg (fun r => whole hT m c (ix2 r b)) e2))

/-- What a point writes back is its block of the whole-array contents. -/
theorem flushed_block (c : Dev nD) (t : Fin (cfgA hT).N) :
    (dats hT m ρ 0 c).flushed (4 : Fin 5) t = (((cfgA hT).win (4 : Fin 5)).blk t).view.read (Elt Ideal) (whole hT m c) := by
  have key : ∀ y : S256x2048.Idx, results hT m ρ c t.val y = whole hT m c ((((cfgA hT).win (4 : Fin 5)).rect t).emb y) := fun y => by
    obtain ⟨a, b, rfl⟩ : ∃ (a : Fin 256) (b : Fin 2048), y = ix2 a b := ⟨y 0, y 1, eq_ix2 y⟩
    exact (results_apply hT m ρ c t a b).trans (congrArg (whole hT m c) (emb_out hT t a b).symm)
  exact funext key

/-- The final array, at the rows of the used blocks. -/
theorem final_rows (c : Dev nD) (r : Fin 82944) (b : Fin 2048) (hr : r.val < 256 * used nu) :
    (dats hT m ρ 0 c).arrAt (4 : Fin 5) (cfgA hT).N (ix2 r b) = whole hT m c (ix2 r b) := by
  have hN := N_eq hT
  have hu := used_le hT
  have hp := used_pos hT
  obtain ⟨t, hf, hx⟩ : ∃ t : Fin (cfgA hT).N, ((cfgA hT).win (4 : Fin 5)).flush t = true ∧ min t.val (used nu - 1) = r.val / 256 := by
    by_cases hl : r.val / 256 + 1 < used nu
    · exact ⟨⟨r.val / 256, by omega⟩, (flush_iff hT _).mpr (Or.inr hl), by show min (r.val / 256) (used nu - 1) = _; omega⟩
    · exact ⟨⟨323, by omega⟩, (flush_iff hT _).mpr (Or.inl rfl), by show min 323 (used nu - 1) = _; omega⟩
  have e : ix2 r b = (((cfgA hT).win (4 : Fin 5)).rect t).emb (ix2 (⟨r.val % 256, Nat.mod_lt _ (by omega)⟩ : Fin 256) b) := by
    rw [emb_out]
    refine congrArg (fun r' : Fin 82944 => (ix2 r' b : S82944x2048.Idx)) (Fin.ext ?_)
    show r.val = min t.val (used nu - 1) * 256 + r.val % 256
    rw [hx]; omega
  refine (dats hT m ρ 0 c).arrAt_apply_of_mem (4 : Fin 5) (whole hT m c) (fun t _ => flushed_block hT m ρ c t) _ t _ t.isLt hf ?_
  have h := (((cfgA hT).win (4 : Fin 5)).blk t).view.emb_mem_set (ix2 (⟨r.val % 256, Nat.mod_lt _ (by omega)⟩ : Fin 256) b)
  rw [e]
  exact h

end Cert.KernelIdeal.Exp

end
-- ==== Proof.RefValue.lean ====
/- The reference at an index: the row of its block's expert. -/
module

public import proofs.«01_k».proof.Proof.RowValue
public import proofs.«01_k».proof.Proof.Gen.ReferenceIdeal.Run
public import Idealize.ShloMosaic.Lib.IdealHost

@[expose] public section

set_option maxRecDepth 16384

noncomputable section

namespace Cert.ReferenceIdeal.Exp

open Cert.ReferenceIdeal Cert.ReferenceIdeal.Gen Experts
open Idealize.ShloMosaic Idealize.ShloMosaic.TcCoe

variable {be : S324.Idx → BitVec 32} {nu : S1.Idx → BitVec 32}

/-- The start indices of the three gathers: a block's expert, with a negative one counted from the end, and zeros. -/
def starts (p q : BitVec 32) (be : IVec S324 32) : IVec S324x3 32 :=
  concatenate S324x3 1 [⟨S324x1, broadcastInDim S324x1 ![0] bcast_S324_S324x1_0 (select (cmpi .slt be (broadcastInDim S324 ![] bcast_S_S324 (constantI S_ 32 0#32))) (addi be (broadcastInDim S324 ![] bcast_S_S324 (constantI S_ 32 64#32))) be)⟩,
    ⟨S324x1, broadcastInDim S324x1 ![] bcast_S_S324x1 (select (cmpi .slt (constantI S_ 32 0#32) (constantI S_ 32 0#32)) (addi (constantI S_ 32 0#32) (constantI S_ 32 p)) (constantI S_ 32 0#32))⟩,
    ⟨S324x1, broadcastInDim S324x1 ![] bcast_S_S324x1 (select (cmpi .slt (constantI S_ 32 0#32) (constantI S_ 32 0#32)) (addi (constantI S_ 32 0#32) (constantI S_ 32 q)) (constantI S_ 32 0#32))⟩] concatenates_S324x1_S324x1_S324x1_S324x3_d1

/-- The gate or up matrices of the blocks, -/
def wide (w : FVec Ideal S64x2048x512 .f32) (be : IVec S324 32) : FVec Ideal S324x1x2048x512 .f32 :=
  Host.gather gather_S64x2048x512_S324x3_S324x1x2048x512_123_n_n_n_012_1_12048512 w (starts 2048#32 512#32 be)

/-- and the down matrices. -/
def tall (w : FVec Ideal S64x512x2048 .f32) (be : IVec S324 32) : FVec Ideal S324x1x512x2048 .f32 :=
  Host.gather gather_S64x512x2048_S324x3_S324x1x512x2048_123_n_n_n_012_1_15122048 w (starts 512#32 2048#32 be)

/-- The reference's result as one term of its arguments. -/
def result (xs : FVec Ideal S82944x2048 .f32) (be : IVec S324 32) (wg wu : FVec Ideal S64x2048x512 .f32) (wd : FVec Ideal S64x512x2048 .f32) :
    FVec Ideal S82944x2048 .f32 :=
  shapeCast _ (Host.dotGeneral dot_S324x256x512_S324x512x2048_S324x256x2048_2_1_1_2_0_0 none (mulf (mulf (Host.dotGeneral dot_S324x256x2048_S324x2048x512_S324x256x512_2_1_1_2_0_0 none (shapeCast _ xs shapeCasts_S82944x2048_S324x256x2048) (shapeCast _ (wide wg be) shapeCasts_S324x1x2048x512_S324x2048x512)) (Host.divf (broadcastInDim S324x256x512 ![] bcast_S_S324x256x512 (constant S_ .f32 0x3F800000#32)) (addf (broadcastInDim S324x256x512 ![] bcast_S_S324x256x512 (constant S_ .f32 0x3F800000#32)) (Host.exp (Host.negf (Host.dotGeneral dot_S324x256x2048_S324x2048x512_S324x256x512_2_1_1_2_0_0 none (shapeCast _ xs shapeCasts_S82944x2048_S324x256x2048) (shapeCast _ (wide wg be) shapeCasts_S324x1x2048x512_S324x2048x512))))))) (Host.dotGeneral dot_S324x256x2048_S324x2048x512_S324x256x512_2_1_1_2_0_0 none (shapeCast _ xs shapeCasts_S82944x2048_S324x256x2048) (shapeCast _ (wide wu be) shapeCasts_S324x1x2048x512_S324x2048x512))) (shapeCast _ (tall wd be) shapeCasts_S324x1x512x2048_S324x512x2048)) shapeCasts_S324x256x2048_S82944x2048

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) := by
  unfold Value.res_out0 Value.res_main_v57 result wide tall starts
  rfl

/-- The expert of a block, off the table. -/
abbrev blockExpert (hT : Tabs be nu) (t : Fin 324) : Fin 64 := ⟨(be (at324 t)).toNat, hT.be_lt _⟩

theorem starts_apply (hT : Tabs be nu) (p q : BitVec 32) (t : Fin 324) : (starts p q be (ix2 t 0)).toInt.toNat = (blockExpert hT t).val := by
  have h := hT.be_lt (at324 t)
  have hi : (be (at324 t)).toInt = (be (at324 t)).toNat := BitVec.toInt_eq_toNat_of_lt (by omega)
  have e : starts p q be (ix2 t 0) = be (at324 t) := by
    have hs : IntOp.cmpi .slt (be (at324 t)) 0#32 = 0#1 := by
      show BitVec.ofBool ((be (at324 t)).slt 0#32) = 0#1
      have : (be (at324 t)).slt 0#32 = false := by
        rw [BitVec.slt_eq_decide, hi]; simp
      rw [this]; rfl
    have hx : (ix1 t : (⟨1, ![324]⟩ : Shape).Idx) = at324 t := by
      funext a; match a with | ⟨0, _⟩ => rfl
    pointwise [starts]
    rw [hx, hs]; rfl
  rw [e, hi]
  exact Int.toNat_natCast _

theorem wide_apply (hT : Tabs be nu) (w : FVec Ideal S64x2048x512 .f32) (t : Fin 324) (z : Fin 1) (a : Fin 2048) (b : Fin 512) :
    wide w be (ix4 t z a b) = w (ix3 (blockExpert hT t) a b) :=
  takeMatrix_apply gather_S64x2048x512_S324x3_S324x1x2048x512_123_n_n_n_012_1_12048512.wf w (starts _ _ be) t z a b _ (starts_apply hT _ _ t)

theorem tall_apply (hT : Tabs be nu) (w : FVec Ideal S64x512x2048 .f32) (t : Fin 324) (z : Fin 1) (a : Fin 512) (b : Fin 2048) :
    tall w be (ix4 t z a b) = w (ix3 (blockExpert hT t) a b) :=
  takeMatrix_apply gather_S64x512x2048_S324x3_S324x1x512x2048_123_n_n_n_012_1_15122048.wf w (starts _ _ be) t z a b _ (starts_apply hT _ _ t)

/-- The reference's result is every row through its expert. -/
theorem result_apply (hT : Tabs be nu) (xs : FVec Ideal S82944x2048 .f32) (wg wu : FVec Ideal S64x2048x512 .f32) (wd : FVec Ideal S64x512x2048 .f32)
    (r : Fin 82944) (b : Fin 2048) : result xs be wg wu wd (ix2 r b) = expertsOut hT xs wg wu wd (ix2 r b) := by
  unfold expertsOut expertRow hiddenUnit
  pointwise [result, wide_apply hT, tall_apply hT]
  rfl

end Cert.ReferenceIdeal.Exp

end
-- ==== Proof.Mask.lean ====
/- The rows that the equation is claimed on are those of the used blocks. -/
module

public import proofs.«01_k».proof.Proof.Words
public import proofs.«01_k».proof.Proof.Gen.On_used_rows

@[expose] public section

set_option maxRecDepth 16384

noncomputable section

namespace Experts

open Idealize.ShloMosaic

/-- A row under the mask lies before the end of the used blocks. -/
theorem row_of_mask {F : FTy → Type} [FloatOps F] {be : IVec Cert.On_used_rows.S324 32} {nu : IVec Cert.On_used_rows.S1 32} (hT : Tabs be nu) (a0 a3 a4 a5)
    (i : Cert.On_used_rows.S82944x2048.Idx)
    (h : haveI := Cert.On_used_rows.Gen.facts; Cert.On_used_rows.fn (F := F) a0 be nu a3 a4 a5 i = 1#1) : (i 0).val < 256 * used nu := by
  have e : (BitVec.ofNat 32 (i 0).val).slt (nu (Shape.Idx.ofFin 0) * 256#32) = true := by
    refine (StableHlo.Predicate.ofBool_eq_one_iff _).mp (Eq.trans ?_ h)
    refine congrArg (fun x => BitVec.ofBool ((BitVec.ofNat 32 (i 0).val).slt (nu x * 256#32))) ?_
    funext a; match a with | ⟨0, _⟩ => exact Subsingleton.elim (α := Fin 1) _ _
  have hi : (i 0).val < 82944 := (i 0).isLt
  have hn := hT.nu_le (Shape.Idx.ofFin 0)
  have hu : (nu (Shape.Idx.ofFin 0)).toNat = used nu := rfl
  have e1 : (nu (Shape.Idx.ofFin 0) * 256#32).toNat = used nu * 256 := by
    rw [BitVec.toNat_mul, BitVec.toNat_ofNat, hu]
    exact Nat.mod_eq_of_lt (by omega)
  have e2 : (BitVec.ofNat 32 (i 0).val).toNat = (i 0).val := by
    rw [BitVec.toNat_ofNat]; exact Nat.mod_eq_of_lt (by omega)
  rw [BitVec.slt_eq_decide, BitVec.toInt_eq_toNat_of_lt (by omega), BitVec.toInt_eq_toNat_of_lt (by omega), e1, e2, decide_eq_true_eq] at e
  omega

end Experts

end
-- ==== Proof.MlstmProj.lean ====
/- The mLSTM's input projection over the extended reals: every row against every column of the weights but the gates'. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost

@[expose] public section

set_option maxRecDepth 16384

noncomputable section

namespace Cert.Kernel2Ideal.Proj

open Cert.Kernel2Ideal Cert.Kernel2Ideal.Gen
open Idealize.ShloMosaic Idealize.ShloMosaic.TcCoe

variable (m : (ℓ : Loc nD τ sig) → Buf (Elt Ideal) ℓ)

/-- A row's product with a column of the weights. -/
def proj (x : S8320x2048.Idx → EReal) (w : S2048x8208.Idx → EReal) (y : S8320x8192.Idx) : EReal :=
  ∑ k : Fin 2048, x (ix2 (y 0) k) * w (ix2 k ⟨(y 1).val, by have := (y 1).isLt; show _ < 8208; exact lt_of_lt_of_le this (by decide)⟩)

/-- The body's product at an index of its block. -/
theorem block_apply (x : Vec Ideal S640x2048 .f32) (w : Vec Ideal S2048x1024 .bf16) (a : Fin 640) (b : Fin 1024) :
    k0_pay1 x w (ix2 a b) = ∑ k : Fin 2048, x (ix2 a k) * w (ix2 k b) := by
  pointwise [k0_pay1]

/-- The weights as the region finds them: the argument's columns but the gates'. -/
theorem weights (c : Dev nD) : V m c main_v1 = (fun y => m ((c : Thread nD τ).loc main_arg1) (ix2 (y 0) ⟨(y 1).val, by have := (y 1).isLt; show _ < 8208; exact lt_of_lt_of_le this (by decide)⟩) : S2048x8192.Idx → EReal) := by
  have h : V m c main_v1 = (truncf (F := Ideal) .bf16 (extractStridedSlice S2048x8192 ![0, 0] (m ((c : Thread nD τ).loc main_arg1) : FVec Ideal S2048x8208 .f32) slices_S2048x8208_S2048x8192_0_0) bitsLt_bf16_f32 : FVec Ideal S2048x8192 .bf16) := by
    show StableHlo.after hostOps0 _ (Proc.devRef .tc main_v1) = _
    after_results
  rw [h]
  funext y
  pointwise []

/-- The point's rows. -/
theorem index0 : ∀ t : Fin cfg0.N, win0_0.index t = ![t.val % 13, 0] := (by decide +kernel : ∀ t : Fin grid0.N, win0_0.index t = ![t.val % 13, 0])
/-- The point's columns. -/
theorem index1 : ∀ t : Fin cfg0.N, win0_1.index t = ![0, t.val / 13] := (by decide +kernel : ∀ t : Fin grid0.N, win0_1.index t = ![0, t.val / 13])
/-- The point's block of the result. -/
theorem index2 : ∀ t : Fin cfg0.N, win0_2.index t = ![t.val % 13, t.val / 13] := (by decide +kernel : ∀ t : Fin grid0.N, win0_2.index t = ![t.val % 13, t.val / 13])

/-- The result after every point is the product. -/
theorem final (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨a, b, rfl⟩ : ∃ (a : Fin 640) (b : Fin 1024), y = ix2 a b := ⟨y 0, y 1, eq_ix2 y⟩
  refine (block_apply _ _ a b).trans ?_
  unfold proj
  refine Finset.sum_congr rfl fun k _ => ?_
  blk_simp [iblk]
  rw [weights, V_main_arg0]
  refine congrArg₂ (· * ·) (congrArg (m ((c : Thread nD τ).loc main_arg0)) ?_) (congrArg (m ((c : Thread nD τ).loc main_arg1)) ?_)
  · blk_ext [index0, index2]
  · blk_ext [index1, index2]

end Cert.Kernel2Ideal.Proj

namespace Cert.Reference2Ideal.Proj

open Cert.Reference2Ideal Cert.Reference2Ideal.Gen
open Idealize.ShloMosaic Idealize.ShloMosaic.TcCoe

/-- The reference's result is the same product. -/
theorem result (x : FVec Ideal S8320x2048 .f32) (w : FVec Ideal S2048x8208 .f32) :
    extractStridedSlice S8320x8192 ![0, 0] (Host.dotGeneral dot_S8320x2048_S2048x8208_S8320x8208_1_0_0_1_n_n none x w) slices_S8320x8208_S8320x8192_0_0 = Cert.Kernel2Ideal.Proj.proj x w := by
  funext y
  obtain ⟨a, b, rfl⟩ : ∃ (a : Fin 8320) (b : Fin 8192), y = ix2 a b := ⟨y 0, y 1, eq_ix2 y⟩
  unfold Cert.Kernel2Ideal.Proj.proj
  pointwise []

end Cert.Reference2Ideal.Proj

end
-- ==== Proof.RowNorm.lean ====
/- The layer norm of one row over the extended reals, and the residual row that it takes. -/
module

public import Idealize.ShloMosaic.Lib.Pointwise
public import Idealize.ShloMosaic.Lib.IdealHost

@[expose] public section

noncomputable section

namespace RowNorm

open Idealize.ShloMosaic

/-- The mean of a row's 2048 numbers. -/
def mean (z : Fin 2048 → EReal) : EReal := Ideal.div (∑ k, z k) (Ideal.ofBits .f32 0x45000000#32)

/-- A row, centred, over its deviation, times the scale and plus the shift. -/
def norm (z g s : Fin 2048 → EReal) (b : Fin 2048) : EReal :=
  (z b - mean z) * Ideal.rsqrt (mean (fun k => (z k - mean z) * (z k - mean z)) + Ideal.ofBits .f32 0x3727C5AC#32) * g b + s b

/-- The row that is normalised: the scaled residual and what the layer computed. -/
def residual (r y : Fin 2048 → EReal) (b : Fin 2048) : EReal := Ideal.ofBits .f32 0x3FD744FD#32 * r b + y b

end RowNorm

end
-- ==== Proof.OutProj.lean ====
/- The mixers' output projection over the extended reals: the residual and the product, normalised row by row. -/
module

public import proofs.«01_k».proof.Proof.RowNorm
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Kernel3Ideal.Out

open Cert.Kernel3Ideal Cert.Kernel3Ideal.Gen
open Idealize.ShloMosaic Idealize.ShloMosaic.TcCoe

variable (m : (ℓ : Loc nD τ sig) → Buf (Elt Ideal) ℓ)

/-- Every row through the weights, added to its scaled residual and normalised. -/
def out (x : S8320x2048.Idx → EReal) (w : S2048x2048.Idx → EReal) (r : S8320x2048.Idx → EReal) (g s : S1x2048.Idx → EReal) (y : S8320x2048.Idx) : EReal :=
  RowNorm.norm (RowNorm.residual (fun b => r (ix2 (y 0) b)) (fun b => ∑ k : Fin 2048, x (ix2 (y 0) k) * w (ix2 k b)))
    (fun b => g (ix2 0 b)) (fun b => s (ix2 0 b)) (y 1)

/-- The body's block at an index. -/
theorem block_apply (x : Vec Ideal S320x2048 .f32) (w : Vec Ideal S2048x2048 .bf16) (r : Vec Ideal S320x2048 .f32) (g s : Vec Ideal S1x2048 .f32) (a : Fin 320) (b : Fin 2048) :
    k0_pay1 x w r g s (ix2 a b) = RowNorm.norm (RowNorm.residual (fun b => r (ix2 a b)) (fun b => ∑ k : Fin 2048, x (ix2 a k) * w (ix2 k b)))
      (fun b => g (ix2 0 b)) (fun b => s (ix2 0 b)) b := by
  unfold RowNorm.norm RowNorm.mean RowNorm.residual
  pointwise [k0_pay1]

/-- The row is what its parts are. -/
theorem row_congr {x x' : Fin 2048 → EReal} {w w' : Fin 2048 → Fin 2048 → EReal} {r r' g g' s s' : Fin 2048 → EReal} {b b' : Fin 2048}
    (hx : ∀ k, x k = x' k) (hw : ∀ k j, w k j = w' k j) (hr : ∀ k, r k = r' k) (hg : ∀ k, g k = g' k) (hs : ∀ k, s k = s' k) (hb : b = b') :
    RowNorm.norm (RowNorm.residual r (fun j => ∑ k, x k * w k j)) g s b = RowNorm.norm (RowNorm.residual r' (fun j => ∑ k, x' k * w' k j)) g' s' b' := by
  obtain rfl := funext hx
  obtain rfl := funext fun k => funext (hw k)
  obtain rfl := funext hr
  obtain rfl := funext hg
  obtain rfl := funext hs
  subst hb
  rfl

/-- The weights as the region finds them are the argument's. -/
theorem weights (c : Dev nD) : V m c main_v0 = (m ((c : Thread nD τ).loc main_arg1) : S2048x2048.Idx → EReal) := by
  have h : V m c main_v0 = (truncf (F := Ideal) .bf16 (m ((c : Thread nD τ).loc main_arg1) : FVec Ideal S2048x2048 .f32) bitsLt_bf16_f32 : FVec Ideal S2048x2048 .bf16) := by
    show StableHlo.after hostOps0 _ (Proc.devRef .tc main_v0) = _
    after_results
  rw [h]
  funext y
  pointwise []

/-- The point's rows. -/
theorem index0 : ∀ t : Fin cfg0.N, win0_0.index t = ![t.val, 0] := (by decide +kernel : ∀ t : Fin grid0.N, win0_0.index t = ![t.val, 0])
/-- The point's weights: all. -/
theorem index1 : ∀ t : Fin cfg0.N, win0_1.index t = ![0, 0] := (by decide +kernel : ∀ t : Fin grid0.N, win0_1.index t = ![0, 0])
/-- The point's residual rows. -/
theorem index2 : ∀ t : Fin cfg0.N, win0_2.index t = ![t.val, 0] := (by decide +kernel : ∀ t : Fin grid0.N, win0_2.index t = ![t.val, 0])
/-- The gains: all. -/
theorem index3 : ∀ t : Fin cfg0.N, win0_3.index t = ![0, 0] := (by decide +kernel : ∀ t : Fin grid0.N, win0_3.index t = ![0, 0])
/-- The shifts: all. -/
theorem index4 : ∀ t : Fin cfg0.N, win0_4.index t = ![0, 0] := (by decide +kernel : ∀ t : Fin grid0.N, win0_4.index t = ![0, 0])
/-- The point's block of the result. -/
theorem index5 : ∀ t : Fin cfg0.N, win0_5.index t = ![t.val, 0] := (by decide +kernel : ∀ t : Fin grid0.N, win0_5.index t = ![t.val, 0])

/-- The final array. -/
theorem final (c : Dev nD) : (dats m 0 c).arrAt 5 cfg0.N = out (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; frame_out
  obtain ⟨a, b, rfl⟩ : ∃ (a : Fin 320) (b : Fin 2048), y = ix2 a b := ⟨y 0, y 1, eq_ix2 y⟩
  refine (block_apply _ _ _ _ _ a b).trans ?_
  unfold out
  have e0 : ∀ k : Fin 2048, iblk m c 0 t (ix2 a k) = m ((c : Thread nD τ).loc main_arg0) (ix2 ((win0_5.blk t).view.emb (ix2 a b) 0) k) := fun k => by
    blk_simp [iblk]
    rw [V_main_arg0]
    refine congrArg (m ((c : Thread nD τ).loc main_arg0)) ?_
    blk_ext [index0, index5]
  have e1 : ∀ k j : Fin 2048, iblk m c 1 t (ix2 k j) = m ((c : Thread nD τ).loc main_arg1) (ix2 k j) := fun k j => by
    blk_simp [iblk]
    rw [weights]
    refine congrArg (m ((c : Thread nD τ).loc main_arg1)) ?_
    blk_ext [index1]
  have e2 : ∀ k : Fin 2048, iblk m c 2 t (ix2 a k) = m ((c : Thread nD τ).loc main_arg2) (ix2 ((win0_5.blk t).view.emb (ix2 a b) 0) k) := fun k => by
    blk_simp [iblk]
    rw [V_main_arg2]
    refine congrArg (m ((c : Thread nD τ).loc main_arg2)) ?_
    blk_ext [index2, index5]
  have e3 : ∀ k : Fin 2048, iblk m c 3 t (ix2 0 k) = m ((c : Thread nD τ).loc main_arg3) (ix2 0 k) := fun k => by
    blk_simp [iblk]
    rw [V_main_arg3]
    refine congrArg (m ((c : Thread nD τ).loc main_arg3)) ?_
    blk_ext [index3]
  have e4 : ∀ k : Fin 2048, iblk m c 4 t (ix2 0 k) = m ((c : Thread nD τ).loc main_arg4) (ix2 0 k) := fun k => by
    blk_simp [iblk]
    rw [V_main_arg4]
    refine congrArg (m ((c : Thread nD τ).loc main_arg4)) ?_
    blk_ext [index4]
  have eb : ((win0_5.blk t).view.emb (ix2 a b) 1 : Fin 2048) = b := Fin.ext (by blk_simp [index5])
  exact row_congr e0 e1 e2 e3 e4 eb.symm

end Cert.Kernel3Ideal.Out

namespace Cert.Reference3Ideal.Out

open Cert.Reference3Ideal Cert.Reference3Ideal.Gen
open Idealize.ShloMosaic Idealize.ShloMosaic.TcCoe

/-- The array that the reference normalises, -/
def mixed (a : FVec Ideal S8320x2048 .f32) (w : FVec Ideal S2048x2048 .f32) (res : FVec Ideal S8320x2048 .f32) : FVec Ideal S8320x2048 .f32 :=
  addf (mulf (broadcastInDim S8320x2048 ![] bcast_S_S8320x2048 (constant S_ .f32 0x3FD744FD#32)) res) (Host.dotGeneral dot_S8320x2048_S2048x2048_S8320x2048_1_0_0_1_n_n none a w)

/-- and its layer norm. -/
def normed (z : FVec Ideal S8320x2048 .f32) (g bb : FVec Ideal S1x2048 .f32) : FVec Ideal S8320x2048 .f32 :=
  addf (mulf (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (broadcastInDim S8320x2048 ![0, 1] bcast_S8320x1_S8320x2048_0_1 (Host.rsqrt (addf (Host.divf (broadcastInDim S8320x1 ![0] bcast_S8320_S8320x1_0 (Host.reduceAdd (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32)))))) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 g)) (broadcastInDim S8320x2048 ![0, 1] bcast_S1x2048_S8320x2048_0_1 bb)

/-- The layer norm at an index is that of its row. -/
theorem normed_apply (z : FVec Ideal S8320x2048 .f32) (g bb : FVec Ideal S1x2048 .f32) (a : Fin 8320) (b : Fin 2048) :
    normed z g bb (ix2 a b) = RowNorm.norm (fun k => z (ix2 a k)) (fun k => g (ix2 0 k)) (fun k => bb (ix2 0 k)) b := by
  unfold RowNorm.norm RowNorm.mean
  pointwise [normed]

/-- The reference's result is the same. -/
theorem result (x : FVec Ideal S8320x2048 .f32) (w : FVec Ideal S2048x2048 .f32) (r : FVec Ideal S8320x2048 .f32) (g s : FVec Ideal S1x2048 .f32) :
    normed (mixed x w r) g s = Cert.Kernel3Ideal.Out.out x w r g s := by
  funext y
  obtain ⟨a, b, rfl⟩ : ∃ (a : Fin 8320) (b : Fin 2048), y = ix2 a b := ⟨y 0, y 1, eq_ix2 y⟩
  have h : ∀ k : Fin 2048, mixed x w r (ix2 a k) = RowNorm.residual (fun b => r (ix2 a b)) (fun b => ∑ k : Fin 2048, x (ix2 a k) * w (ix2 k b)) k := fun k => by
    unfold RowNorm.residual
    pointwise [mixed]
  rw [normed_apply, funext h]
  rfl

end Cert.Reference3Ideal.Out

end
-- ==== Proof.Qkv.lean ====
/- The attention's projection to queries, keys and values over the extended reals: every row against every column of its weights. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.IdealHost

@[expose] public section

set_option maxRecDepth 16384

noncomputable section

namespace Cert.Kernel4Ideal.Qkv

open Cert.Kernel4Ideal Cert.Kernel4Ideal.Gen
open Idealize.ShloMosaic Idealize.ShloMosaic.TcCoe

variable (m : (ℓ : Loc nD τ sig) → Buf (Elt Ideal) ℓ)

/-- A row's product with a column of the weights. -/
def proj (x : S8320x2048.Idx → EReal) (w : S2048x2560.Idx → EReal) (y : S8320x2560.Idx) : EReal :=
  ∑ k : Fin 2048, x (ix2 (y 0) k) * w (ix2 k (y 1))

/-- The body's product at an index of its block. -/
theorem block_apply (x : Vec Ideal S640x2048 .f32) (w : Vec Ideal S2048x1280 .bf16) (a : Fin 640) (b : Fin 1280) :
    k0_pay1 x w (ix2 a b) = ∑ k : Fin 2048, x (ix2 a k) * w (ix2 k b) := by
  pointwise [k0_pay1]

/-- The weights as the region finds them: the argument's. -/
theorem weights (c : Dev nD) : V m c main_v0 = (m ((c : Thread nD τ).loc main_arg3) : S2048x2560.Idx → EReal) := by
  have h : V m c main_v0 = (truncf (F := Ideal) .bf16 (m ((c : Thread nD τ).loc main_arg3) : FVec Ideal S2048x2560 .f32) bitsLt_bf16_f32 : FVec Ideal S2048x2560 .bf16) := by
    show StableHlo.after hostOps0 _ (Proc.devRef .tc main_v0) = _
    after_results
  rw [h]
  funext y
  pointwise []

/-- The point's rows. -/
theorem index0 : ∀ t : Fin cfg0.N, win0_0.index t = ![t.val % 13, 0] := (by decide +kernel : ∀ t : Fin grid0.N, win0_0.index t = ![t.val % 13, 0])
/-- The point's columns. -/
theorem index1 : ∀ t : Fin cfg0.N, win0_1.index t = ![0, t.val / 13] := (by decide +kernel : ∀ t : Fin grid0.N, win0_1.index t = ![0, t.val / 13])
/-- The point's block of the result. -/
theorem index2 : ∀ t : Fin cfg0.N, win0_2.index t = ![t.val % 13, t.val / 13] := (by decide +kernel : ∀ t : Fin grid0.N, win0_2.index t = ![t.val % 13, t.val / 13])

/-- The result after every point is the product. -/
theorem final (c : Dev nD) : (dats m 0 c).arrAt 2 cfg0.N = proj (m ((c : Thread nD τ).loc main_arg0)) (m ((c : Thread nD τ).loc main_arg3)) := by
  refine (dats m 0 c).arrAt_eq_of_covers 2 _ (by decide +kernel) fun t hf y => ?_
  blk_simp
  rw [after0_2]; frame_out
  obtain ⟨a, b, rfl⟩ : ∃ (a : Fin 640) (b : Fin 1280), y = ix2 a b := ⟨y 0, y 1, eq_ix2 y⟩
  refine (block_apply _ _ a b).trans ?_
  unfold proj
  refine Finset.sum_congr rfl fun k _ => ?_
  blk_simp [iblk]
  rw [weights, V_main_arg0]
  refine congrArg₂ (· * ·) (congrArg (m ((c : Thread nD τ).loc main_arg0)) ?_) (congrArg (m ((c : Thread nD τ).loc main_arg3)) ?_)
  · blk_ext [index0, index2]
  · blk_ext [index1, index2]

end Cert.Kernel4Ideal.Qkv

namespace Cert.Reference4Ideal.Qkv

open Cert.Reference4Ideal Cert.Reference4Ideal.Gen
open Idealize.ShloMosaic Idealize.ShloMosaic.TcCoe

/-- The reference's product is the same. -/
theorem result (x : FVec Ideal S8320x2048 .f32) (w : FVec Ideal S2048x2560 .f32) :
    Host.dotGeneral dot_S8320x2048_S2048x2560_S8320x2560_1_0_0_1_n_n none x w = Cert.Kernel4Ideal.Qkv.proj x w := by
  funext y
  obtain ⟨a, b, rfl⟩ : ∃ (a : Fin 8320) (b : Fin 2560), y = ix2 a b := ⟨y 0, y 1, eq_ix2 y⟩
  unfold Cert.Kernel4Ideal.Qkv.proj
  pointwise []

end Cert.Reference4Ideal.Qkv

end
-- ==== Proof.Caches.lean ====
/- The new caches: what the host reads out of the projection after the call, and what the reference's last windows are. -/
module

public import proofs.«01_k».proof.Proof.Qkv

@[expose] public section

set_option maxRecDepth 16384

noncomputable section

namespace Caches

open Idealize.ShloMosaic

/-- The projection's rows. -/
abbrev Rows := Shape.mk 2 ![8320, 2560]
/-- The prompt's windows. -/
abbrev Prompt := Shape.mk 4 ![2, 128, 4, 64]
/-- The sampled sequences' windows. -/
abbrev Sample := Shape.mk 4 ![32, 128, 4, 64]

/-- The last window of every prompt sequence, in the columns from `off` on. -/
def prompt (p : Rows.Idx → EReal) (off : Nat) (h : off ≤ 2304) (y : Prompt.Idx) : EReal :=
  p (ix2 ⟨(y 0).val * 4096 + (3968 + (y 1).val), by have := (y 0).isLt; have := (y 1).isLt; simp at *; omega⟩
    ⟨off + ((y 2).val * 64 + (y 3).val), by have := (y 2).isLt; have := (y 3).isLt; simp at *; omega⟩)

/-- The last window of every sampled sequence: its cache but the four oldest, then its four new rows. -/
def sample (q : Sample.Idx → EReal) (p : Rows.Idx → EReal) (off : Nat) (h : off ≤ 2304) (y : Sample.Idx) : EReal :=
  if hb : 4 + (y 1).val < 128 then q (ix4 (y 0) ⟨4 + (y 1).val, hb⟩ (y 2) (y 3))
  else p (ix2 ⟨8192 + ((y 0).val * 4 + (4 + (y 1).val - 128)), by have := (y 0).isLt; have := (y 1).isLt; simp at *; omega⟩
    ⟨off + ((y 2).val * 64 + (y 3).val), by have := (y 2).isLt; have := (y 3).isLt; simp at *; omega⟩)

end Caches

namespace Cert.Kernel4Ideal.Caches

open Cert.Kernel4Ideal Cert.Kernel4Ideal.Gen
open Idealize.ShloMosaic Idealize.ShloMosaic.TcCoe

/-- The keys' window the host takes of the prompt. -/
theorem promptK (p : S8320x2560.Idx → EReal) :
    shapeCast S2x128x4x64 (extractStridedSlice S2x128x256 ![0, 0, 2048] (extractStridedSlice S2x128x2560 ![0, 3968, 0] (shapeCast S2x4096x2560 (extractStridedSlice S8192x2560 ![0, 0] p slices_S8320x2560_S8192x2560_0_0) shapeCasts_S8192x2560_S2x4096x2560) slices_S2x4096x2560_S2x128x2560_0_3968_0) slices_S2x128x2560_S2x128x256_0_0_2048) shapeCasts_S2x128x256_S2x128x4x64
      = _root_.Caches.prompt p 2048 (by decide) := by
  funext y
  obtain ⟨a, b, c, d, rfl⟩ : ∃ (a : Fin 2) (b : Fin 128) (c : Fin 4) (d : Fin 64), y = ix4 a b c d := ⟨y 0, y 1, y 2, y 3, eq_ix4 y⟩
  unfold _root_.Caches.prompt
  pointwise []

/-- The keys' window the host takes of the sampled sequences. -/
theorem sampleK (q : S32x128x4x64.Idx → EReal) (p : S8320x2560.Idx → EReal) :
    shapeCast S32x128x4x64 (extractStridedSlice S32x128x256 ![0, 4, 0] (concatenate S32x132x256 1 [⟨S32x128x256, shapeCast S32x128x256 q shapeCasts_S32x128x4x64_S32x128x256⟩, ⟨S32x4x256, extractStridedSlice S32x4x256 ![0, 0, 2048] (shapeCast S32x4x2560 (extractStridedSlice S128x2560 ![8192, 0] p slices_S8320x2560_S128x2560_8192_0) shapeCasts_S128x2560_S32x4x2560) slices_S32x4x2560_S32x4x256_0_0_2048⟩] concatenates_S32x128x256_S32x4x256_S32x132x256_d1) slices_S32x132x256_S32x128x256_0_4_0) shapeCasts_S32x128x256_S32x128x4x64
      = _root_.Caches.sample q p 2048 (by decide) := by
  funext y
  obtain ⟨a, b, c, d, rfl⟩ : ∃ (a : Fin 32) (b : Fin 128) (c : Fin 4) (d : Fin 64), y = ix4 a b c d := ⟨y 0, y 1, y 2, y 3, eq_ix4 y⟩
  unfold _root_.Caches.sample
  pointwise []

/-- The values' window the host takes of the prompt. -/
theorem promptV (p : S8320x2560.Idx → EReal) :
    shapeCast S2x128x4x64 (extractStridedSlice S2x128x256 ![0, 0, 2304] (extractStridedSlice S2x128x2560 ![0, 3968, 0] (shapeCast S2x4096x2560 (extractStridedSlice S8192x2560 ![0, 0] p slices_S8320x2560_S8192x2560_0_0) shapeCasts_S8192x2560_S2x4096x2560) slices_S2x4096x2560_S2x128x2560_0_3968_0) slices_S2x128x2560_S2x128x256_0_0_2304) shapeCasts_S2x128x256_S2x128x4x64
      = _root_.Caches.prompt p 2304 (by decide) := by
  funext y
  obtain ⟨a, b, c, d, rfl⟩ : ∃ (a : Fin 2) (b : Fin 128) (c : Fin 4) (d : Fin 64), y = ix4 a b c d := ⟨y 0, y 1, y 2, y 3, eq_ix4 y⟩
  unfold _root_.Caches.prompt
  pointwise []

/-- The values' window the host takes of the sampled sequences. -/
theorem sampleV (q : S32x128x4x64.Idx → EReal) (p : S8320x2560.Idx → EReal) :
    shapeCast S32x128x4x64 (extractStridedSlice S32x128x256 ![0, 4, 0] (concatenate S32x132x256 1 [⟨S32x128x256, shapeCast S32x128x256 q shapeCasts_S32x128x4x64_S32x128x256⟩, ⟨S32x4x256, extractStridedSlice S32x4x256 ![0, 0, 2304] (shapeCast S32x4x2560 (extractStridedSlice S128x2560 ![8192, 0] p slices_S8320x2560_S128x2560_8192_0) shapeCasts_S128x2560_S32x4x2560) slices_S32x4x2560_S32x4x256_0_0_2304⟩] concatenates_S32x128x256_S32x4x256_S32x132x256_d1) slices_S32x132x256_S32x128x256_0_4_0) shapeCasts_S32x128x256_S32x128x4x64
      = _root_.Caches.sample q p 2304 (by decide) := by
  funext y
  obtain ⟨a, b, c, d, rfl⟩ : ∃ (a : Fin 32) (b : Fin 128) (c : Fin 4) (d : Fin 64), y = ix4 a b c d := ⟨y 0, y 1, y 2, y 3, eq_ix4 y⟩
  unfold _root_.Caches.sample
  pointwise []

end Cert.Kernel4Ideal.Caches

namespace Cert.Reference4Ideal.Caches

open Cert.Reference4Ideal Cert.Reference4Ideal.Gen
open Idealize.ShloMosaic Idealize.ShloMosaic.TcCoe

/-- The reference's window of the prompt's keys. -/
theorem promptK (p : S8320x2560.Idx → EReal) (z : S2x128x4x64.Idx → EReal) :
    extractStridedSlice S2x128x4x64 ![0, 4096, 0, 0] (concatenate S2x4224x4x64 1 [⟨S2x128x4x64, z⟩, ⟨S2x4096x4x64, shapeCast S2x4096x4x64 (extractStridedSlice S8192x256 ![0, 2048] (extractStridedSlice S8192x2560 ![0, 0] p slices_S8320x2560_S8192x2560_0_0) slices_S8192x2560_S8192x256_0_2048) shapeCasts_S8192x256_S2x4096x4x64⟩] concatenates_S2x128x4x64_S2x4096x4x64_S2x4224x4x64_d1) slices_S2x4224x4x64_S2x128x4x64_0_4096_0_0
      = _root_.Caches.prompt p 2048 (by decide) := by
  funext y
  obtain ⟨a, b, c, d, rfl⟩ : ∃ (a : Fin 2) (b : Fin 128) (c : Fin 4) (d : Fin 64), y = ix4 a b c d := ⟨y 0, y 1, y 2, y 3, eq_ix4 y⟩
  unfold _root_.Caches.prompt
  pointwise []
  rw [dif_neg (by omega)]
  refine congrArg p (congrArg₂ ix2 (Fin.ext ?_) rfl)
  show _ + _ = _ + _
  omega

/-- The reference's window of the sampled sequences' keys. -/
theorem sampleK (q : S32x128x4x64.Idx → EReal) (p : S8320x2560.Idx → EReal) :
    extractStridedSlice S32x128x4x64 ![0, 4, 0, 0] (concatenate S32x132x4x64 1 [⟨S32x128x4x64, q⟩, ⟨S32x4x4x64, shapeCast S32x4x4x64 (extractStridedSlice S128x256 ![0, 2048] (extractStridedSlice S128x2560 ![8192, 0] p slices_S8320x2560_S128x2560_8192_0) slices_S128x2560_S128x256_0_2048) shapeCasts_S128x256_S32x4x4x64⟩] concatenates_S32x128x4x64_S32x4x4x64_S32x132x4x64_d1) slices_S32x132x4x64_S32x128x4x64_0_4_0_0
      = _root_.Caches.sample q p 2048 (by decide) := by
  funext y
  obtain ⟨a, b, c, d, rfl⟩ : ∃ (a : Fin 32) (b : Fin 128) (c : Fin 4) (d : Fin 64), y = ix4 a b c d := ⟨y 0, y 1, y 2, y 3, eq_ix4 y⟩
  unfold _root_.Caches.sample
  pointwise []

/-- The reference's window of the prompt's values. -/
theorem promptV (p : S8320x2560.Idx → EReal) (z : S2x128x4x64.Idx → EReal) :
    extractStridedSlice S2x128x4x64 ![0, 4096, 0, 0] (concatenate S2x4224x4x64 1 [⟨S2x128x4x64, z⟩, ⟨S2x4096x4x64, shapeCast S2x4096x4x64 (extractStridedSlice S8192x256 ![0, 2304] (extractStridedSlice S8192x2560 ![0, 0] p slices_S8320x2560_S8192x2560_0_0) slices_S8192x2560_S8192x256_0_2304) shapeCasts_S8192x256_S2x4096x4x64⟩] concatenates_S2x128x4x64_S2x4096x4x64_S2x4224x4x64_d1) slices_S2x4224x4x64_S2x128x4x64_0_4096_0_0
      = _root_.Caches.prompt p 2304 (by decide) := by
  funext y
  obtain ⟨a, b, c, d, rfl⟩ : ∃ (a : Fin 2) (b : Fin 128) (c : Fin 4) (d : Fin 64), y = ix4 a b c d := ⟨y 0, y 1, y 2, y 3, eq_ix4 y⟩
  unfold _root_.Caches.prompt
  pointwise []
  rw [dif_neg (by omega)]
  refine congrArg p (congrArg₂ ix2 (Fin.ext ?_) rfl)
  show _ + _ = _ + _
  omega

/-- The reference's window of the sampled sequences' values. -/
theorem sampleV (q : S32x128x4x64.Idx → EReal) (p : S8320x2560.Idx → EReal) :
    extractStridedSlice S32x128x4x64 ![0, 4, 0, 0] (concatenate S32x132x4x64 1 [⟨S32x128x4x64, q⟩, ⟨S32x4x4x64, shapeCast S32x4x4x64 (extractStridedSlice S128x256 ![0, 2304] (extractStridedSlice S128x2560 ![8192, 0] p slices_S8320x2560_S128x2560_8192_0) slices_S128x2560_S128x256_0_2304) shapeCasts_S128x256_S32x4x4x64⟩] concatenates_S32x128x4x64_S32x4x4x64_S32x132x4x64_d1) slices_S32x132x4x64_S32x128x4x64_0_4_0_0
      = _root_.Caches.sample q p 2304 (by decide) := by
  funext y
  obtain ⟨a, b, c, d, rfl⟩ : ∃ (a : Fin 32) (b : Fin 128) (c : Fin 4) (d : Fin 64), y = ix4 a b c d := ⟨y 0, y 1, y 2, y 3, eq_ix4 y⟩
  unfold _root_.Caches.sample
  pointwise []

end Cert.Reference4Ideal.Caches

end
-- ==== Proof.CachesRun.lean ====
/- The attention's projection and new caches, run. -/
module

public import proofs.«01_k».proof.Proof.Caches

@[expose] public section

set_option maxRecDepth 16384

noncomputable section

namespace Cert.Kernel4Ideal.Caches

open Cert.Kernel4Ideal Cert.Kernel4Ideal.Gen
open Idealize.SL.Sem
open Idealize.ShloMosaic Idealize.ShloMosaic.TcCoe

variable (m : (ℓ : Loc nD τ sig) → Buf (Elt Ideal) ℓ)

/-- The host's lines after the call leave the prompt's keys. -/
theorem after14 (W : Valuation τ sig (Elt Ideal)) :
    StableHlo.after hostOps1 W (Proc.devRef .tc main_v14) = _root_.Caches.prompt (W (Proc.devRef .tc main_v1)) 2048 (by decide) := by
  refine Eq.trans ?_ (promptK (W (Proc.devRef .tc main_v1)))
  after_results
  rfl

/-- The host's lines after the call leave the prompt's values. -/
theorem after16 (W : Valuation τ sig (Elt Ideal)) :
    StableHlo.after hostOps1 W (Proc.devRef .tc main_v16) = _root_.Caches.prompt (W (Proc.devRef .tc main_v1)) 2304 (by decide) := by
  refine Eq.trans ?_ (promptV (W (Proc.devRef .tc main_v1)))
  after_results
  rfl

/-- The host's lines after the call leave the sampled sequences' keys. -/
theorem after18 (W : Valuation τ sig (Elt Ideal)) :
    StableHlo.after hostOps1 W (Proc.devRef .tc main_v18) = _root_.Caches.sample (W (Proc.devRef .tc main_arg1)) (W (Proc.devRef .tc main_v1)) 2048 (by decide) := by
  refine Eq.trans ?_ (sampleK (W (Proc.devRef .tc main_arg1)) (W (Proc.devRef .tc main_v1)))
  after_results
  rfl

/-- The host's lines after the call leave the sampled sequences' values. -/
theorem after20 (W : Valuation τ sig (Elt Ideal)) :
    StableHlo.after hostOps1 W (Proc.devRef .tc main_v20) = _root_.Caches.sample (W (Proc.devRef .tc main_arg2)) (W (Proc.devRef .tc main_v1)) 2304 (by decide) := by
  refine Eq.trans ?_ (sampleV (W (Proc.devRef .tc main_arg2)) (W (Proc.devRef .tc main_v1)))
  after_results
  rfl

/-- What the lines after the call find in the projection's buffer. -/
theorem exit1 (c : Dev nD) : Pipeline.withArrays (cfgs 0).spec c (V0 m c) (fun w => (dats m 0 c).arrAt w (cfgs 0).N) (Proc.devRef .tc main_v1) = Qkv.proj (m ((c : Thread nD τ).loc main_arg0)) (m ((c : Thread nD τ).loc main_arg3)) :=
  (Pipeline.withArrays_arr (cfgs 0).spec (by decide) c (V0 m c) (fun w => (dats m 0 c).arrAt w (cfgs 0).N) 2).trans (Qkv.final m c)

/-- What they find in the keys' cache. -/
theorem exitK (c : Dev nD) : Pipeline.withArrays (cfgs 0).spec c (V0 m c) (fun w => (dats m 0 c).arrAt w (cfgs 0).N) (Proc.devRef .tc main_arg1) = m ((c : Thread nD τ).loc main_arg1) :=
  (Pipeline.withArrays_of_ne (cfgs 0).spec c (V0 m c) (fun w => (dats m 0 c).arrAt w (cfgs 0).N) main_arg1 (by decide)).trans (V_main_arg1 m c)

/-- What they find in the values' cache. -/
theorem exitV (c : Dev nD) : Pipeline.withArrays (cfgs 0).spec c (V0 m c) (fun w => (dats m 0 c).arrAt w (cfgs 0).N) (Proc.devRef .tc main_arg2) = m ((c : Thread nD τ).loc main_arg2) :=
  (Pipeline.withArrays_of_ne (cfgs 0).spec c (V0 m c) (fun w => (dats m 0 c).arrAt w (cfgs 0).N) main_arg2 (by decide)).trans (V_main_arg2 m c)

/-- Every run of the program leaves the projection and the four new caches. -/
theorem run (ρ : Dev nD → PrngReg) : θ_run defs (onTc (τ := τ) (main (F := Ideal))) ⟨m, fun _ => 0, ρ⟩ fun r => ∀ c : Dev nD,
      r.2.mem ((c.tc : Thread nD τ).loc main_v1) = Qkv.proj (m ((c : Thread nD τ).loc main_arg0)) (m ((c : Thread nD τ).loc main_arg3))
      ∧ r.2.mem ((c.tc : Thread nD τ).loc main_v14) = _root_.Caches.prompt (Qkv.proj (m ((c : Thread nD τ).loc main_arg0)) (m ((c : Thread nD τ).loc main_arg3))) 2048 (by decide)
      ∧ r.2.mem ((c.tc : Thread nD τ).loc main_v16) = _root_.Caches.prompt (Qkv.proj (m ((c : Thread nD τ).loc main_arg0)) (m ((c : Thread nD τ).loc main_arg3))) 2304 (by decide)
      ∧ r.2.mem ((c.tc : Thread nD τ).loc main_v18) = _root_.Caches.sample (m ((c : Thread nD τ).loc main_arg1)) (Qkv.proj (m ((c : Thread nD τ).loc main_arg0)) (m ((c : Thread nD τ).loc main_arg3))) 2048 (by decide)
      ∧ r.2.mem ((c.tc : Thread nD τ).loc main_v20) = _root_.Caches.sample (m ((c : Thread nD τ).loc main_arg2)) (Qkv.proj (m ((c : Thread nD τ).loc main_arg0)) (m ((c : Thread nD τ).loc main_arg3))) 2304 (by decide) :=
  (θ_run defs _ _).mono (fun r h c => ⟨((h c).1 2).trans (Qkv.final m c),
      ((h c).2 main_v14 (Pipeline.mem_restRefs_of main_v14 (by decide) (by decide))).trans ((after14 _).trans (by rw [exit1])),
      ((h c).2 main_v16 (Pipeline.mem_restRefs_of main_v16 (by decide) (by decide))).trans ((after16 _).trans (by rw [exit1])),
      ((h c).2 main_v18 (Pipeline.mem_restRefs_of main_v18 (by decide) (by decide))).trans ((after18 _).trans (by rw [exit1, exitK])),
      ((h c).2 main_v20 (Pipeline.mem_restRefs_of main_v20 (by decide) (by decide))).trans ((after20 _).trans (by rw [exit1, exitV]))⟩)
    (run_main m ρ)

end Cert.Kernel4Ideal.Caches

end
-- ==== Proof.Products.lean ====
/- The claims of the three projections' calls: their frames, and over the extended reals their results' equality with the references'. -/
module

public import proofs.«01_k».proof.Defs
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.MlstmProj
public import proofs.«01_k».proof.Proof.OutProj
public import proofs.«01_k».proof.Proof.CachesRun
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- The frame of the mLSTM's input projection at the machine's floats. -/
theorem frame_bits2 : haveI := Cert.Kernel2.Gen.facts; Cert.quiescent_Kernel2 := fun m g _ => Cert.Kernel2.Gen.frame m g

/-- and over the extended reals. -/
theorem frame_ideal2 : haveI := Cert.Kernel2Ideal.Gen.facts; Cert.quiescent_Kernel2Ideal := fun m g _ => Cert.Kernel2Ideal.Gen.frame m g

/-- The frame of its reference. -/
theorem frame_reference2 : haveI := Cert.Reference2Ideal.Gen.facts; Cert.quiescent_Reference2Ideal := by
  intro m g _
  exact (θ_run _ _ _).mono (fun r h => ⟨fun c => (h c).2, sem_eq_zero_of_no_sems (by decide) r.2⟩) (Cert.Reference2Ideal.Value.run m g)

/-- The frame of the output projection with its residual and layer norm at the machine's floats. -/
theorem frame_bits3 : haveI := Cert.Kernel3.Gen.facts; Cert.quiescent_Kernel3 := fun m g _ => Cert.Kernel3.Gen.frame m g

/-- and over the extended reals. -/
theorem frame_ideal3 : haveI := Cert.Kernel3Ideal.Gen.facts; Cert.quiescent_Kernel3Ideal := fun m g _ => Cert.Kernel3Ideal.Gen.frame m g

/-- The frame of its reference. -/
theorem frame_reference3 : haveI := Cert.Reference3Ideal.Gen.facts; Cert.quiescent_Reference3Ideal := by
  intro m g _
  exact (θ_run _ _ _).mono (fun r h => ⟨fun c => (h c).2, sem_eq_zero_of_no_sems (by decide) r.2⟩) (Cert.Reference3Ideal.Value.run m g)

/-- The frame of the attention's projection and new caches at the machine's floats. -/
theorem frame_bits4 : haveI := Cert.Kernel4.Gen.facts; Cert.quiescent_Kernel4 := fun m g _ => Cert.Kernel4.Gen.frame m g

/-- and over the extended reals. -/
theorem frame_ideal4 : haveI := Cert.Kernel4Ideal.Gen.facts; Cert.quiescent_Kernel4Ideal := fun m g _ => Cert.Kernel4Ideal.Gen.frame m g

/-- The frame of its reference. -/
theorem frame_reference4 : haveI := Cert.Reference4Ideal.Gen.facts; Cert.quiescent_Reference4Ideal := by
  intro m g _
  exact (θ_run _ _ _).mono (fun r h => ⟨fun c => (h c).2.2.2.2.2, sem_eq_zero_of_no_sems (by decide) r.2⟩) (Cert.Reference4Ideal.Value.run m g)

/-- The mLSTM's input projection is its reference's. -/
theorem equal2 : haveI := Cert.Kernel2Ideal.Gen.facts; haveI := Cert.Reference2Ideal.Gen.facts; Cert.algebraic_Kernel2Ideal_Reference2Ideal := by
  intro m g m' g' _ hargs
  refine ⟨fun c => Cert.Kernel2Ideal.Proj.proj (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)), ?_, ?_⟩
  · exact (θ_run _ _ _).mono (fun r h c => ⟨(h c).1.trans (Cert.Kernel2Ideal.Proj.final m c), (h c).2⟩) (Cert.Kernel2Ideal.Value.run_blocks m g)
  · refine (θ_run _ _ _).mono (fun r h c => ⟨(h c).1.trans ?_, (h c).2⟩) (Cert.Reference2Ideal.Value.run m' g')
    have e := hargs c
    rw [e.1, e.2]
    exact Cert.Reference2Ideal.Proj.result _ _

/-- The output projection with its residual and layer norm is its reference's. -/
theorem equal3 : haveI := Cert.Kernel3Ideal.Gen.facts; haveI := Cert.Reference3Ideal.Gen.facts; Cert.algebraic_Kernel3Ideal_Reference3Ideal := by
  intro m g m' g' _ hargs
  refine ⟨fun c => Cert.Kernel3Ideal.Out.out (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)), ?_, ?_⟩
  · exact (θ_run _ _ _).mono (fun r h c => ⟨(h c).1.trans (Cert.Kernel3Ideal.Out.final m c), (h c).2⟩) (Cert.Kernel3Ideal.Value.run_blocks m g)
  · refine (θ_run _ _ _).mono (fun r h c => ⟨(h c).1.trans ?_, (h c).2⟩) (Cert.Reference3Ideal.Value.run m' g')
    have e := hargs c
    rw [e.1, e.2.1, e.2.2.1, e.2.2.2.1, e.2.2.2.2]
    exact Cert.Reference3Ideal.Out.result _ _ _ _ _

/-- The attention's projection and the new caches are the reference's. -/
theorem equal4 : haveI := Cert.Kernel4Ideal.Gen.facts; haveI := Cert.Reference4Ideal.Gen.facts; Cert.algebraic_Kernel4Ideal_Reference4Ideal := by
  intro m g m' g' _ hargs
  refine ⟨fun c => Cert.Kernel4Ideal.Qkv.proj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3)),
    fun c => Caches.prompt (Cert.Kernel4Ideal.Qkv.proj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3))) 2048 (by decide),
    fun c => Caches.prompt (Cert.Kernel4Ideal.Qkv.proj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3))) 2304 (by decide),
    fun c => Caches.sample (m ((c : Thread Cert.Kernel4Ideal.nD Cert.Kernel4Ideal.τ).loc Cert.Kernel4Ideal.main_arg1)) (Cert.Kernel4Ideal.Qkv.proj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3))) 2048 (by decide),
    fun c => Caches.sample (m ((c : Thread Cert.Kernel4Ideal.nD Cert.Kernel4Ideal.τ).loc Cert.Kernel4Ideal.main_arg2)) (Cert.Kernel4Ideal.Qkv.proj (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg3))) 2304 (by decide), ?_, ?_⟩
  · exact (θ_run _ _ _).mono (fun r h c => ⟨(h.1 c).1, (h.1 c).2.1, (h.1 c).2.2.1, (h.1 c).2.2.2.1, (h.1 c).2.2.2.2, h.2.1 c⟩)
      (θ_run_and (Cert.Kernel4Ideal.Caches.run m g) (Cert.Kernel4Ideal.Gen.frame m g))
  · refine (θ_run _ _ _).mono (fun r h c => ?_) (Cert.Reference4Ideal.Value.run m' g')
    have e := hargs c
    have hc := h c
    rw [e.1, e.2.1, e.2.2.1, e.2.2.2, Cert.Reference4Ideal.Qkv.result] at hc
    exact ⟨hc.1, hc.2.1.trans (Cert.Reference4Ideal.Caches.promptK _ _), hc.2.2.1.trans (Cert.Reference4Ideal.Caches.promptV _ _),
      hc.2.2.2.1.trans (Cert.Reference4Ideal.Caches.sampleK _ _), hc.2.2.2.2.1.trans (Cert.Reference4Ideal.Caches.sampleV _ _), (h c).2.2.2.2.2⟩

end Cert.Proof

end
-- ==== Proof.CombRows.lean ====
/- The combine's buffer of gathered rows, seen as its 512 rows: where row `j` lies, which row of the sorted results is copied
   into it, and what the buffer holds once all rows have landed. -/
module

public import proofs.«01_k».proof.Proof.Gen.Kernel5Ideal.Frame
public import Idealize.ShloMosaic.Lib.Pipeline.Frame
public import Idealize.ShloMosaic.Lib.Tactic
public import Idealize.ShloMosaic.Lib.Transfers
public import Idealize.ShloMosaic.Lib.ValueLayout

@[expose] public section

set_option maxRecDepth 16384

noncomputable section

namespace Cert.Kernel5Ideal.Comb

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

/-- The body's buffer of rows. -/
abbrev scM : Memref sig .tc .vmem S8x64x2048 .f32 := Memref.whole cc0_scratch0
/-- The sorted results, left where they are. -/
abbrev ysM : Memref sig .tc .hbm S82944x2048 .f32 := Memref.whole main_arg1

/-- The number of rows copied at a grid point. -/
abbrev NT : ℕ := k0_t1_loop.trips

theorem NT_eq : NT = 512 := by decide +kernel

/-- Row `j` of the buffer: the copy's destination. -/
def dstRow (j : Fin NT) : Memref sig .tc .vmem S1x2048 .f32 :=
  (scM.slice (Rect.unit (s := S8x64x2048) (k0_off2 j) S1x1x2048.size (k0_off2_inb j)) (fun _ => rfl)).squeeze S1x2048 squeezes_S1x1x2048_S1x2048

/-- The row of the sorted results that the word `v` names: the copy's source. -/
def srcRow (v : BitVec 32) (h : k0_chk1 v) : Memref sig .tc .hbm S1x2048 .f32 :=
  ysM.slice (Rect.unit (s := S82944x2048) (k0_off3 v) S1x2048.size (k0_off3_inb v h)) (fun _ => rfl)

/-- Row `j` lies at choice `j mod 8` and token `j div 8`. -/
theorem off2_eq (j : Fin NT) : k0_off2 j = ![j.val % 8, j.val / 8, 0] := by
  revert j; decide +kernel

theorem dst_set (j : Fin NT) : (dstRow j).view.set = (Rect.unit (s := S8x64x2048) (k0_off2 j) S1x1x2048.size (k0_off2_inb j)).set := by
  unfold dstRow; exact (View.set_reshape _ _).trans (View.set_slice_whole _ _)

/-- The elements of row `j`. -/
abbrev rowSet (j : Fin NT) : Finset S8x64x2048.Idx := (Rect.unit (s := S8x64x2048) (k0_off2 j) S1x1x2048.size (k0_off2_inb j)).set

theorem mem_rowSet (j : Fin NT) (y : S8x64x2048.Idx) : y ∈ rowSet j ↔ (y 0).val = j.val % 8 ∧ (y 1).val = j.val / 8 := by
  rw [Rect.mem_set_unit, off2_eq]
  have h2 : (y 2).val < 2048 := (y 2).isLt
  constructor
  · intro H
    have a0 : j.val % 8 ≤ (y 0).val ∧ (y 0).val < j.val % 8 + 1 := H 0
    have a1 : j.val / 8 ≤ (y 1).val ∧ (y 1).val < j.val / 8 + 1 := H 1
    omega
  · intro H a; fin_cases a
    · show j.val % 8 ≤ (y 0).val ∧ (y 0).val < j.val % 8 + 1; omega
    · show j.val / 8 ≤ (y 1).val ∧ (y 1).val < j.val / 8 + 1; omega
    · show 0 ≤ (y 2).val ∧ (y 2).val < 0 + 2048; omega

theorem rowSet_disjoint : ∀ j j' : Fin NT, j ≠ j' → Disjoint (rowSet j) (rowSet j') := fun j j' hne => by
  rw [Finset.disjoint_left]; intro y hy hy'; rw [mem_rowSet] at hy hy'; exact hne (Fin.ext (by omega))

/-- The row an element of the buffer lies in. -/
def rowOf (y : S8x64x2048.Idx) : Fin NT := ⟨(y 1).val * 8 + (y 0).val, by
  have h0 : (y 0).val < 8 := (y 0).isLt
  have h1 : (y 1).val < 64 := (y 1).isLt
  rw [NT_eq]; omega⟩

theorem mem_rowOf (y : S8x64x2048.Idx) : y ∈ rowSet (rowOf y) := by
  have h0 : (y 0).val < 8 := (y 0).isLt
  rw [mem_rowSet]; show (y 0).val = ((y 1).val * 8 + (y 0).val) % 8 ∧ (y 1).val = ((y 1).val * 8 + (y 0).val) / 8; omega

theorem rowSet_cover : Finset.univ.biUnion rowSet = Finset.univ := by
  ext y; simp only [Finset.mem_biUnion, Finset.mem_univ, true_and, iff_true]; exact ⟨rowOf y, mem_rowOf y⟩

theorem rowOf_eq {j : Fin NT} {y : S8x64x2048.Idx} (h : y ∈ rowSet j) : rowOf y = j := by
  rw [mem_rowSet] at h; apply Fin.ext; show (y 1).val * 8 + (y 0).val = j.val; omega

/-- The word that names row `j`, in a block of words. -/
abbrev wordAt (x0 : S1x1x512.Idx → Elt F .i32) (j : Fin NT) : BitVec 32 :=
  x0 (ix3 (0 : Fin 1) (0 : Fin 1) (⟨j.val, NT_eq ▸ j.isLt⟩ : Fin 512))

/-- A word naming a row names one that exists. -/
theorem chk1_lt {v : BitVec 32} (h : k0_chk1 v) : v.toNat < 82944 := by
  have a0 : v.toNat + 1 ≤ 82944 := h 0
  omega

/-- What the buffer holds once all rows have landed: at choice `k` of token `t`, the row its word names. -/
def gathered (ys : S82944x2048.Idx → Elt F .f32) (x0 : S1x1x512.Idx → Elt F .i32) (hw : ∀ j, k0_chk1 (wordAt x0 j)) :
    S8x64x2048.Idx → Elt F .f32 :=
  fun y => ys (ix2 (⟨(wordAt x0 (rowOf y)).toNat, chk1_lt (hw _)⟩ : Fin 82944) (y 2))

/-- Writing the named row over row `j` leaves the gathered row there, whatever the buffer held. -/
theorem landed (ys : S82944x2048.Idx → Elt F .f32) (x0 : S1x1x512.Idx → Elt F .i32) (hw : ∀ j, k0_chk1 (wordAt x0 j)) (j : Fin NT)
    (f : S8x64x2048.Idx → Elt F .f32) :
    ∀ y : S8x64x2048.Idx, y ∈ (dstRow j).view.set →
      (dstRow j).view.write (Elt F) f ((srcRow (wordAt x0 j) (hw j)).view.read (Elt F) ys) Finset.univ y = gathered ys x0 hw y := by
  intro y hy
  have hrow : rowOf y = j := rowOf_eq (by rw [dst_set j] at hy; exact hy)
  obtain ⟨x, -, hx⟩ := Finset.mem_map.mp hy
  have hx2 : x = ix2 (0 : Fin 1) (x 1) := (eq_ix2 x).trans (congrArg (fun z => ix2 z (x 1)) (Subsingleton.elim (α := Fin 1) (x 0) 0))
  have e : Shape.reshapeEquiv (s := S1x1x2048) (s' := S1x2048) squeezes_S1x1x2048_S1x2048.numel_eq x = ix3 (0 : Fin 1) (0 : Fin 1) (x 1) :=
    (congrArg (fun z => Shape.reshapeEquiv (s := S1x1x2048) (s' := S1x2048) squeezes_S1x1x2048_S1x2048.numel_eq z) hx2).trans
      (reshapeEquiv_ix2_1ab (a := 1) (b := 2048) squeezes_S1x1x2048_S1x2048.numel_eq (0 : Fin 1) (x 1))
  have hy2 : (y 2).val = (x 1).val := by
    have h : (y 2).val = k0_off2 j 2 + 1 * (Shape.reshapeEquiv (s := S1x1x2048) (s' := S1x2048) squeezes_S1x1x2048_S1x2048.numel_eq x 2).val :=
      congrArg (fun z : S8x64x2048.Idx => (z 2).val) hx.symm
    rw [h, e, off2_eq]
    show 0 + 1 * (x 1).val = (x 1).val
    omega
  refine (congrArg ((dstRow j).view.write (Elt F) f ((srcRow (wordAt x0 j) (hw j)).view.read (Elt F) ys) Finset.univ) hx.symm).trans ?_
  refine (View.write_emb_of_mem (Val := Elt F) (v := (dstRow j).view) f ((srcRow (wordAt x0 j) (hw j)).view.read (Elt F) ys) (Finset.mem_univ x)).trans ?_
  show ys _ = ys _
  refine congrArg ys (funext fun a => Fin.ext ?_)
  match a with
  | ⟨0, _⟩ =>
    show (wordAt x0 j).toNat + 1 * (x 0).val = (wordAt x0 (rowOf y)).toNat
    rw [hrow, show (x 0).val = 0 from Nat.lt_one_iff.mp (x 0).isLt]; omega
  | ⟨1, _⟩ =>
    show 0 + 1 * (x 1).val = (y 2).val
    omega

end Cert.Kernel5Ideal.Comb

end
-- ==== Proof.CombIssue.lean ====
/- The combine's two loops of copies: every named row is set out towards its row of the buffer on one semaphore, then every
   copy is waited for; after the last wait the buffer holds the gathered rows. -/
module

public import proofs.«01_k».proof.Proof.CombRows

@[expose] public section

set_option maxRecDepth 16384

noncomputable section

namespace Cert.Kernel5Ideal.Comb

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

section Names

variable (c : Dev nD) (ys : S82944x2048.Idx → Elt F .f32) (x0 : S1x1x512.Idx → Elt F .i32) (hw : ∀ j, k0_chk1 (wordAt x0 j))

/-- Row `j` of the buffer at some contents. -/
def rowFree (j : Fin NT) : sProp 𝕄 := iprop(∃ g, (dstRow j).view.loc (c : Thread nD τ) ↦[(dstRow j).view.set]{fullShare} g)
/-- The gathered rows, as contents of row `j`'s buffer. -/
def rowBuf (j : Fin NT) : Buf (Elt F) ((dstRow j).view.loc (c : Thread nD τ)) := gathered ys x0 hw
/-- The sorted results, as contents of the buffer copy `j` reads. -/
def srcBuf (j : Fin NT) : Buf (Elt F) ((srcRow (wordAt x0 j) (hw j)).view.loc (c : Thread nD τ)) := ys
/-- Row `j` of the buffer with its named row landed. -/
def rowDone (j : Fin NT) : sProp 𝕄 :=
  iprop((dstRow j).view.loc (c : Thread nD τ) ↦[(dstRow j).view.set]{fullShare} rowBuf c ys x0 hw j)
/-- The share of the named row that copy `j` reads under. -/
def srcPiece (j : Fin NT) : sProp 𝕄 :=
  iprop((srcRow (wordAt x0 j) (hw j)).view.loc (c : Thread nD τ) ↦[(srcRow (wordAt x0 j) (hw j)).view.set]{Transfers.shareTokN fullShare j.val} srcBuf c ys x0 hw j)
/-- What copy `j` delivers. -/
def deliv (j : Fin NT) : sProp 𝕄 := iprop(rowDone c ys x0 hw j ∗ srcPiece c ys x0 hw j)

instance deliv_storable (j : Fin NT) : BI.Storable (upEmb : UEmb _ 𝕄) (deliv c ys x0 hw j) := by
  unfold deliv rowDone srcPiece
  infer_instance

/-- One row's credit. -/
abbrev NN : ℕ := 256

/-- The copies on the semaphore: `j` issued, `u` units waited for. -/
abbrev batch (j u : ℕ) : sProp 𝕄 :=
  Transfers.Batch (countersEmb (U := Pipeline.UD sig nD τ)) (c : Thread nD τ) (.dma 13) () NN (deliv c ys x0 hw) j u

/-- The block of words, held as the body finds it. -/
abbrev wordsAt (arg1 : Memref sig .tc .smem S1x1x512 .i32) : sProp 𝕄 :=
  arg1.view.loc (c : Thread nD τ) ↦[arg1.view.set]{fullShare} arg1.view.rep x0

/-- Before trip `k` of the first loop. -/
def issueAt (arg1 : Memref sig .tc .smem S1x1x512 .i32) (k : ℕ) (_ : PUnit.{1}) : sProp 𝕄 :=
  iprop(batch c ys x0 hw k 0 ∗ bigSep (Ring.rangeSet NT k NT) (rowFree (F := F) c) ∗ bigSep (Ring.rangeSet NT k NT) (srcPiece c ys x0 hw)
    ∗ wordsAt c x0 arg1)

end Names

section Issue

variable (c : Dev nD) (arg1 : Memref sig .tc .smem S1x1x512 .i32) (harg1 : arg1.IsWhole)
  (ys : S82944x2048.Idx → Elt F .f32) (x0 : S1x1x512.Idx → Elt F .i32) (hw : ∀ j, k0_chk1 (wordAt x0 j))

/-- One trip of the first loop. -/
abbrev issueBody (k : Fin k0_t1_loop.trips) (_ : PUnit.{1}) : Prog (TpuEff nD τ sig (Elt F) Λ₀ .tc) PUnit.{1} := do
  let v93 : Elt F .i32 ← smemLoad arg1 (Rect.unit (s := S1x1x512) (k0_off1 k) S1x1x1.size (k0_off1_inb k)) numel1_S1x1x1 rfl
  have k0_hw1 : k0_chk1 v93 := (← Prog.lift (TpuEff.assume (k0_chk1 v93) (k0_chk1.dec v93))).down
  let v121 : Memref sig .tc .vmem S1x1x2048 .f32 := scM.slice (Rect.unit (s := S8x64x2048) (k0_off2 k) S1x1x2048.size (k0_off2_inb k)) (fun _ => rfl)
  let v122 : Memref sig .tc .vmem S1x2048 .f32 := v121.squeeze S1x2048 squeezes_S1x1x2048_S1x2048
  let v123 : Memref sig .tc .hbm S1x2048 .f32 := ysM.slice (Rect.unit (s := S82944x2048) (k0_off3 v93) S1x2048.size (k0_off3_inb v93 k0_hw1)) (fun _ => rfl)
  Prog.lift (.enqueueDma v123 (.here v122) (.dma cc0_scratch1.sem) (View.wordExact_bits rfl) ((View.wordExact_bits rfl).reshape _ _) ⟨Or.inl rfl, trivial⟩)
  pure ⟨⟩

/-- The word the trip loads. -/
theorem word_read (k : Fin k0_t1_loop.trips) :
    View.readAt (Elt F) arg1.view (Rect.unit (s := S1x1x512) (k0_off1 k) S1x1x1.size (k0_off1_inb k)).toLoadRect (arg1.view.rep x0)
      (Shape.Idx.first (s := S1x1x1) Nat.one_pos) = wordAt x0 k := by
  refine (congrFun (View.readAt_rep (Val := Elt F) arg1.view _ x0) _).trans (congrArg x0 (funext fun a => Fin.ext ?_))
  match a with
  | ⟨0, _⟩ => rfl
  | ⟨1, _⟩ => rfl
  | ⟨2, _⟩ => show k0_off1 k 2 + 1 * 0 = k.val; rw [k0_off1_eq]; rfl

/-- A copy of row `k` delivers the gathered row and its share of the source. -/
theorem deliver (k : Fin NT) (g : Buf (Elt F) ((dstRow k).view.loc (c : Thread nD τ))) :
    iprop(((dstRow k).view.loc (c : Thread nD τ) ↦[(dstRow k).view.set]{fullShare}
        ((dstRow k).view.write (Elt F) g (ReadAs.same.apply ((srcRow (wordAt x0 k) (hw k)).view.read (Elt F) (srcBuf c ys x0 hw k))) Finset.univ))
      ∗ ((srcRow (wordAt x0 k) (hw k)).view.loc (c : Thread nD τ) ↦[(srcRow (wordAt x0 k) (hw k)).view.set]{Transfers.shareTokN fullShare k.val} srcBuf c ys x0 hw k))
      ⊢ (deliv c ys x0 hw k : sProp 𝕄) := by
  unfold deliv rowDone srcPiece
  rw [pointsTo_congr (fun y hy => landed ys x0 hw k g y hy)]
  exact .rfl

/-- One trip sets one more copy out. -/
theorem issue_step (k : Fin k0_t1_loop.trips) (acc : PUnit.{1}) :
    issueAt c ys x0 hw arg1 k acc ⊢ wp frame (wpE (defs₀ (F := F)) Variants.none (c : Thread nD τ) none) Set.univ (issueBody arg1 k acc)
      (issueAt c ys x0 hw arg1 (k.val + 1)) := by
  have hk := k.isLt
  unfold issueAt
  rw [Ring.bigSep_rangeSet_head (Φ := rowFree (F := F) c) (by omega) (by omega),
    Ring.bigSep_rangeSet_head (Φ := srcPiece c ys x0 hw) (by omega) (by omega)]
  unfold rowFree
  rw [show srcPiece c ys x0 hw ⟨k.val, hk⟩ = iprop((srcRow (wordAt x0 k) (hw k)).view.loc (c : Thread nD τ) ↦[(srcRow (wordAt x0 k) (hw k)).view.set]{Transfers.shareTokN fullShare k.val} srcBuf c ys x0 hw k) from rfl]
  iintro ⟨HB, ⟨⟨%gk, HK⟩, HKs⟩, ⟨HZ, HZs⟩, Hx⟩
  dsimp only [issueBody]
  have hr := word_read arg1 x0 k
  have hck : k0_chk1 (wordAt x0 k) := hw k
  sl_exec
  rw [show issue_step.sl.r arg1 x0 k = wordAt x0 k from hr]
  sl_exec
  iapply (Transfers.wp_dmaBatch (countersEmb (U := Pipeline.UD sig nD τ)) Variants.none (c : Thread nD τ) none (src := srcRow (wordAt x0 k) (hw k)) (dst := dstRow k)
      (Sd := (dstRow k).view.set) (fd := gk) (fs := srcBuf c ys x0 hw k) (q := Transfers.shareTokN fullShare k.val) (D := deliv c ys x0 hw) (j := k.val) (u := 0)
      () NN rfl (Finset.Subset.refl _) hk (Nat.zero_le _) (deliver c ys x0 hw k gk)) $$ [HZ HK HB]
  · isplitl [HZ]; · iexact HZ
    isplitl [HK]; · iexact HK
    iexact HB
  iintro HB
  sl_step
  isplitl [HB]; · iexact HB
  isplitl [HKs]; · iexact HKs
  isplitl [HZs]; · iexact HZs
  iexact Hx

set_option warn.classDefReducibility false in
/-- The first loop keeps `issueAt`. -/
@[sl_loop] def issueInv :
    LoopInv (M := 𝕄) frame (wpE (defs₀ (F := F)) Variants.none (c : Thread nD τ) none) Set.univ k0_t1_loop.lb k0_t1_loop.ub k0_t1_loop.st k0_t1_ok ⟨⟩
      (issueBody (F := F) arg1) where
  inv := issueAt c ys x0 hw arg1
  step := issue_step c arg1 ys x0 hw

end Issue

section Drain

variable (c : Dev nD) (ys : S82944x2048.Idx → Elt F .f32) (x0 : S1x1x512.Idx → Elt F .i32) (hw : ∀ j, k0_chk1 (wordAt x0 j))

/-- Before trip `k` of the second loop: the copies with `k` rows' units waited for, or, after the last wait, every delivery. -/
def drainAt (k : ℕ) (_ : PUnit.{1}) : sProp 𝕄 :=
  iprop(⌜k ≤ NT⌝ ∗ (∃ W, owes (c : Thread nD τ) 0 W)
    ∗ (if k < NT then batch c ys x0 hw NT (k * 256)
       else iprop(semVal ((c : Thread nD τ), SemLoc.dma 13) 0 ∗ bigSep Finset.univ (deliv c ys x0 hw))))

/-- One trip of the second loop. -/
abbrev drainBody (_ : Fin k0_t2_loop.trips) (_ : PUnit.{1}) : Prog (TpuEff nD τ sig (Elt F) Λ₀ .tc) PUnit.{1} := do
  let v92 : Memref sig .tc .vmem S1x1x2048 .f32 := scM.slice (Rect.unit (s := S8x64x2048) ![0, 0, 0] S1x1x2048.size inb_S8x64x2048_S1x1x2048_0_0_0) (fun _ => rfl)
  let v93 : Memref sig .tc .vmem S1x2048 .f32 := v92.squeeze S1x2048 squeezes_S1x1x2048_S1x2048
  let v94 : Memref sig .tc .hbm S1x2048 .f32 := ysM.slice (Rect.unit (s := S82944x2048) ![0, 0] S1x2048.size inb_S82944x2048_S1x2048_0_0) (fun _ => rfl)
  Prog.lift (.waitDma2 cc0_scratch1.sem v94 v93 (View.wordExact_bits rfl) ((View.wordExact_bits rfl).reshape _ _))
  pure ⟨⟩

/-- One trip waits for one row's units; the last brings every delivery. -/
theorem drain_step (k : Fin k0_t2_loop.trips) (acc : PUnit.{1}) :
    drainAt c ys x0 hw k acc ⊢ wp frame (wpE (defs₀ (F := F)) Variants.none (c : Thread nD τ) none) Set.univ (drainBody k acc)
      (drainAt c ys x0 hw (k.val + 1)) := by
  have hk : k.val < NT := k.isLt
  unfold drainAt
  simp only [if_pos hk]
  rcases Nat.lt_or_ge (k.val + 1) NT with h1 | h1
  · simp only [if_pos h1]
    iintro ⟨-, ⟨%W, HO⟩, HB⟩
    dsimp only [drainBody]
    have hu : k.val * 256 + 256 < 256 * NT := by omega
    sl_exec (disch := first | exact hu | omega)
    sl_step
    isplitr; · ipureintro; omega
    isplitl [HO]; · iexists _; iexact HO
    rw [show (k.val + 1) * 256 = k.val * 256 + 256 by omega]
    iexact HB
  · simp only [if_neg (Nat.not_lt.mpr h1)]
    iintro ⟨-, ⟨%W, HO⟩, HB⟩
    dsimp only [drainBody]
    have hu : k.val * 256 + 256 = 256 * NT := by omega
    sl_exec (disch := first | exact hu | omega)
    sl_step
    isplitr; · ipureintro; omega
    isplitl [HO]; · iexists _; iexact HO
    isplitl [HB]; · iexact HB
    iexact HB_all

end Drain

end Cert.Kernel5Ideal.Comb

end
-- ==== Proof.CombBody.lean ====
/- The combine's body at one grid point: what it computes from the blocks it finds and the rows it gathers, and the run that
   shows it. -/
module

public import proofs.«01_k».proof.Proof.CombIssue
public import Idealize.ShloMosaic.Lib.VecWindow
public import Idealize.ShloMosaic.Lib.Pipeline.TableIdle

@[expose] public section

set_option maxRecDepth 16384

noncomputable section

namespace Cert.Kernel5Ideal.Comb

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The arithmetic -/

/-- The gathered rows of choice `k`. -/
def plane (buf : S8x64x2048.Idx → Elt F .f32) (k : Fin 8) : Vec F S1x64x2048 .f32 := fun y => buf (ix3 k (y 1) (y 2))

/-- The shared expert's output: a gated layer of two products. -/
def sharedOut (x : Vec F S64x2048 .f32) (wg wu : Vec F S2048x512 .bf16) (wd : Vec F S512x2048 .bf16) : FVec F S64x2048 .f32 :=
  let xb : FVec F S64x2048 .bf16 := truncf .bf16 x bitsLt_bf16_f32
  let u : FVec F S64x512 .f32 := matmul dot_S64x2048_S2048x512_S64x512_1_0_0_1_n_n none xb (shapeCast S2048x512 wg shapeCasts_S2048x512_S2048x512) (constant S64x512 .f32 0x00000000#32)
  let v : FVec F S64x512 .f32 := matmul dot_S64x2048_S2048x512_S64x512_1_0_0_1_n_n none xb (shapeCast S2048x512 wu shapeCasts_S2048x512_S2048x512) (constant S64x512 .f32 0x00000000#32)
  let a : FVec F S64x512 .bf16 := truncf .bf16 (mulf (mulf u (logistic u)) v) bitsLt_bf16_f32
  matmul dot_S64x512_S512x2048_S64x2048_1_0_0_1_n_n none a (shapeCast S512x2048 wd shapeCasts_S512x2048_S512x2048) (constant S64x2048 .f32 0x00000000#32)

/-- One choice's rows times their gates. -/
def gated (col : FVec F S64x1 .f32) (rows : Vec F S1x64x2048 .f32) : FVec F S64x2048 .f32 :=
  mulf (broadcastTo S64x2048 col broadcasts_S64x1_S64x2048) (shapeCast S64x2048 rows shapeCasts_S1x64x2048_S64x2048)

/-- The routed experts' output: the gated rows of the eight choices, summed in order. -/
def routedOut (ga : Vec F S64x8 .f32) (buf : S8x64x2048.Idx → Elt F .f32) : FVec F S64x2048 .f32 :=
  addf (addf (addf (addf (addf (addf (addf
    (gated (extractStridedSlice S64x1 ![0, 0] ga slices_S64x8_o0_0_S64x1) (plane buf 0))
    (gated (extractStridedSlice S64x1 ![0, 1] ga slices_S64x8_o0_1_S64x1) (plane buf 1)))
    (gated (extractStridedSlice S64x1 ![0, 2] ga slices_S64x8_o0_2_S64x1) (plane buf 2)))
    (gated (extractStridedSlice S64x1 ![0, 3] ga slices_S64x8_o0_3_S64x1) (plane buf 3)))
    (gated (extractStridedSlice S64x1 ![0, 4] ga slices_S64x8_o0_4_S64x1) (plane buf 4)))
    (gated (extractStridedSlice S64x1 ![0, 5] ga slices_S64x8_o0_5_S64x1) (plane buf 5)))
    (gated (extractStridedSlice S64x1 ![0, 6] ga slices_S64x8_o0_6_S64x1) (plane buf 6)))
    (gated (extractStridedSlice S64x1 ![0, 7] ga slices_S64x8_o0_7_S64x1) (plane buf 7))

/-- The rows before their layer norm. -/
def mixedRows (x : Vec F S64x2048 .f32) (routed shared : FVec F S64x2048 .f32) : FVec F S64x2048 .f32 :=
  addf (mulf (broadcast S64x2048 (Scalar.ofBits .f32 0x3FD744FD#32)) x) (addf routed shared)

/-- The layer norm of the rows. -/
def normRows (z : FVec F S64x2048 .f32) (lg lb : Vec F S1x2048 .f32) : FVec F S64x2048 .f32 :=
  let mu : FVec F S64x1 .f32 := divf (shapeCast S64x1 (multiReduction .add [1] S64 z 0x00000000#32 reduces_S64x2048_S64 (.inl rfl) rfl) shapeCasts_S64_S64x1) (broadcast S64x1 (Scalar.ofBits .f32 0x45000000#32))
  let d : FVec F S64x2048 .f32 := subf z (broadcastTo S64x2048 mu broadcasts_S64x1_S64x2048)
  let va : FVec F S64x1 .f32 := divf (shapeCast S64x1 (multiReduction .add [1] S64 (mulf d d) 0x00000000#32 reduces_S64x2048_S64 (.inl rfl) rfl) shapeCasts_S64_S64x1) (broadcast S64x1 (Scalar.ofBits .f32 0x45000000#32))
  let r : FVec F S64x1 .f32 := rsqrt (addf va (broadcast S64x1 (Scalar.ofBits .f32 0x3727C5AC#32)))
  addf (mulf (mulf d (broadcastTo S64x2048 r broadcasts_S64x1_S64x2048)) (broadcastTo S64x2048 lg broadcasts_S1x2048_S64x2048)) (broadcastTo S64x2048 lb broadcasts_S1x2048_S64x2048)

/-- The block the body leaves. -/
def combined (x : Vec F S64x2048 .f32) (ga : Vec F S64x8 .f32) (wg wu : Vec F S2048x512 .bf16) (wd : Vec F S512x2048 .bf16) (lg lb : Vec F S1x2048 .f32)
    (buf : S8x64x2048.Idx → Elt F .f32) : FVec F S64x2048 .f32 :=
  normRows (mixedRows x (routedOut ga buf) (sharedOut x wg wu wd)) lg lb

/-! ## The buffer and the source, in pieces -/

section Pieces

variable (c : Dev nD) (ys : S82944x2048.Idx → Elt F .f32) (x0 : S1x1x512.Idx → Elt F .i32) (hw : ∀ j, k0_chk1 (wordAt x0 j))

/-- The buffer held whole is its rows held one by one, -/
theorem buf_rows (f : S8x64x2048.Idx → Elt F .f32) :
    (scM.view.loc (c : Thread nD τ) ↦{fullShare} f : sProp 𝕄) ⊢ bigSep Finset.univ (rowFree (F := F) c) := by
  refine (Entails.of_eq (Ring.pointsTo_blocks (ℓ := scM.view.loc (c : Thread nD τ)) (q := fullShare) rowSet rowSet_disjoint rowSet_cover f)).trans
    (BI.bigSep_mono fun j _ => ?_)
  show (scM.view.loc (c : Thread nD τ) ↦[rowSet j]{fullShare} f : sProp 𝕄) ⊢ rowFree c j
  unfold rowFree; rw [dst_set]; iintro H; iexists f; iexact H

/-- and the rows landed are the buffer holding what was gathered. -/
theorem rows_buf :
    (bigSep Finset.univ (rowDone c ys x0 hw) : sProp 𝕄) ⊢ scM.view.loc (c : Thread nD τ) ↦{fullShare} gathered ys x0 hw := by
  refine (BI.bigSep_mono fun j _ => ?_).trans
    (Entails.of_eq (Ring.pointsTo_blocks (ℓ := scM.view.loc (c : Thread nD τ)) (q := fullShare) rowSet rowSet_disjoint rowSet_cover (gathered ys x0 hw)).symm)
  show rowDone c ys x0 hw j ⊢ (scM.view.loc (c : Thread nD τ) ↦[rowSet j]{fullShare} gathered ys x0 hw : sProp 𝕄)
  unfold rowDone; rw [dst_set]; exact .rfl

/-- A copy's share of the sorted results, outside the row it reads. -/
def restPiece (j : Fin NT) : sProp 𝕄 :=
  iprop(ysM.view.loc (c : Thread nD τ) ↦[Finset.univ \ (srcRow (wordAt x0 j) (hw j)).view.set]{Transfers.shareTokN fullShare j.val} ys)

/-- What is left of the sorted results beside the copies' shares of their rows. -/
def srcRest : sProp 𝕄 :=
  iprop((ysM.view.loc (c : Thread nD τ) ↦{Transfers.shareDrop fullShare NT} ys) ∗ bigSep Finset.univ (restPiece c ys x0 hw))

/-- Three resources, the last two in the other order. -/
theorem sep_turn (A B C : sProp 𝕄) : iprop(A ∗ B ∗ C) = iprop((A ∗ C) ∗ B) := by
  have h1 : (iprop(A ∗ B ∗ C) : sProp 𝕄) ⊢ iprop((A ∗ C) ∗ B) := by
    iintro ⟨HA, HB, HC⟩
    isplitl [HA HC]
    · isplitl [HA]; · iexact HA
      iexact HC
    iexact HB
  have h2 : (iprop((A ∗ C) ∗ B) : sProp 𝕄) ⊢ iprop(A ∗ B ∗ C) := by
    iintro ⟨⟨HA, HC⟩, HB⟩
    isplitl [HA]; · iexact HA
    isplitl [HB]; · iexact HB
    iexact HC
  exact BI.equiv_iff.mp (And.intro h1 h2)

/-- The sorted results held whole are the copies' shares of their rows and the rest. -/
theorem src_pieces :
    (ysM.view.loc (c : Thread nD τ) ↦{fullShare} ys : sProp 𝕄) = iprop(srcRest c ys x0 hw ∗ bigSep Finset.univ (srcPiece c ys x0 hw)) := by
  have h0 := (Transfers.pointsTo_toks (Ix := Unit) (Val := Elt F) (Name := ℕ) (U := Pipeline.UD sig nD τ) (Lvl := ℕ) (ℓ := ysM.view.loc (c : Thread nD τ)) (S := Finset.univ) (f := ys) fullShare NT)
  have h1 := BI.equiv_iff.mp (And.intro h0.1 h0.2)
  have h2 : (fun j : Fin NT => (ysM.view.loc (c : Thread nD τ) ↦[Finset.univ]{Transfers.shareTok fullShare NT j} ys : sProp 𝕄))
      = fun j => iprop(srcPiece c ys x0 hw j ∗ restPiece c ys x0 hw j) :=
    funext fun j => BI.equiv_iff.mp (And.intro (pointsTo_split_subset (Finset.subset_univ _)).1 (pointsTo_split_subset (Finset.subset_univ _)).2)
  rw [h1, h2, show (bigSep Finset.univ (fun j => iprop(srcPiece c ys x0 hw j ∗ restPiece c ys x0 hw j)) : sProp 𝕄)
    = iprop(bigSep Finset.univ (srcPiece c ys x0 hw) ∗ bigSep Finset.univ (restPiece c ys x0 hw)) from BI.bigSep_sep _ _ _]
  unfold srcRest
  exact sep_turn _ _ _

/-- After the first loop: every copy is out, and the words are back. -/
theorem issue_end (arg1 : Memref sig .tc .smem S1x1x512 .i32) (acc : PUnit.{1}) :
    issueAt c ys x0 hw arg1 k0_t1_loop.trips acc ⊢ (iprop(batch c ys x0 hw NT 0 ∗ wordsAt c x0 arg1) : sProp 𝕄) := by
  unfold issueAt
  iintro ⟨HB, -, -, H1⟩
  isplitl [HB]; · iexact HB
  iexact H1

/-- After the last wait: the buffer holds the gathered rows, and the copies' shares are back. -/
theorem drain_end (acc : PUnit.{1}) :
    drainAt c ys x0 hw k0_t2_loop.trips acc
      ⊢ iprop((∃ W, owes (c : Thread nD τ) 0 W) ∗ semVal ((c : Thread nD τ), SemLoc.dma 13) 0
          ∗ (scM.view.loc (c : Thread nD τ) ↦{fullShare} gathered ys x0 hw) ∗ bigSep Finset.univ (srcPiece c ys x0 hw)) := by
  unfold drainAt
  rw [if_neg (show ¬k0_t2_loop.trips < NT from Nat.lt_irrefl _)]
  unfold deliv
  rw [show (bigSep Finset.univ (fun j => iprop(rowDone c ys x0 hw j ∗ srcPiece c ys x0 hw j)) : sProp 𝕄)
    = iprop(bigSep Finset.univ (rowDone c ys x0 hw) ∗ bigSep Finset.univ (srcPiece c ys x0 hw)) from BI.bigSep_sep _ _ _]
  iintro ⟨-, HO, Hc, HD, HZ⟩
  isplitl [HO]; · iexact HO
  isplitl [Hc]; · iexact Hc
  isplitl [HD]; · iapply (rows_buf c ys x0 hw); iexact HD
  iexact HZ

/-- A load of choice `k`'s rows from the buffer. -/
theorem plane_read (buf : S8x64x2048.Idx → Elt F .f32) (k : Fin 8)
    (inb : ∀ a, (![k.val, 0, 0] : Fin 3 → ℕ) a + S1x64x2048.size a ≤ S8x64x2048.size a) :
    scM.view.readAt (Elt F) (Rect.unit (s := S8x64x2048) ![k.val, 0, 0] S1x64x2048.size inb).toLoadRect buf = plane buf k := by
  funext y
  refine congrArg buf (funext fun a => Fin.ext ?_)
  have hy0 : (y 0).val = 0 := Nat.lt_one_iff.mp (y 0).isLt
  match a with
  | ⟨0, _⟩ => show k.val + 1 * (y 0).val = k.val; omega
  | ⟨1, _⟩ => show 0 + 1 * (y 1).val = (y 1).val; omega
  | ⟨2, _⟩ => show 0 + 1 * (y 2).val = (y 2).val; omega

end Pieces

/-! ## The run -/

/-- The body, from its blocks, the buffer and the semaphore, leaves `combined` of the blocks and of the rows gathered. -/
theorem bodyRun (c : Dev nD) (i : grid0.Coords)
    (arg1 : Memref sig .tc .smem S1x1x512 .i32) (harg1 : arg1.IsWhole) (arg2 : Memref sig .tc .vmem S64x2048 .f32) (harg2 : arg2.IsWhole)
    (arg3 : Memref sig .tc .vmem S64x8 .f32) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S1x2048 .f32) (harg8 : arg8.IsWhole)
    (arg10 : Memref sig .tc .vmem S64x2048 .f32) (harg10 : arg10.IsWhole)
    (ys : S82944x2048.Idx → Elt F .f32) (x0 : S1x1x512.Idx → Elt F .i32) (hw : ∀ j, k0_chk1 (wordAt x0 j))
    (x : Vec F S64x2048 .f32) (ga : Vec F S64x8 .f32) (wg wu : Vec F S2048x512 .bf16) (wd : Vec F S512x2048 .bf16) (lg lb : Vec F S1x2048 .f32)
    (f : S8x64x2048.Idx → Elt F .f32) (W : Waits sig Unit) (K : PUnit → sProp 𝕄) :
    iprop(wordsAt c x0 arg1
        ∗ (arg2.view.loc (c : Thread nD τ) ↦[arg2.view.set]{fullShare} arg2.view.rep x)
        ∗ (arg3.view.loc (c : Thread nD τ) ↦[arg3.view.set]{fullShare} arg3.view.rep ga)
        ∗ (arg4.view.loc (c : Thread nD τ) ↦[arg4.view.set]{fullShare} arg4.view.rep wg)
        ∗ (arg5.view.loc (c : Thread nD τ) ↦[arg5.view.set]{fullShare} arg5.view.rep wu)
        ∗ (arg6.view.loc (c : Thread nD τ) ↦[arg6.view.set]{fullShare} arg6.view.rep wd)
        ∗ (arg7.view.loc (c : Thread nD τ) ↦[arg7.view.set]{fullShare} arg7.view.rep lg)
        ∗ (arg8.view.loc (c : Thread nD τ) ↦[arg8.view.set]{fullShare} arg8.view.rep lb)
        ∗ (∃ d, owns (c : Thread nD τ) arg10 fullShare d)
        ∗ (scM.view.loc (c : Thread nD τ) ↦{fullShare} f)
        ∗ semVal ((c : Thread nD τ), SemLoc.dma 13) 0
        ∗ (ysM.view.loc (c : Thread nD τ) ↦{fullShare} ys)
        ∗ owes (c : Thread nD τ) 0 W
        ∗ (iprop(wordsAt c x0 arg1
            ∗ (arg2.view.loc (c : Thread nD τ) ↦[arg2.view.set]{fullShare} arg2.view.rep x)
            ∗ (arg3.view.loc (c : Thread nD τ) ↦[arg3.view.set]{fullShare} arg3.view.rep ga)
            ∗ (arg4.view.loc (c : Thread nD τ) ↦[arg4.view.set]{fullShare} arg4.view.rep wg)
            ∗ (arg5.view.loc (c : Thread nD τ) ↦[arg5.view.set]{fullShare} arg5.view.rep wu)
            ∗ (arg6.view.loc (c : Thread nD τ) ↦[arg6.view.set]{fullShare} arg6.view.rep wd)
            ∗ (arg7.view.loc (c : Thread nD τ) ↦[arg7.view.set]{fullShare} arg7.view.rep lg)
            ∗ (arg8.view.loc (c : Thread nD τ) ↦[arg8.view.set]{fullShare} arg8.view.rep lb)
            ∗ owns (c : Thread nD τ) arg10 fullShare (combined x ga wg wu wd lg lb (gathered ys x0 hw))
            ∗ (scM.view.loc (c : Thread nD τ) ↦{fullShare} gathered ys x0 hw)
            ∗ semVal ((c : Thread nD τ), SemLoc.dma 13) 0
            ∗ (ysM.view.loc (c : Thread nD τ) ↦{fullShare} ys)
            ∗ ∃ W', owes (c : Thread nD τ) 0 W') -∗ K ⟨⟩))
      ⊢ wp frame (wpE (defs₀ (F := F)) Variants.none c none) Set.univ
          (cc0_moe_combine i arg1 harg1 arg2 harg2 arg3 harg3 arg4 harg4 arg5 harg5 arg6 harg6 arg7 harg7 arg8 harg8 ysM (Memref.isWhole_whole _) arg10 harg10
            scM (Memref.isWhole_whole _) cc0_scratch1) K := by
  have hx := View.readAt_rep_full (Val := Elt F) arg2.view x inb_S64x2048_S64x2048_0_0
  have hga := View.readAt_rep_full (Val := Elt F) arg3.view ga inb_S64x8_S64x8_0_0
  have hwg := View.readAt_rep_full (Val := Elt F) arg4.view wg inb_S2048x512_S2048x512_0_0
  have hwu := View.readAt_rep_full (Val := Elt F) arg5.view wu inb_S2048x512_S2048x512_0_0
  have hwd := View.readAt_rep_full (Val := Elt F) arg6.view wd inb_S512x2048_S512x2048_0_0
  have hlg := View.readAt_rep_full (Val := Elt F) arg7.view lg inb_S1x2048_S1x2048_0_0
  have hlb := View.readAt_rep_full (Val := Elt F) arg8.view lb inb_S1x2048_S1x2048_0_0
  unfold owns
  rw [src_pieces c ys x0 hw]
  iintro ⟨H1, H2, H3, H4, H5, H6, H7, H8, ⟨%d10, %f10, -, H10⟩, HS, Hc, ⟨HR, HZ⟩, HO, Hk⟩
  ihave HS' := (buf_rows c f) $$ HS
  imod (Transfers.batch_alloc' (Lvl := ℕ) (countersEmb (U := Pipeline.UD sig nD τ)) (c : Thread nD τ) () NN (deliv c ys x0 hw) (sm := .dma 13) (E := Set.univ)) $$ Hc with HB
  rw [← Ring.rangeSet_univ]
  sl_unfold [cc0_moe_combine, k0_part1, k0_part2]
  sl_exec
  rw [wp_bind]
  sl_for (issueAt c ys x0 hw arg1) $$ [HB HS' HZ H1]
  · intro k acc; exact issue_step c arg1 ys x0 hw k acc
  · unfold issueAt
    isplitl [HB]; · iexact HB
    isplitl [HS']; · iexact HS'
    isplitl [HZ]; · iexact HZ
    iexact H1
  iintro %acc0 HI
  ihave HI' := (issue_end c ys x0 hw arg1 acc0) $$ HI
  icases HI' with ⟨HB, H1⟩
  sl_exec
  sl_for (drainAt c ys x0 hw) $$ [HB HO]
  · intro k acc; exact drain_step c ys x0 hw k acc
  · unfold drainAt
    rw [if_pos (show 0 < NT by rw [NT_eq]; omega)]
    isplitr; · ipureintro; omega
    isplitl [HO]; · iexists _; iexact HO
    rw [Nat.zero_mul]
    iexact HB
  iintro %acc HL
  ihave HL' := (drain_end c ys x0 hw acc) $$ HL
  icases HL' with ⟨⟨%W', HO⟩, Hc, HD, HZ⟩
  have p0 := plane_read (F := F) (gathered ys x0 hw) 0 inb_S8x64x2048_S1x64x2048_0_0_0
  have p1 := plane_read (F := F) (gathered ys x0 hw) 1 inb_S8x64x2048_S1x64x2048_1_0_0
  have p2 := plane_read (F := F) (gathered ys x0 hw) 2 inb_S8x64x2048_S1x64x2048_2_0_0
  have p3 := plane_read (F := F) (gathered ys x0 hw) 3 inb_S8x64x2048_S1x64x2048_3_0_0
  have p4 := plane_read (F := F) (gathered ys x0 hw) 4 inb_S8x64x2048_S1x64x2048_4_0_0
  have p5 := plane_read (F := F) (gathered ys x0 hw) 5 inb_S8x64x2048_S1x64x2048_5_0_0
  have p6 := plane_read (F := F) (gathered ys x0 hw) 6 inb_S8x64x2048_S1x64x2048_6_0_0
  have p7 := plane_read (F := F) (gathered ys x0 hw) 7 inb_S8x64x2048_S1x64x2048_7_0_0
  sl_exec
  sl_step
  have hv : bodyRun.sl.v90 ys x0 hw x ga wg wu wd lg lb = combined x ga wg wu wd lg lb (gathered ys x0 hw) := rfl
  rw [hv]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]
  · iexists _
    isplitr [H10]
    · ipureintro
      exact (View.read_writes_full (Val := Elt F) arg10.view f10 inb_S64x2048_S64x2048_0_0 _ [])
    · iexact H10
  isplitl [HD]; · iexact HD
  isplitl [Hc]; · iexact Hc
  isplitl [HR HZ]
  · isplitl [HR]; · iexact HR
    rw [Ring.rangeSet_univ]; iexact HZ
  iexists _; iexact HO

end Cert.Kernel5Ideal.Comb

end
-- ==== Proof.CombRun.lean ====
/- The combine's launch: the data of its pipeline, the body's obligation at a point, the run of the whole program and its frame,
   for memories whose destination words name rows that exist. -/
module

public import proofs.«01_k».proof.Proof.CombBody
public import proofs.«01_k».proof.Proof.Gen.Kernel5Ideal.Frame
public import Idealize.ShloMosaic.Lib.Pipeline.TableIdle

@[expose] public section

set_option maxRecDepth 16384

noncomputable section

namespace Cert.Kernel5Ideal.Comb

open Cert.Kernel5Ideal Cert.Kernel5Ideal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the body holds beside its windows -/

/-- The cell on which the copies complete. -/
abbrev osem0 : Fin 1 → SemLoc sig := fun j => (![SemLoc.dma 13] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 13) 0 := by
  rw [Pipeline.ownSems0_eq_of_list c osem0 [0] (by decide) (by decide)]; rfl

/-- The sorted results, from which the body copies. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (ysM.view.loc (c : Thread nD τ) ↦{fullShare} V m c main_arg1) := by
  rw [BI.bigSep_eq_bigSepL_of_eq [main_arg1] (by decide) (by decide)]; rfl

/-- What holds between the points, piece by piece. -/
theorem PhiD0_eq (c : Dev nD) :
    (Pipeline.ΦD osem0 spec0 H0 (V m) c : sProp 𝕄)
      = iprop((∃ f : Buf (Elt F) (scM.view.loc (c : Thread nD τ)), scM.view.loc (c : Thread nD τ) ↦{fullShare} f) ∗ (∃ r, prngReg c r)
          ∗ semVal ((c : Thread nD τ), SemLoc.dma 13) 0
          ∗ (ysM.view.loc (c : Thread nD τ) ↦{fullShare} V m c main_arg1)) := by
  rw [Pipeline.ΦD_eq, scopedRest0_eq, ownSems00_eq, hbmPts0_eq]

/-- The program up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The data -/

/-- The words that the body finds name rows that exist, at every point. -/
def WordsOk : Prop := ∀ (c : Dev nD) (t : Fin cfg0.N) (j : Fin NT), k0_chk1 (wordAt (F := F) (iblk m c 0 t) j)

variable (hW : WordsOk m)

/-- The block the body leaves at a point. -/
def outAt (c : Dev nD) (t : Fin cfg0.N) : S64x2048.Idx → Elt F .f32 :=
  combined (iblk m c 1 t) (iblk m c 2 t) (iblk m c 3 t) (iblk m c 4 t) (iblk m c 5 t) (iblk m c 6 t) (iblk m c 7 t)
    (gathered (V m c main_arg1) (iblk m c 0 t) (hW c t))

/-- The pipeline's data: arrays as the region finds them, inputs kept, the output's block at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m hW c t
  Φ _ := Pipeline.ΦD osem0 spec0 H0 (V m) c
  q _ := fullShare
  owed _ := 0

theorem A_eq (c : Dev nD) (w : Fin cfg0.W) : (dats m hW 0 c).A w = V m c (Pipeline.arrRef spec0 w) := by dsimp only [dats]
theorem after0_8 (c : Dev nD) (t : Fin cfg0.N) : (dats m hW 0 c).after 8 t = outAt m hW c t := by dsimp only [dats]

/-- Window 0's buffer holds its block. -/
theorem before0_0 (c : Dev nD) (t : Fin cfg0.N) (d) : (dats m hW 0 c).before 0 t d = iblk m c 0 t :=
  ((dats m hW 0 c).before_in_eq_fetched 0 rfl (fun _ => rfl) (fun _ _ _ => rfl) (fun t => by
    rw [show (dats m hW 0 c).after 0 t = iblk m c 0 t from by dsimp only [dats]]; unfold Dat.blockOf iblk; rw [A_eq]; try rfl) t d).trans
    (by unfold Dat.fetched Dat.blockOf iblk; rw [A_eq]; try rfl)
theorem after0_0 (c : Dev nD) (t : Fin cfg0.N) : (dats m hW 0 c).after 0 t = iblk m c 0 t := by dsimp only [dats]
/-- Window 1's buffer holds its block. -/
theorem before0_1 (c : Dev nD) (t : Fin cfg0.N) (d) : (dats m hW 0 c).before 1 t d = iblk m c 1 t :=
  ((dats m hW 0 c).before_in_eq_fetched 1 rfl (fun _ => rfl) (fun _ _ _ => rfl) (fun t => by
    rw [show (dats m hW 0 c).after 1 t = iblk m c 1 t from by dsimp only [dats]]; unfold Dat.blockOf iblk; rw [A_eq]; try rfl) t d).trans
    (by unfold Dat.fetched Dat.blockOf iblk; rw [A_eq]; try rfl)
theorem after0_1 (c : Dev nD) (t : Fin cfg0.N) : (dats m hW 0 c).after 1 t = iblk m c 1 t := by dsimp only [dats]
/-- Window 2's buffer holds its block. -/
theorem before0_2 (c : Dev nD) (t : Fin cfg0.N) (d) : (dats m hW 0 c).before 2 t d = iblk m c 2 t :=
  ((dats m hW 0 c).before_in_eq_fetched 2 rfl (fun _ => rfl) (fun _ _ _ => rfl) (fun t => by
    rw [show (dats m hW 0 c).after 2 t = iblk m c 2 t from by dsimp only [dats]]; unfold Dat.blockOf iblk; rw [A_eq]; try rfl) t d).trans
    (by unfold Dat.fetched Dat.blockOf iblk; rw [A_eq]; try rfl)
theorem after0_2 (c : Dev nD) (t : Fin cfg0.N) : (dats m hW 0 c).after 2 t = iblk m c 2 t := by dsimp only [dats]
/-- Window 3's buffer holds its block. -/
theorem before0_3 (c : Dev nD) (t : Fin cfg0.N) (d) : (dats m hW 0 c).before 3 t d = iblk m c 3 t :=
  ((dats m hW 0 c).before_in_eq_fetched 3 rfl (fun _ => rfl) (fun _ _ _ => rfl) (fun t => by
    rw [show (dats m hW 0 c).after 3 t = iblk m c 3 t from by dsimp only [dats]]; unfold Dat.blockOf iblk; rw [A_eq]; try rfl) t d).trans
    (by unfold Dat.fetched Dat.blockOf iblk; rw [A_eq]; try rfl)
theorem after0_3 (c : Dev nD) (t : Fin cfg0.N) : (dats m hW 0 c).after 3 t = iblk m c 3 t := by dsimp only [dats]
/-- Window 4's buffer holds its block. -/
theorem before0_4 (c : Dev nD) (t : Fin cfg0.N) (d) : (dats m hW 0 c).before 4 t d = iblk m c 4 t :=
  ((dats m hW 0 c).before_in_eq_fetched 4 rfl (fun _ => rfl) (fun _ _ _ => rfl) (fun t => by
    rw [show (dats m hW 0 c).after 4 t = iblk m c 4 t from by dsimp only [dats]]; unfold Dat.blockOf iblk; rw [A_eq]; try rfl) t d).trans
    (by unfold Dat.fetched Dat.blockOf iblk; rw [A_eq]; try rfl)
theorem after0_4 (c : Dev nD) (t : Fin cfg0.N) : (dats m hW 0 c).after 4 t = iblk m c 4 t := by dsimp only [dats]
/-- Window 5's buffer holds its block. -/
theorem before0_5 (c : Dev nD) (t : Fin cfg0.N) (d) : (dats m hW 0 c).before 5 t d = iblk m c 5 t :=
  ((dats m hW 0 c).before_in_eq_fetched 5 rfl (fun _ => rfl) (fun _ _ _ => rfl) (fun t => by
    rw [show (dats m hW 0 c).after 5 t = iblk m c 5 t from by dsimp only [dats]]; unfold Dat.blockOf iblk; rw [A_eq]; try rfl) t d).trans
    (by unfold Dat.fetched Dat.blockOf iblk; rw [A_eq]; try rfl)
theorem after0_5 (c : Dev nD) (t : Fin cfg0.N) : (dats m hW 0 c).after 5 t = iblk m c 5 t := by dsimp only [dats]
/-- Window 6's buffer holds its block. -/
theorem before0_6 (c : Dev nD) (t : Fin cfg0.N) (d) : (dats m hW 0 c).before 6 t d = iblk m c 6 t :=
  ((dats m hW 0 c).before_in_eq_fetched 6 rfl (fun _ => rfl) (fun _ _ _ => rfl) (fun t => by
    rw [show (dats m hW 0 c).after 6 t = iblk m c 6 t from by dsimp only [dats]]; unfold Dat.blockOf iblk; rw [A_eq]; try rfl) t d).trans
    (by unfold Dat.fetched Dat.blockOf iblk; rw [A_eq]; try rfl)
theorem after0_6 (c : Dev nD) (t : Fin cfg0.N) : (dats m hW 0 c).after 6 t = iblk m c 6 t := by dsimp only [dats]
/-- Window 7's buffer holds its block. -/
theorem before0_7 (c : Dev nD) (t : Fin cfg0.N) (d) : (dats m hW 0 c).before 7 t d = iblk m c 7 t :=
  ((dats m hW 0 c).before_in_eq_fetched 7 rfl (fun _ => rfl) (fun _ _ _ => rfl) (fun t => by
    rw [show (dats m hW 0 c).after 7 t = iblk m c 7 t from by dsimp only [dats]]; unfold Dat.blockOf iblk; rw [A_eq]; try rfl) t d).trans
    (by unfold Dat.fetched Dat.blockOf iblk; rw [A_eq]; try rfl)
theorem after0_7 (c : Dev nD) (t : Fin cfg0.N) : (dats m hW 0 c).after 7 t = iblk m c 7 t := by dsimp only [dats]

/-! ## The body at a point -/

/-- What the body is called with. -/
def bodyPre (c : Dev nD) (t : Fin cfg0.N) : sProp 𝕄 :=
  iprop((dats m hW 0 c).Φ t.castSucc ∗ (dats m hW 0 c).owesAt () t.castSucc
    ∗ (∃ d, owns (c : Thread nD τ) (win0_0.stage (cfg0.slots t 0)) fullShare ((dats m hW 0 c).before 0 t d))
    ∗ (∃ d, owns (c : Thread nD τ) (win0_1.stage (cfg0.slots t 1)) fullShare ((dats m hW 0 c).before 1 t d))
    ∗ (∃ d, owns (c : Thread nD τ) (win0_2.stage (cfg0.slots t 2)) fullShare ((dats m hW 0 c).before 2 t d))
    ∗ (∃ d, owns (c : Thread nD τ) (win0_3.stage (cfg0.slots t 3)) fullShare ((dats m hW 0 c).before 3 t d))
    ∗ (∃ d, owns (c : Thread nD τ) (win0_4.stage (cfg0.slots t 4)) fullShare ((dats m hW 0 c).before 4 t d))
    ∗ (∃ d, owns (c : Thread nD τ) (win0_5.stage (cfg0.slots t 5)) fullShare ((dats m hW 0 c).before 5 t d))
    ∗ (∃ d, owns (c : Thread nD τ) (win0_6.stage (cfg0.slots t 6)) fullShare ((dats m hW 0 c).before 6 t d))
    ∗ (∃ d, owns (c : Thread nD τ) (win0_7.stage (cfg0.slots t 7)) fullShare ((dats m hW 0 c).before 7 t d))
    ∗ (∃ d, owns (c : Thread nD τ) (win0_8.stage (cfg0.slots t 8)) fullShare ((dats m hW 0 c).before 8 t d)))
/-- What it returns. -/
def bodyPost (c : Dev nD) (t : Fin cfg0.N) : sProp 𝕄 :=
  iprop((dats m hW 0 c).Φ t.succ ∗ (dats m hW 0 c).owesAt () t.succ
    ∗ owns (c : Thread nD τ) (win0_0.stage (cfg0.slots t 0)) fullShare ((dats m hW 0 c).after 0 t)
    ∗ owns (c : Thread nD τ) (win0_1.stage (cfg0.slots t 1)) fullShare ((dats m hW 0 c).after 1 t)
    ∗ owns (c : Thread nD τ) (win0_2.stage (cfg0.slots t 2)) fullShare ((dats m hW 0 c).after 2 t)
    ∗ owns (c : Thread nD τ) (win0_3.stage (cfg0.slots t 3)) fullShare ((dats m hW 0 c).after 3 t)
    ∗ owns (c : Thread nD τ) (win0_4.stage (cfg0.slots t 4)) fullShare ((dats m hW 0 c).after 4 t)
    ∗ owns (c : Thread nD τ) (win0_5.stage (cfg0.slots t 5)) fullShare ((dats m hW 0 c).after 5 t)
    ∗ owns (c : Thread nD τ) (win0_6.stage (cfg0.slots t 6)) fullShare ((dats m hW 0 c).after 6 t)
    ∗ owns (c : Thread nD τ) (win0_7.stage (cfg0.slots t 7)) fullShare ((dats m hW 0 c).after 7 t)
    ∗ owns (c : Thread nD τ) (win0_8.stage (cfg0.slots t 8)) fullShare ((dats m hW 0 c).after 8 t))

/-- The body at a point: what it holds is opened, the run applied, and what it holds is closed. -/
theorem sound_body (c : Dev nD) (t : Fin cfg0.N) :
    bodyPre m hW c t ⊢ wp frame (wpE (defs₀ (F := F)) Variants.none c none) Set.univ (bodyAt0 t) (fun _ => bodyPost m hW c t) := by
  unfold bodyPre bodyPost bodyAt0
  rw [show (dats m hW 0 c).Φ t.succ = (dats m hW 0 c).Φ t.castSucc from rfl,
    show (dats m hW 0 c).Φ t.castSucc = Pipeline.ΦD osem0 spec0 H0 (V m) c from rfl, PhiD0_eq,
    after0_0, after0_1, after0_2, after0_3, after0_4, after0_5, after0_6, after0_7, after0_8]
  unfold Dat.owesAt Pipeline.owesWithin
  rw [show (dats m hW 0 c).owed t.castSucc = 0 from rfl, show (dats m hW 0 c).owed t.succ = 0 from rfl]
  simp only [before0_0, before0_1, before0_2, before0_3, before0_4, before0_5, before0_6, before0_7]
  iintro ⟨⟨⟨%f, HS⟩, Hg, Hq, Hh⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold outAt
  iapply (bodyRun (F := F) c (grid0.coords t) _ _ _ _ _ _ _ _ _ _ _ _ _ _ _ _ _ _ (V m c main_arg1) (iblk m c 0 t) (hW c t)
    (iblk m c 1 t) (iblk m c 2 t) (iblk m c 3 t) (iblk m c 4 t) (iblk m c 5 t) (iblk m c 6 t) (iblk m c 7 t) f W _)
  isplitl [H0]; · unfold wordsAt; iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iexists _; iexact H8
  isplitl [HS]; · iexact HS
  isplitl [Hq]; · iexact Hq
  isplitl [Hh]; · iexact Hh
  isplitl [HO]; · iexact HO
  iintro ⟨H0, H1, H2, H3, H4, H5, H6, H7, H8, HS, Hq, Hh, ⟨%W', HO⟩⟩
  isplitl [HS Hg Hq Hh]
  · isplitl [HS]; · iexists _; iexact HS
    isplitl [Hg]; · iexact Hg
    isplitl [Hq]; · iexact Hq
    iexact Hh
  isplitl [HO]
  · iexists W'; isplitr; · ipureintro; exact fun _ _ => Or.inl trivial
    iexact HO
  isplitl [H0]; · unfold wordsAt; iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  iexact H8

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m hW 0 c) (defs₀ (F := F)) Variants.none () Set.univ := fun t => by
  rw [bigSep_W0, bigSep_W0, defs₀_row]
  exact triple_restated (sound_body m hW c t) rfl .rfl fun _ => .rfl

/-! ## The run -/

set_option backward.isDefEq.respectTransparency.types false in
/-- The whole program runs; the windows' arrays end as the data say, the others as the region found them, the counters at zero. -/
theorem run_main : θ_run defs (onTc (τ := τ) (main (F := F))) (s₀ m ρ)
    (fun r => Pipeline.FramePost cfgs (dats m hW) 0 (V m) r ∧ r.2.sem = fun _ => 0) :=
  Pipeline.θ_run_frame_dma (Q' := _) cfgs (dats m hW) (0 : Fin 1) launch0 osem0 defs₀ Variants.none ownSemFacts0 H0 H0_sub m ρ main
    (hbody := fun c => (body_obligation m hW c).loose) (hshare := fun c => (dats m hW 0 c).share_full fun _ => rfl)
    (howed := fun _ _ => rfl) (V := V m) (hmain := hmainD m Variants.none) (hA := A_eq m hW)
    (hin := fun _ => .rfl) (hout := fun _ => .rfl)

/-- The arguments at the end of the run. -/
theorem args_kept {r : PUnit × MemSt nD τ sig (Elt F)} (h : Pipeline.FramePost cfgs (dats m hW) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 1).trans (((dats m hW 0 c).arrAt_in 1 rfl _).trans ((A_eq m hW c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 2).trans (((dats m hW 0 c).arrAt_in 2 rfl _).trans ((A_eq m hW c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 6).trans (((dats m hW 0 c).arrAt_in 6 rfl _).trans ((A_eq m hW c 6).trans (V_main_arg7 m c))),
    ((h c).1 7).trans (((dats m hW 0 c).arrAt_in 7 rfl _).trans ((A_eq m hW c 7).trans (V_main_arg8 m c)))⟩

include hW in
/-- The frame: the program runs, its arguments end unchanged and every counter at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_kept m hW h.1 c, h.2⟩) (run_main m ρ hW)

/-! ## The words from the argument -/

/-- The words as the region finds them are the argument's, reshaped. -/
theorem words_eq (c : Dev nD) : V m c main_v0 = shapeCast S130x1x512 (m ((c : Thread nD τ).loc main_arg2)) shapeCasts_S8320x8_S130x1x512 := by
  show StableHlo.after hostOps0 _ (Proc.devRef .tc main_v0) = _
  after_results
  rfl

/-- Words of an argument that names rows that exist do so at every point. -/
theorem words_ok (h : ∀ (c : Dev nD) (i : S8320x8.Idx), BitVec.toNat (m ((c : Thread nD τ).loc main_arg2) i) < 82944) : WordsOk m := by
  intro c t j a
  have hv : ∃ i, wordAt (F := F) (iblk m c 0 t) j = m ((c : Thread nD τ).loc main_arg2) i := by
    unfold wordAt iblk
    rw [show V m c (Pipeline.arrRef spec0 0) = V m c main_v0 from rfl, words_eq]
    exact ⟨_, rfl⟩
  obtain ⟨i, hi⟩ := hv
  have hb := h c i
  rw [← hi] at hb
  match a with
  | ⟨0, _⟩ => show (wordAt (F := F) (iblk m c 0 t) j).toNat + 1 ≤ 82944; omega
  | ⟨1, _⟩ => show 0 + 2048 ≤ 2048; omega

end Cert.Kernel5Ideal.Comb

end
-- ==== Proof.CombValue.lean ====
/- The combine over the extended reals: a token's routed rows by its gates and the shared expert, added to the scaled residual
   and normalised. -/
module

public import proofs.«01_k».proof.Proof.RowNorm
public import proofs.«01_k».proof.Proof.RowValue
public import proofs.«01_k».proof.Proof.CombRun
public import Idealize.ShloMosaic.Lib.Pipeline.ValueKit
public import Idealize.ShloMosaic.Lib.Pointwise
public import Idealize.ShloMosaic.Lib.IdealHost

@[expose] public section

set_option maxRecDepth 16384

noncomputable section

namespace Combine

open Idealize.ShloMosaic

/-- A token's routed experts: its eight rows by their gates, summed in order. -/
def routedRow (g : Fin 8 → EReal) (r : Fin 8 → Fin 2048 → EReal) (b : Fin 2048) : EReal :=
  g 0 * r 0 b + g 1 * r 1 b + g 2 * r 2 b + g 3 * r 3 b + g 4 * r 4 b + g 5 * r 5 b + g 6 * r 6 b + g 7 * r 7 b

/-- A token's result. -/
def row (x : Fin 2048 → EReal) (g : Fin 8 → EReal) (r : Fin 8 → Fin 2048 → EReal) (wg wu : Fin 2048 → Fin 512 → EReal) (wd : Fin 512 → Fin 2048 → EReal)
    (lg lb : Fin 2048 → EReal) (b : Fin 2048) : EReal :=
  RowNorm.norm (RowNorm.residual x (fun j => routedRow g r j + Experts.expertRow x wg wu wd j)) lg lb b

/-- The row is what its parts are. -/
theorem row_congr {x x' : Fin 2048 → EReal} {g g' : Fin 8 → EReal} {r r' : Fin 8 → Fin 2048 → EReal} {wg wg' wu wu' : Fin 2048 → Fin 512 → EReal}
    {wd wd' : Fin 512 → Fin 2048 → EReal} {lg lg' lb lb' : Fin 2048 → EReal} {b b' : Fin 2048}
    (hx : ∀ k, x k = x' k) (hg : ∀ k, g k = g' k) (hr : ∀ k j, r k j = r' k j) (h1 : ∀ k j, wg k j = wg' k j) (h2 : ∀ k j, wu k j = wu' k j)
    (h3 : ∀ k j, wd k j = wd' k j) (h4 : ∀ k, lg k = lg' k) (h5 : ∀ k, lb k = lb' k) (hb : b = b') :
    row x g r wg wu wd lg lb b = row x' g' r' wg' wu' wd' lg' lb' b' := by
  obtain rfl := funext hx
  obtain rfl := funext hg
  obtain rfl := funext fun k => funext (hr k)
  obtain rfl := funext fun k => funext (h1 k)
  obtain rfl := funext fun k => funext (h2 k)
  obtain rfl := funext fun k => funext (h3 k)
  obtain rfl := funext h4
  obtain rfl := funext h5
  subst hb
  rfl

/-- Every token's result, the rows of the sorted results picked by its words. -/
def out (x : (⟨2, ![8320, 2048]⟩ : Shape).Idx → EReal) (ys : (⟨2, ![82944, 2048]⟩ : Shape).Idx → EReal) (d : (⟨2, ![8320, 8]⟩ : Shape).Idx → BitVec 32)
    (hd : ∀ i, (d i).toNat < 82944) (ga : (⟨2, ![8320, 8]⟩ : Shape).Idx → EReal) (wg wu : (⟨2, ![2048, 512]⟩ : Shape).Idx → EReal)
    (wd : (⟨2, ![512, 2048]⟩ : Shape).Idx → EReal) (lg lb : (⟨2, ![1, 2048]⟩ : Shape).Idx → EReal) (y : (⟨2, ![8320, 2048]⟩ : Shape).Idx) : EReal :=
  row (fun b => x (ix2 (y 0) b)) (fun k => ga (ix2 (y 0) k)) (fun k b => ys (ix2 ⟨(d (ix2 (y 0) k)).toNat, hd _⟩ b))
    (fun k j => wg (ix2 k j)) (fun k j => wu (ix2 k j)) (fun k j => wd (ix2 k j)) (fun b => lg (ix2 0 b)) (fun b => lb (ix2 0 b)) (y 1)

end Combine

namespace Cert.Kernel5Ideal.Comb

open Cert.Kernel5Ideal Cert.Kernel5Ideal.Gen
open Idealize.ShloMosaic Idealize.ShloMosaic.TcCoe

/-- The shared expert's block at an index. -/
theorem shared_apply (x : Vec Ideal S64x2048 .f32) (wg wu : Vec Ideal S2048x512 .bf16) (wd : Vec Ideal S512x2048 .bf16) (a : Fin 64) (b : Fin 2048) :
    sharedOut x wg wu wd (ix2 a b) = Experts.expertRow (fun k => x (ix2 a k)) (fun k j => wg (ix2 k j)) (fun k j => wu (ix2 k j)) (fun k j => wd (ix2 k j)) b := by
  unfold Experts.expertRow Experts.hiddenUnit
  pointwise [sharedOut]

/-- The routed experts' block at an index. -/
theorem routed_apply (ga : Vec Ideal S64x8 .f32) (buf : S8x64x2048.Idx → EReal) (a : Fin 64) (b : Fin 2048) :
    routedOut (F := Ideal) ga buf (ix2 a b) = Combine.routedRow (fun k => ga (ix2 a k)) (fun k b => buf (ix3 k a b)) b := by
  unfold Combine.routedRow
  pointwise [routedOut, gated, plane]
  rfl

/-- The layer norm of a block at an index is that of its row. -/
theorem normRows_apply (z : FVec Ideal S64x2048 .f32) (lg lb : Vec Ideal S1x2048 .f32) (a : Fin 64) (b : Fin 2048) :
    normRows z lg lb (ix2 a b) = RowNorm.norm (fun k => z (ix2 a k)) (fun k => lg (ix2 0 k)) (fun k => lb (ix2 0 k)) b := by
  unfold RowNorm.norm RowNorm.mean
  pointwise [normRows]

/-- The block the body leaves, at an index. -/
theorem combined_apply (x : Vec Ideal S64x2048 .f32) (ga : Vec Ideal S64x8 .f32) (wg wu : Vec Ideal S2048x512 .bf16) (wd : Vec Ideal S512x2048 .bf16)
    (lg lb : Vec Ideal S1x2048 .f32) (buf : S8x64x2048.Idx → EReal) (a : Fin 64) (b : Fin 2048) :
    combined (F := Ideal) x ga wg wu wd lg lb buf (ix2 a b) = Combine.row (fun k => x (ix2 a k)) (fun k => ga (ix2 a k)) (fun k b => buf (ix3 k a b))
      (fun k j => wg (ix2 k j)) (fun k j => wu (ix2 k j)) (fun k j => wd (ix2 k j)) (fun k => lg (ix2 0 k)) (fun k => lb (ix2 0 k)) b := by
  have h : ∀ k : Fin 2048, mixedRows (F := Ideal) x (routedOut (F := Ideal) ga buf) (sharedOut x wg wu wd) (ix2 a k) = RowNorm.residual (fun k => x (ix2 a k))
      (fun j => Combine.routedRow (fun k => ga (ix2 a k)) (fun k b => buf (ix3 k a b)) j + Experts.expertRow (fun k => x (ix2 a k)) (fun k j => wg (ix2 k j)) (fun k j => wu (ix2 k j)) (fun k j => wd (ix2 k j)) j) k := fun k => by
    unfold RowNorm.residual
    pointwise [mixedRows]
    rw [shared_apply, routed_apply]
  unfold combined Combine.row
  rw [normRows_apply, funext h]

/-- The words' block shape at an index: word `j` of block `t` is the word of token `64 t + j / 8` and choice `j mod 8`. -/
theorem words_apply (d : IVec S8320x8 32) (t : Fin 130) (a : Fin 64) (k : Fin 8) :
    shapeCast S130x1x512 d shapeCasts_S8320x8_S130x1x512 (ix3 t 0 ⟨a.val * 8 + k.val, by omega⟩) = d (ix2 ⟨64 * t.val + a.val, by omega⟩ k) := by
  refine shapeCast_apply d _ _ _ ?_
  rw [Shape.rowMajor_val_two, Shape.rowMajor_val_three]
  show (64 * t.val + a.val) * 8 + k.val = (t.val * 1 + 0) * 512 + (a.val * 8 + k.val)
  omega

variable (m : (ℓ : Loc nD τ sig) → Buf (Elt Ideal) ℓ) (hW : WordsOk m)

/-- The gate weights as the region finds them are the argument's, -/
theorem weights1 (c : Dev nD) : V m c main_v1 = (m ((c : Thread nD τ).loc main_arg4) : S2048x512.Idx → EReal) := by
  have h : V m c main_v1 = (truncf (F := Ideal) .bf16 (m ((c : Thread nD τ).loc main_arg4) : FVec Ideal S2048x512 .f32) bitsLt_bf16_f32 : FVec Ideal S2048x512 .bf16) := by
    show StableHlo.after hostOps0 _ (Proc.devRef .tc main_v1) = _
    after_results
  rw [h]
  funext y
  pointwise []

/-- so are the up weights, -/
theorem weights2 (c : Dev nD) : V m c main_v2 = (m ((c : Thread nD τ).loc main_arg5) : S2048x512.Idx → EReal) := by
  have h : V m c main_v2 = (truncf (F := Ideal) .bf16 (m ((c : Thread nD τ).loc main_arg5) : FVec Ideal S2048x512 .f32) bitsLt_bf16_f32 : FVec Ideal S2048x512 .bf16) := by
    show StableHlo.after hostOps0 _ (Proc.devRef .tc main_v2) = _
    after_results
  rw [h]
  funext y
  pointwise []

/-- and the down weights. -/
theorem weights3 (c : Dev nD) : V m c main_v3 = (m ((c : Thread nD τ).loc main_arg6) : S512x2048.Idx → EReal) := by
  have h : V m c main_v3 = (truncf (F := Ideal) .bf16 (m ((c : Thread nD τ).loc main_arg6) : FVec Ideal S512x2048 .f32) bitsLt_bf16_f32 : FVec Ideal S512x2048 .bf16) := by
    show StableHlo.after hostOps0 _ (Proc.devRef .tc main_v3) = _
    after_results
  rw [h]
  funext y
  pointwise []

/-- The point's words. -/
theorem index0 : ∀ t : Fin cfg0.N, win0_0.index t = ![t.val, 0, 0] := (by decide +kernel : ∀ t : Fin grid0.N, win0_0.index t = ![t.val, 0, 0])
/-- The point's tokens. -/
theorem index1 : ∀ t : Fin cfg0.N, win0_1.index t = ![t.val, 0] := (by decide +kernel : ∀ t : Fin grid0.N, win0_1.index t = ![t.val, 0])
/-- The point's gates. -/
theorem index2 : ∀ t : Fin cfg0.N, win0_2.index t = ![t.val, 0] := (by decide +kernel : ∀ t : Fin grid0.N, win0_2.index t = ![t.val, 0])
/-- The gate weights: all. -/
theorem index3 : ∀ t : Fin cfg0.N, win0_3.index t = ![0, 0] := (by decide +kernel : ∀ t : Fin grid0.N, win0_3.index t = ![0, 0])
/-- The up weights: all. -/
theorem index4 : ∀ t : Fin cfg0.N, win0_4.index t = ![0, 0] := (by decide +kernel : ∀ t : Fin grid0.N, win0_4.index t = ![0, 0])
/-- The down weights: all. -/
theorem index5 : ∀ t : Fin cfg0.N, win0_5.index t = ![0, 0] := (by decide +kernel : ∀ t : Fin grid0.N, win0_5.index t = ![0, 0])
/-- The gains: all. -/
theorem index6 : ∀ t : Fin cfg0.N, win0_6.index t = ![0, 0] := (by decide +kernel : ∀ t : Fin grid0.N, win0_6.index t = ![0, 0])
/-- The shifts: all. -/
theorem index7 : ∀ t : Fin cfg0.N, win0_7.index t = ![0, 0] := (by decide +kernel : ∀ t : Fin grid0.N, win0_7.index t = ![0, 0])
/-- The point's block of the result. -/
theorem index8 : ∀ t : Fin cfg0.N, win0_8.index t = ![t.val, 0] := (by decide +kernel : ∀ t : Fin grid0.N, win0_8.index t = ![t.val, 0])

/-- The word of a row of the buffer is its token's word for its choice. -/
theorem word_eq (c : Dev nD) (t : Fin cfg0.N) (a : Fin 64) (k : Fin 8) (b b' : Fin 2048) :
    wordAt (F := Ideal) (iblk m c 0 t) (rowOf (ix3 k a b)) = m ((c : Thread nD τ).loc main_arg2) (ix2 ((win0_8.blk t).view.emb (ix2 a b') 0) k) := by
  have ht : t.val < 130 := t.isLt
  unfold wordAt
  blk_simp [iblk]
  rw [words_eq]
  refine Eq.trans (congrArg (shapeCast S130x1x512 (m ((c : Thread nD τ).loc main_arg2)) shapeCasts_S8320x8_S130x1x512) ?_)
    ((words_apply (m ((c : Thread nD τ).loc main_arg2)) ⟨t.val, ht⟩ a k).trans (congrArg (m ((c : Thread nD τ).loc main_arg2)) ?_))
  · blk_ext [index0]
    rfl
  · blk_ext [index8]

/-- The final array. -/
theorem final (c : Dev nD) (hd : ∀ i : S8320x8.Idx, BitVec.toNat (m ((c : Thread nD τ).loc main_arg2) i) < 82944) :
    (dats m hW 0 c).arrAt 8 cfg0.N = Combine.out (m ((c : Thread nD τ).loc main_arg0)) (m ((c : Thread nD τ).loc main_arg1))
      (m ((c : Thread nD τ).loc main_arg2)) hd (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m hW 0 c).arrAt_eq_of_covers 8 _ (by decide +kernel) fun t hf y => ?_
  blk_simp
  rw [after0_8]
  obtain ⟨a, b, rfl⟩ : ∃ (a : Fin 64) (b : Fin 2048), y = ix2 a b := ⟨y 0, y 1, eq_ix2 y⟩
  unfold outAt
  refine (combined_apply _ _ _ _ _ _ _ _ a b).trans ?_
  unfold Combine.out
  have e1 : ∀ k : Fin 2048, iblk m c 1 t (ix2 a k) = m ((c : Thread nD τ).loc main_arg0) (ix2 ((win0_8.blk t).view.emb (ix2 a b) 0) k) := fun k => by
    blk_simp [iblk]
    rw [V_main_arg0]
    refine congrArg (m ((c : Thread nD τ).loc main_arg0)) ?_
    blk_ext [index1, index8]
  have e2 : ∀ k : Fin 8, iblk m c 2 t (ix2 a k) = m ((c : Thread nD τ).loc main_arg3) (ix2 ((win0_8.blk t).view.emb (ix2 a b) 0) k) := fun k => by
    blk_simp [iblk]
    rw [V_main_arg3]
    refine congrArg (m ((c : Thread nD τ).loc main_arg3)) ?_
    blk_ext [index2, index8]
  have e3 : ∀ (k : Fin 2048) (j : Fin 512), iblk m c 3 t (ix2 k j) = m ((c : Thread nD τ).loc main_arg4) (ix2 k j) := fun k j => by
    blk_simp [iblk]
    rw [weights1]
    refine congrArg (m ((c : Thread nD τ).loc main_arg4)) ?_
    blk_ext [index3]
  have e4 : ∀ (k : Fin 2048) (j : Fin 512), iblk m c 4 t (ix2 k j) = m ((c : Thread nD τ).loc main_arg5) (ix2 k j) := fun k j => by
    blk_simp [iblk]
    rw [weights2]
    refine congrArg (m ((c : Thread nD τ).loc main_arg5)) ?_
    blk_ext [index4]
  have e5 : ∀ (k : Fin 512) (j : Fin 2048), iblk m c 5 t (ix2 k j) = m ((c : Thread nD τ).loc main_arg6) (ix2 k j) := fun k j => by
    blk_simp [iblk]
    rw [weights3]
    refine congrArg (m ((c : Thread nD τ).loc main_arg6)) ?_
    blk_ext [index5]
  have e6 : ∀ k : Fin 2048, iblk m c 6 t (ix2 0 k) = m ((c : Thread nD τ).loc main_arg7) (ix2 0 k) := fun k => by
    blk_simp [iblk]
    rw [V_main_arg7]
    refine congrArg (m ((c : Thread nD τ).loc main_arg7)) ?_
    blk_ext [index6]
  have e7 : ∀ k : Fin 2048, iblk m c 7 t (ix2 0 k) = m ((c : Thread nD τ).loc main_arg8) (ix2 0 k) := fun k => by
    blk_simp [iblk]
    rw [V_main_arg8]
    refine congrArg (m ((c : Thread nD τ).loc main_arg8)) ?_
    blk_ext [index7]
  have eg : ∀ (k : Fin 8) (j : Fin 2048), gathered (F := Ideal) (V m c main_arg1) (iblk m c 0 t) (hW c t) (ix3 k a j)
      = m ((c : Thread nD τ).loc main_arg1) (ix2 ⟨(m ((c : Thread nD τ).loc main_arg2) (ix2 ((win0_8.blk t).view.emb (ix2 a b) 0) k)).toNat, hd _⟩ j) := fun k j => by
    unfold gathered
    rw [V_main_arg1]
    refine congrArg (m ((c : Thread nD τ).loc main_arg1)) (congrArg (fun r : Fin 82944 => (ix2 r j : S82944x2048.Idx)) (Fin.ext ?_))
    exact congrArg BitVec.toNat (word_eq m c t a k j b)
  have eb : ((win0_8.blk t).view.emb (ix2 a b) 1 : Fin 2048) = b := Fin.ext (by blk_simp [index8])
  exact Combine.row_congr e1 e2 eg e3 e4 e5 e6 e7 eb.symm

end Cert.Kernel5Ideal.Comb

end
-- ==== Proof.CombRef.lean ====
/- The reference of the combine over the extended reals, read at an index: the same rows. -/
module

public import proofs.«01_k».proof.Proof.CombValue
public import proofs.«01_k».proof.Proof.Gen.Reference5Ideal.Run
public import proofs.«01_k».proof.Proof.Gen.Pre_rows_exist

@[expose] public section

set_option maxRecDepth 16384

noncomputable section

namespace Combine

open Idealize.ShloMosaic

/-- Words that pass the test name rows that exist. -/
theorem words_of_pre {F : FTy → Type} [FloatOps F] (a0 a1) (d : IVec Cert.Pre_rows_exist.S8320x8 32) (a3 a4 a5 a6 a7 a8)
    (h : haveI := Cert.Pre_rows_exist.Gen.facts; Cert.Pre_rows_exist.fn (F := F) a0 a1 d a3 a4 a5 a6 a7 a8 = fun _ => 1#1) (i : Cert.Pre_rows_exist.S8320x8.Idx) :
    (d i).toNat < 82944 := by
  have e := congrFun h (fun a => a.elim0)
  simp only [Cert.Pre_rows_exist.fn] at e
  have two : ∀ p q : BitVec 1, IntOp.andi p q = 1#1 → p = 1#1 ∧ q = 1#1 := by decide
  haveI : Subsingleton Cert.Pre_rows_exist.S_.Idx := ⟨fun a b => funext fun z => z.elim0⟩
  have one := fun b => (StableHlo.Predicate.ofBool_eq_one_iff b).mp
  obtain ⟨e1, e2⟩ := two _ _ (Host.reduce_andi_all _ _ _ _ _ e i)
  have f1 : (0 : ℤ) ≤ (d i).toInt := of_decide_eq_true (one _ e1)
  have f2 : (d i).toInt < (82944 : ℤ) := of_decide_eq_true (one _ e2)
  have c := BitVec.toInt_eq_toNat_cond (d i)
  split at c <;> omega

/-- The dimension numbers with which the reference takes a token's rows out of the sorted results. -/
abbrev takeRow (wf : GatherDims.WF ⟨2, ![82944, 2048]⟩ ⟨2, ![8320, 1]⟩ ⟨2, ![8320, 2048]⟩ [1] [0] [] [0] [] 1 ![1, 2048]) :
    GatherDims ⟨2, ![82944, 2048]⟩ ⟨2, ![8320, 1]⟩ ⟨2, ![8320, 2048]⟩ where
  offsetDims := [1]
  collapsedSliceDims := [0]
  operandBatchingDims := []
  startIndicesBatchingDims := []
  startIndexMap := [0]
  indexVectorDim := 1
  sliceSizes := ![1, 2048]
  wf := wf

/-- That gather at an index: the row that the token's word names, when it names one. -/
theorem takeRow_apply {α : Type} (wf : GatherDims.WF ⟨2, ![82944, 2048]⟩ ⟨2, ![8320, 1]⟩ ⟨2, ![8320, 2048]⟩ [1] [0] [] [0] [] 1 ![1, 2048])
    (x : (⟨2, ![82944, 2048]⟩ : Shape).Idx → α) (idx : IVec ⟨2, ![8320, 1]⟩ 32) (a : Fin 8320) (b : Fin 2048) (e : Fin 82944)
    (h : (idx (ix2 a 0)).toInt.toNat = e.val) : Host.gather (takeRow wf) x idx (ix2 a b) = x (ix2 e b) := by
  unfold Host.gather
  refine congrArg x (funext fun c => Fin.ext ?_)
  show (takeRow wf).start (ix2 a b) idx c + (takeRow wf).batchCoord (ix2 a b) c + (takeRow wf).offCoord (ix2 a b) c = _
  rw [GatherDims.batchCoord_eq_zero _ _ _ List.not_mem_nil, Nat.add_zero]
  match c with
  | ⟨0, _⟩ =>
    have h1 : (takeRow wf).start (ix2 a b) idx 0 = min (idx (ix2 a 0)).toInt.toNat (82944 - 1) := by
      unfold GatherDims.start
      rw [dif_pos (show (0 : Fin 2) ∈ (takeRow wf).startIndexMap from List.mem_cons_self)]
      refine congrArg (fun i : (⟨2, ![8320, 1]⟩ : Shape).Idx => min (idx i).toInt.toNat (82944 - 1)) ?_
      funext b'; refine Fin.ext ?_
      match b' with
      | ⟨0, _⟩ => rfl
      | ⟨1, _⟩ => rfl
    have h2 : (takeRow wf).offCoord (ix2 a b) 0 = 0 := rfl
    have he := e.isLt
    refine (congrArg₂ (· + ·) h1 h2).trans ?_
    rw [h]
    show min e.val (82944 - 1) + 0 = e.val
    omega
  | ⟨1, _⟩ =>
    have h1 : (takeRow wf).start (ix2 a b) idx 1 = 0 := by
      have := (takeRow wf).start_le (ix2 a b) idx 1
      have e : (⟨2, ![82944, 2048]⟩ : Shape).size 1 - (takeRow wf).sliceSizes 1 = 0 := Nat.sub_self 2048
      omega
    have h2 : (takeRow wf).offCoord (ix2 a b) 1 = b.val := rfl
    exact (congrArg₂ (· + ·) h1 h2).trans (Nat.zero_add _)

end Combine

namespace Cert.Reference5Ideal.Comb

open Cert.Reference5Ideal Cert.Reference5Ideal.Gen
open Idealize.ShloMosaic Idealize.ShloMosaic.TcCoe

/-- One choice's words as a vector. -/
def words (d : IVec S8320x1 32) : IVec S8320 32 := shapeCast _ d shapeCasts_S8320x1_S8320

/-- The rows to take for one choice, a negative word counted from the end. -/
def starts (w : IVec S8320 32) : IVec S8320x1 32 :=
  broadcastInDim S8320x1 ![0] bcast_S8320_S8320x1_0 (select (cmpi .slt w (broadcastInDim S8320 ![] bcast_S_S8320 (constantI S_ 32 0#32))) (addi w (broadcastInDim S8320 ![] bcast_S_S8320 (constantI S_ 32 82944#32))) w)

/-- One choice's rows by its gates. -/
def gated (g : FVec Ideal S8320x1 .f32) (w : IVec S8320 32) (ys : FVec Ideal S82944x2048 .f32) : FVec Ideal S8320x2048 .f32 :=
  mulf (broadcastInDim S8320x2048 ![0, 1] bcast_S8320x1_S8320x2048_0_1 g) (Host.gather gather_S82944x2048_S8320x1_S8320x2048_1_0_n_n_0_1_12048 ys (starts w))

/-- The routed experts: the eight choices, summed in order. -/
def routed (ys : FVec Ideal S82944x2048 .f32) (d : IVec S8320x8 32) (ga : FVec Ideal S8320x8 .f32) : FVec Ideal S8320x2048 .f32 :=
  addf (addf (addf (addf (addf (addf (addf
    (gated (extractStridedSlice S8320x1 ![0, 0] ga slices_S8320x8_S8320x1_0_0) (words (extractStridedSlice S8320x1 ![0, 0] d slices_S8320x8_S8320x1_0_0)) ys)
    (gated (extractStridedSlice S8320x1 ![0, 1] ga slices_S8320x8_S8320x1_0_1) (words (extractStridedSlice S8320x1 ![0, 1] d slices_S8320x8_S8320x1_0_1)) ys))
    (gated (extractStridedSlice S8320x1 ![0, 2] ga slices_S8320x8_S8320x1_0_2) (words (extractStridedSlice S8320x1 ![0, 2] d slices_S8320x8_S8320x1_0_2)) ys))
    (gated (extractStridedSlice S8320x1 ![0, 3] ga slices_S8320x8_S8320x1_0_3) (words (extractStridedSlice S8320x1 ![0, 3] d slices_S8320x8_S8320x1_0_3)) ys))
    (gated (extractStridedSlice S8320x1 ![0, 4] ga slices_S8320x8_S8320x1_0_4) (words (extractStridedSlice S8320x1 ![0, 4] d slices_S8320x8_S8320x1_0_4)) ys))
    (gated (extractStridedSlice S8320x1 ![0, 5] ga slices_S8320x8_S8320x1_0_5) (words (extractStridedSlice S8320x1 ![0, 5] d slices_S8320x8_S8320x1_0_5)) ys))
    (gated (extractStridedSlice S8320x1 ![0, 6] ga slices_S8320x8_S8320x1_0_6) (words (extractStridedSlice S8320x1 ![0, 6] d slices_S8320x8_S8320x1_0_6)) ys))
    (gated (extractStridedSlice S8320x1 ![0, 7] ga slices_S8320x8_S8320x1_0_7) (words (extractStridedSlice S8320x1 ![0, 7] d slices_S8320x8_S8320x1_0_7)) ys)

/-- The shared expert. -/
def shared (x : FVec Ideal S8320x2048 .f32) (wg wu : FVec Ideal S2048x512 .f32) (wd : FVec Ideal S512x2048 .f32) : FVec Ideal S8320x2048 .f32 :=
  Host.dotGeneral dot_S8320x512_S512x2048_S8320x2048_1_0_0_1_n_n none (mulf (mulf (Host.dotGeneral dot_S8320x2048_S2048x512_S8320x512_1_0_0_1_n_n none x wg) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral dot_S8320x2048_S2048x512_S8320x512_1_0_0_1_n_n none x wg)))))) (Host.dotGeneral dot_S8320x2048_S2048x512_S8320x512_1_0_0_1_n_n none x wu)) wd

/-- The array that the reference normalises, -/
def mixed (x : FVec Ideal S8320x2048 .f32) (r s : FVec Ideal S8320x2048 .f32) : FVec Ideal S8320x2048 .f32 :=
  addf (mulf (broadcastInDim S8320x2048 ![] bcast_S_S8320x2048 (constant S_ .f32 0x3FD744FD#32)) x) (addf r s)

/-- and its layer norm. -/
def normed (z : FVec Ideal S8320x2048 .f32) (g bb : FVec Ideal S1x2048 .f32) : FVec Ideal S8320x2048 .f32 :=
  addf (mulf (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (broadcastInDim S8320x2048 ![0, 1] bcast_S8320x1_S8320x2048_0_1 (Host.rsqrt (addf (Host.divf (broadcastInDim S8320x1 ![0] bcast_S8320_S8320x1_0 (Host.reduceAdd (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32)))))) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 g)) (broadcastInDim S8320x2048 ![0, 1] bcast_S1x2048_S8320x2048_0_1 bb)

/-- The layer norm at an index is that of its row. -/
theorem normed_apply (z : FVec Ideal S8320x2048 .f32) (g bb : FVec Ideal S1x2048 .f32) (a : Fin 8320) (b : Fin 2048) :
    normed z g bb (ix2 a b) = RowNorm.norm (fun k => z (ix2 a k)) (fun k => g (ix2 0 k)) (fun k => bb (ix2 0 k)) b := by
  unfold RowNorm.norm RowNorm.mean
  pointwise [normed]

/-- The reference's result, in these words. -/
theorem res_eq (m : (ℓ : Loc nD τ sig) → Buf (Elt Ideal) ℓ) (c : Dev nD) :
    Value.res_out0 m c = normed (mixed (m ((c.tc : Thread nD τ).loc main_arg0))
      (routed (m ((c.tc : Thread nD τ).loc main_arg1)) (m ((c.tc : Thread nD τ).loc main_arg2)) (m ((c.tc : Thread nD τ).loc main_arg3)))
      (shared (m ((c.tc : Thread nD τ).loc main_arg0)) (m ((c.tc : Thread nD τ).loc main_arg4)) (m ((c.tc : Thread nD τ).loc main_arg5)) (m ((c.tc : Thread nD τ).loc main_arg6))))
      (m ((c.tc : Thread nD τ).loc main_arg7)) (m ((c.tc : Thread nD τ).loc main_arg8)) := by
  unfold Value.res_out0 Value.res_main_v139 normed mixed routed shared gated starts words
  rfl

/-- A word that names a row is the row taken. -/
theorem starts_apply (w : IVec S8320 32) (a : Fin 8320) (v : BitVec 32) (hv : w (ix1 a) = v) (hb : v.toNat < 82944) :
    (starts w (ix2 a 0)).toInt.toNat = v.toNat := by
  have hi : v.toInt = v.toNat := BitVec.toInt_eq_toNat_of_lt (by omega)
  have e : starts w (ix2 a 0) = v := by
    have hs : IntOp.cmpi .slt v 0#32 = 0#1 := by
      show BitVec.ofBool (v.slt 0#32) = 0#1
      have : v.slt 0#32 = false := by
        rw [BitVec.slt_eq_decide, hi]; simp
      rw [this]; rfl
    pointwise [starts]
    rw [hv, hs]; rfl
  rw [e, hi]
  exact Int.toNat_natCast _

/-- One choice's rows by its gates, at an index. -/
theorem gated_apply (g : FVec Ideal S8320x1 .f32) (w : IVec S8320 32) (ys : FVec Ideal S82944x2048 .f32) (a : Fin 8320) (b : Fin 2048) (v : BitVec 32)
    (hv : w (ix1 a) = v) (hb : v.toNat < 82944) : gated g w ys (ix2 a b) = g (ix2 a 0) * ys (ix2 ⟨v.toNat, hb⟩ b) := by
  have h : Host.gather gather_S82944x2048_S8320x1_S8320x2048_1_0_n_n_0_1_12048 ys (starts w) (ix2 a b) = ys (ix2 ⟨v.toNat, hb⟩ b) :=
    Combine.takeRow_apply gather_S82944x2048_S8320x1_S8320x2048_1_0_n_n_0_1_12048.wf ys (starts w) a b ⟨v.toNat, hb⟩ (starts_apply w a v hv hb)
  pointwise [gated, h]

/-- The routed experts at an index. -/
theorem routed_apply (ys : FVec Ideal S82944x2048 .f32) (d : IVec S8320x8 32) (hd : ∀ i, (d i).toNat < 82944) (ga : FVec Ideal S8320x8 .f32) (a : Fin 8320) (b : Fin 2048) :
    routed ys d ga (ix2 a b) = Combine.routedRow (fun k => ga (ix2 a k)) (fun k b => ys (ix2 ⟨(d (ix2 a k)).toNat, hd _⟩ b)) b := by
  unfold Combine.routedRow
  have h0 : gated (extractStridedSlice S8320x1 ![0, 0] ga slices_S8320x8_S8320x1_0_0) (words (extractStridedSlice S8320x1 ![0, 0] d slices_S8320x8_S8320x1_0_0)) ys (ix2 a b)
      = ga (ix2 a 0) * ys (ix2 ⟨(d (ix2 a 0)).toNat, hd _⟩ b) :=
    (gated_apply _ _ ys a b (d (ix2 a 0)) (by pointwise [words]) (hd _)).trans (by pointwise [])
  have h1 : gated (extractStridedSlice S8320x1 ![0, 1] ga slices_S8320x8_S8320x1_0_1) (words (extractStridedSlice S8320x1 ![0, 1] d slices_S8320x8_S8320x1_0_1)) ys (ix2 a b)
      = ga (ix2 a 1) * ys (ix2 ⟨(d (ix2 a 1)).toNat, hd _⟩ b) :=
    (gated_apply _ _ ys a b (d (ix2 a 1)) (by pointwise [words]) (hd _)).trans (by pointwise [])
  have h2 : gated (extractStridedSlice S8320x1 ![0, 2] ga slices_S8320x8_S8320x1_0_2) (words (extractStridedSlice S8320x1 ![0, 2] d slices_S8320x8_S8320x1_0_2)) ys (ix2 a b)
      = ga (ix2 a 2) * ys (ix2 ⟨(d (ix2 a 2)).toNat, hd _⟩ b) :=
    (gated_apply _ _ ys a b (d (ix2 a 2)) (by pointwise [words]) (hd _)).trans (by pointwise [])
  have h3 : gated (extractStridedSlice S8320x1 ![0, 3] ga slices_S8320x8_S8320x1_0_3) (words (extractStridedSlice S8320x1 ![0, 3] d slices_S8320x8_S8320x1_0_3)) ys (ix2 a b)
      = ga (ix2 a 3) * ys (ix2 ⟨(d (ix2 a 3)).toNat, hd _⟩ b) :=
    (gated_apply _ _ ys a b (d (ix2 a 3)) (by pointwise [words]) (hd _)).trans (by pointwise [])
  have h4 : gated (extractStridedSlice S8320x1 ![0, 4] ga slices_S8320x8_S8320x1_0_4) (words (extractStridedSlice S8320x1 ![0, 4] d slices_S8320x8_S8320x1_0_4)) ys (ix2 a b)
      = ga (ix2 a 4) * ys (ix2 ⟨(d (ix2 a 4)).toNat, hd _⟩ b) :=
    (gated_apply _ _ ys a b (d (ix2 a 4)) (by pointwise [words]) (hd _)).trans (by pointwise [])
  have h5 : gated (extractStridedSlice S8320x1 ![0, 5] ga slices_S8320x8_S8320x1_0_5) (words (extractStridedSlice S8320x1 ![0, 5] d slices_S8320x8_S8320x1_0_5)) ys (ix2 a b)
      = ga (ix2 a 5) * ys (ix2 ⟨(d (ix2 a 5)).toNat, hd _⟩ b) :=
    (gated_apply _ _ ys a b (d (ix2 a 5)) (by pointwise [words]) (hd _)).trans (by pointwise [])
  have h6 : gated (extractStridedSlice S8320x1 ![0, 6] ga slices_S8320x8_S8320x1_0_6) (words (extractStridedSlice S8320x1 ![0, 6] d slices_S8320x8_S8320x1_0_6)) ys (ix2 a b)
      = ga (ix2 a 6) * ys (ix2 ⟨(d (ix2 a 6)).toNat, hd _⟩ b) :=
    (gated_apply _ _ ys a b (d (ix2 a 6)) (by pointwise [words]) (hd _)).trans (by pointwise [])
  have h7 : gated (extractStridedSlice S8320x1 ![0, 7] ga slices_S8320x8_S8320x1_0_7) (words (extractStridedSlice S8320x1 ![0, 7] d slices_S8320x8_S8320x1_0_7)) ys (ix2 a b)
      = ga (ix2 a 7) * ys (ix2 ⟨(d (ix2 a 7)).toNat, hd _⟩ b) :=
    (gated_apply _ _ ys a b (d (ix2 a 7)) (by pointwise [words]) (hd _)).trans (by pointwise [])
  pointwise [routed, h0, h1, h2, h3, h4, h5, h6, h7]

/-- The shared expert at an index. -/
theorem shared_apply (x : FVec Ideal S8320x2048 .f32) (wg wu : FVec Ideal S2048x512 .f32) (wd : FVec Ideal S512x2048 .f32) (a : Fin 8320) (b : Fin 2048) :
    shared x wg wu wd (ix2 a b) = Experts.expertRow (fun k => x (ix2 a k)) (fun k j => wg (ix2 k j)) (fun k j => wu (ix2 k j)) (fun k j => wd (ix2 k j)) b := by
  unfold Experts.expertRow Experts.hiddenUnit
  pointwise [shared]
  rfl

/-- The reference's result is the same. -/
theorem result (x : FVec Ideal S8320x2048 .f32) (ys : FVec Ideal S82944x2048 .f32) (d : IVec S8320x8 32) (hd : ∀ i, (d i).toNat < 82944) (ga : FVec Ideal S8320x8 .f32)
    (wg wu : FVec Ideal S2048x512 .f32) (wd : FVec Ideal S512x2048 .f32) (lg lb : FVec Ideal S1x2048 .f32) :
    normed (mixed x (routed ys d ga) (shared x wg wu wd)) lg lb = Combine.out x ys d hd ga wg wu wd lg lb := by
  funext y
  obtain ⟨a, b, rfl⟩ : ∃ (a : Fin 8320) (b : Fin 2048), y = ix2 a b := ⟨y 0, y 1, eq_ix2 y⟩
  have h : ∀ k : Fin 2048, mixed x (routed ys d ga) (shared x wg wu wd) (ix2 a k) = RowNorm.residual (fun b => x (ix2 a b))
      (fun j => Combine.routedRow (fun k => ga (ix2 a k)) (fun k b => ys (ix2 ⟨(d (ix2 a k)).toNat, hd _⟩ b)) j + Experts.expertRow (fun k => x (ix2 a k)) (fun k j => wg (ix2 k j)) (fun k j => wu (ix2 k j)) (fun k j => wd (ix2 k j)) j) k := fun k => by
    unfold RowNorm.residual
    pointwise [mixed]
    rw [shared_apply, routed_apply ys d hd]
  rw [normed_apply, funext h]
  rfl

end Cert.Reference5Ideal.Comb

end
-- ==== Proof.CombClaims.lean ====
/- The claims of the combine: its frames, and over the extended reals its result's equality with the reference's. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Pre_rows_exist
public import proofs.«01_k».proof.Proof.CombBitsRun
public import proofs.«01_k».proof.Proof.CombRef
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- The frame of the combine at the machine's floats, at words that name rows. -/
theorem frame_bits5 : haveI := Cert.Kernel5.Gen.facts; haveI := Cert.Pre_rows_exist.Gen.facts; Cert.quiescent_Kernel5 := by
  intro m g hpre
  exact Cert.Kernel5.Comb.frame_run m g (Cert.Kernel5.Comb.words_ok m fun c i => Combine.words_of_pre (F := Bits) _ _ _ _ _ _ _ _ _ (hpre c) i)

/-- and over the extended reals. -/
theorem frame_ideal5 : haveI := Cert.Kernel5Ideal.Gen.facts; haveI := Cert.Pre_rows_exist.Gen.facts; Cert.quiescent_Kernel5Ideal := by
  intro m g hpre
  exact Cert.Kernel5Ideal.Comb.frame_run m g (Cert.Kernel5Ideal.Comb.words_ok m fun c i => Combine.words_of_pre (F := Ideal) _ _ _ _ _ _ _ _ _ (hpre c) i)

/-- The frame of its reference. -/
theorem frame_reference5 : haveI := Cert.Reference5Ideal.Gen.facts; Cert.quiescent_Reference5Ideal := by
  intro m g _
  exact (θ_run _ _ _).mono (fun r h => ⟨fun c => (h c).2, sem_eq_zero_of_no_sems (by decide) r.2⟩) (Cert.Reference5Ideal.Value.run m g)

/-- The combine is its reference's. -/
theorem equal5 : haveI := Cert.Kernel5Ideal.Gen.facts; haveI := Cert.Reference5Ideal.Gen.facts; haveI := Cert.Pre_rows_exist.Gen.facts;
    Cert.algebraic_Kernel5Ideal_Reference5Ideal := by
  intro m g m' g' hpre hargs
  have hW := Cert.Kernel5Ideal.Comb.words_ok m fun c i => Combine.words_of_pre (F := Ideal) _ _ _ _ _ _ _ _ _ (hpre c) i
  refine ⟨fun c => Combine.out (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2)) (Combine.words_of_pre (F := Ideal) _ _ _ _ _ _ _ _ _ (hpre c)) (m ((c : Thread Cert.Kernel5Ideal.nD Cert.Kernel5Ideal.τ).loc Cert.Kernel5Ideal.main_arg3)) (m ((c : Thread Cert.Kernel5Ideal.nD Cert.Kernel5Ideal.τ).loc Cert.Kernel5Ideal.main_arg4)) (m ((c : Thread Cert.Kernel5Ideal.nD Cert.Kernel5Ideal.τ).loc Cert.Kernel5Ideal.main_arg5)) (m ((c : Thread Cert.Kernel5Ideal.nD Cert.Kernel5Ideal.τ).loc Cert.Kernel5Ideal.main_arg6)) (m ((c : Thread Cert.Kernel5Ideal.nD Cert.Kernel5Ideal.τ).loc Cert.Kernel5Ideal.main_arg7)) (m ((c : Thread Cert.Kernel5Ideal.nD Cert.Kernel5Ideal.τ).loc Cert.Kernel5Ideal.main_arg8)), ?_, ?_⟩
  · exact (θ_run _ _ _).mono (fun r h c => ⟨(h.1 c).1 8 |>.trans (Cert.Kernel5Ideal.Comb.final m hW c _), Cert.Kernel5Ideal.Comb.args_kept m hW h.1 c⟩)
      (Cert.Kernel5Ideal.Comb.run_main m g hW)
  · refine (θ_run _ _ _).mono (fun r h c => ⟨(h c).1.trans ((Cert.Reference5Ideal.Comb.res_eq m' c).trans ?_), (h c).2⟩) (Cert.Reference5Ideal.Value.run m' g')
    obtain ⟨e0, e1, e2, e3, e4, e5, e6, e7, e8⟩ := hargs c
    rw [e0, e1, e2, e3, e4, e5, e6, e7, e8]
    exact Cert.Reference5Ideal.Comb.result _ _ _ _ _ _ _ _ _ _

end Cert.Proof

end
-- ==== Proof.PoolRow.lean ====
/- One token of the pooling over the extended reals: four groups' means over the last tokens, less the token. -/
module

public import proofs.«01_k».proof.Proof.RowNorm

@[expose] public section

noncomputable section

namespace PoolRow

open Idealize.ShloMosaic

/-- The sum over the last tokens of the window of group `k`, `f d` being the token `d` before. -/
def total : Fin 4 → (ℕ → EReal) → EReal
  | 0, f => f 0 + f 1
  | 1, f => f 0 + f 1 + f 2 + f 3
  | 2, f => f 0 + f 1 + f 2 + f 3 + f 4 + f 5 + f 6 + f 7
  | 3, f => f 0 + f 1 + f 2 + f 3 + f 4 + f 5 + f 6 + f 7 + f 8 + f 9 + f 10 + f 11 + f 12 + f 13 + f 14 + f 15

/-- The window of group `k`. -/
def window : Fin 4 → BitVec 32
  | 0 => 2#32
  | 1 => 4#32
  | 2 => 8#32
  | 3 => 16#32

/-- How many tokens the window of group `k` holds, of the `n` that there are. -/
def count (k : Fin 4) (n : BitVec 32) : EReal := FloatOps.sitofp (F := Ideal) .f32 (IntOp.minsi (window k) n)

/-- Column `i` of group `k`. -/
def col (k : Fin 4) (i : Fin 512) : Fin 2048 := ⟨512 * k.val + i.val, by omega⟩

/-- Column `j` of group `k` of the row that is normalised. -/
def group (k : Fin 4) (past : ℕ → Fin 2048 → EReal) (w : Fin 4 → Fin 512 → Fin 512 → EReal) (s : Fin 2048 → EReal) (n : BitVec 32) (j : Fin 512) : EReal :=
  Ideal.ofBits .f32 0x3FD744FD#32 * past 0 (col k j)
    + (∑ i : Fin 512, (Ideal.div (total k fun d => past d (col k i)) (count k n) - past 0 (col k i)) * w k i j) * s (col k j)

/-- The row that is normalised. -/
def row (past : ℕ → Fin 2048 → EReal) (w : Fin 4 → Fin 512 → Fin 512 → EReal) (s : Fin 2048 → EReal) (n : BitVec 32) (b : Fin 2048) : EReal :=
  group ⟨b.val / 512, by omega⟩ past w s n ⟨b.val % 512, by omega⟩

/-- The row at a column of a group is the group's. -/
theorem row_col (past : ℕ → Fin 2048 → EReal) (w : Fin 4 → Fin 512 → Fin 512 → EReal) (s : Fin 2048 → EReal) (n : BitVec 32) (k : Fin 4) (j : Fin 512) :
    row past w s n (col k j) = group k past w s n j := by
  unfold row
  congr 1
  · exact Fin.ext (by simp only [col]; omega)
  · exact Fin.ext (by simp only [col]; omega)

/-- Every column is one of a group. -/
theorem exists_col (b : Fin 2048) : ∃ (k : Fin 4) (j : Fin 512), b = col k j :=
  ⟨⟨b.val / 512, by omega⟩, ⟨b.val % 512, by omega⟩, Fin.ext (by simp only [col]; omega)⟩

/-- The sum looks back at no more than fifteen tokens. -/
theorem total_congr (k : Fin 4) {f g : ℕ → EReal} (h : ∀ d < 16, f d = g d) : total k f = total k g := by
  match k with
  | 0 => simp only [total, h _ (by decide : 0 < 16), h _ (by decide : 1 < 16)]
  | 1 => simp only [total, h _ (by decide : 0 < 16), h _ (by decide : 1 < 16), h _ (by decide : 2 < 16), h _ (by decide : 3 < 16)]
  | 2 => simp only [total, h _ (by decide : 0 < 16), h _ (by decide : 1 < 16), h _ (by decide : 2 < 16), h _ (by decide : 3 < 16), h _ (by decide : 4 < 16),
      h _ (by decide : 5 < 16), h _ (by decide : 6 < 16), h _ (by decide : 7 < 16)]
  | 3 => simp only [total, h _ (by decide : 0 < 16), h _ (by decide : 1 < 16), h _ (by decide : 2 < 16), h _ (by decide : 3 < 16), h _ (by decide : 4 < 16),
      h _ (by decide : 5 < 16), h _ (by decide : 6 < 16), h _ (by decide : 7 < 16), h _ (by decide : 8 < 16), h _ (by decide : 9 < 16),
      h _ (by decide : 10 < 16), h _ (by decide : 11 < 16), h _ (by decide : 12 < 16), h _ (by decide : 13 < 16), h _ (by decide : 14 < 16),
      h _ (by decide : 15 < 16)]

/-- So the row is the same for the same last sixteen tokens, weights and scales. -/
theorem row_congr {past past' : ℕ → Fin 2048 → EReal} {w w' : Fin 4 → Fin 512 → Fin 512 → EReal} {s s' : Fin 2048 → EReal} {n n' : BitVec 32}
    (hp : ∀ d < 16, ∀ b, past d b = past' d b) (hw : ∀ k i j, w k i j = w' k i j) (hs : ∀ b, s b = s' b) (hn : n = n') (b : Fin 2048) :
    row past w s n b = row past' w' s' n' b := by
  subst hn
  unfold row group
  simp only [hw, hs, hp 0 (by decide)]
  rw [Finset.sum_congr rfl fun i _ => by rw [total_congr _ fun d hd => hp d hd _]]

/-- Of an array of all the tokens' rows, two prompts of 4096 first: the token `d` before token `r`, zero before the prompt's start. -/
def past (x : Fin 8320 → Fin 2048 → EReal) (r : Fin 8320) (d : ℕ) (b : Fin 2048) : EReal :=
  if d ≤ r.val % 4096 then x ⟨r.val - d, by omega⟩ b else 0

/-- A token's row of the result. -/
def out (x : Fin 8320 → Fin 2048 → EReal) (w : Fin 4 → Fin 512 → Fin 512 → EReal) (s g h : Fin 2048 → EReal) (r : Fin 8320) (b : Fin 2048) : EReal :=
  RowNorm.norm (row (past x r) w s (BitVec.ofNat 32 (r.val % 4096) + 1#32)) g h b

end PoolRow

end
-- ==== Proof.PoolValue.lean ====
/- The prompts' pooling over the extended reals, read at an index: each tile's rows and the sixteen before them. -/
module

public import proofs.«01_k».proof.Proof.PoolRow
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.Kernel6Ideal.Pool

open Cert.Kernel6Ideal Cert.Kernel6Ideal.Gen
open Idealize.ShloMosaic Idealize.ShloMosaic.TcCoe

/-- The token `d` before row `a` of the tile, of the rows of the scratch. -/
def back (z : S528x2048.Idx → EReal) (a : Fin 512) (d : ℕ) (b : Fin 2048) : EReal := z (ix2 ⟨16 - d + a.val, by omega⟩ b)

/-- The tokens that row `a` has up to itself in its prompt. -/
def avail (i : grid0.Coords) (a : Fin 512) : BitVec 32 := BitVec.ofNat 32 (i 1).val * 512#32 + BitVec.ofNat 32 a.val + 1#32

/-- The columns of the first group. -/
theorem col0 (j : Fin 512) (h : j.val < 2048) : (⟨j.val, h⟩ : Fin 2048) = PoolRow.col 0 j := Fin.ext (by simp only [PoolRow.col]; omega)
/-- The columns of the second group. -/
theorem col1 (j : Fin 512) (h : 512 + j.val < 2048) : (⟨512 + j.val, h⟩ : Fin 2048) = PoolRow.col 1 j := Fin.ext (by simp only [PoolRow.col]; omega)
/-- The columns of the third group. -/
theorem col2 (j : Fin 512) (h : 1024 + j.val < 2048) : (⟨1024 + j.val, h⟩ : Fin 2048) = PoolRow.col 2 j := Fin.ext (by simp only [PoolRow.col]; omega)
/-- The columns of the fourth group. -/
theorem col3 (j : Fin 512) (h : 1536 + j.val < 2048) : (⟨1536 + j.val, h⟩ : Fin 2048) = PoolRow.col 3 j := Fin.ext (by simp only [PoolRow.col]; omega)

/-- The first group's columns. -/
theorem group0 (i : grid0.Coords) (z : Vec Ideal S528x2048 .f32) (w : Vec Ideal S4x512x512 .bf16) (s : Vec Ideal S1x2048 .f32) (a j : Fin 512) :
    k0_pay5 (View.ld z (Rect.unit ![16, 0] ![512, 512] inb_S528x2048_S512x512_16_0))
      (k0_pay4 i (View.ld z (Rect.unit ![16, 0] ![512, 512] inb_S528x2048_S512x512_16_0)) (View.ld z (Rect.unit ![15, 0] ![512, 512] inb_S528x2048_S512x512_15_0))
        (View.ld w (Rect.unit ![0, 0, 0] ![1, 512, 512] inb_S4x512x512_S1x512x512_0_0_0)) (View.ld s (Rect.unit ![0, 0] ![1, 512] inb_S1x2048_S1x512_0_0))) (ix2 a j)
      = PoolRow.group 0 (back z a) (fun k i j => w (ix3 k i j)) (fun b => s (ix2 0 b)) (avail i a) j := by
  unfold PoolRow.group PoolRow.count back
  simp only [PoolRow.total]
  pointwise [k0_pay5, k0_pay4, k0_pay3]
  simp only [col0]
  rfl

/-- The second group's columns. -/
theorem group1 (i : grid0.Coords) (z : Vec Ideal S528x2048 .f32) (w : Vec Ideal S4x512x512 .bf16) (s : Vec Ideal S1x2048 .f32) (a j : Fin 512) :
    k0_pay6 (k0_pay3 i) (View.ld z (Rect.unit ![16, 512] ![512, 512] inb_S528x2048_S512x512_16_512))
      (View.ld z (Rect.unit ![15, 512] ![512, 512] inb_S528x2048_S512x512_15_512))
      (View.ld z (Rect.unit ![14, 512] ![512, 512] inb_S528x2048_S512x512_14_512))
      (View.ld z (Rect.unit ![13, 512] ![512, 512] inb_S528x2048_S512x512_13_512))
      (View.ld w (Rect.unit ![1, 0, 0] ![1, 512, 512] inb_S4x512x512_S1x512x512_1_0_0)) (View.ld s (Rect.unit ![0, 512] ![1, 512] inb_S1x2048_S1x512_0_512)) (ix2 a j)
      = PoolRow.group 1 (back z a) (fun k i j => w (ix3 k i j)) (fun b => s (ix2 0 b)) (avail i a) j := by
  unfold PoolRow.group PoolRow.count back
  simp only [PoolRow.total]
  pointwise [k0_pay6, k0_pay3]
  simp only [col1]
  rfl

/-- The third group's columns. -/
theorem group2 (i : grid0.Coords) (z : Vec Ideal S528x2048 .f32) (w : Vec Ideal S4x512x512 .bf16) (s : Vec Ideal S1x2048 .f32) (a j : Fin 512) :
    k0_pay8 (k0_pay3 i) (View.ld z (Rect.unit ![16, 1024] ![512, 512] inb_S528x2048_S512x512_16_1024))
      (k0_pay7 (View.ld z (Rect.unit ![16, 1024] ![512, 512] inb_S528x2048_S512x512_16_1024)) (View.ld z (Rect.unit ![15, 1024] ![512, 512] inb_S528x2048_S512x512_15_1024)))
      (View.ld z (Rect.unit ![14, 1024] ![512, 512] inb_S528x2048_S512x512_14_1024))
      (View.ld z (Rect.unit ![13, 1024] ![512, 512] inb_S528x2048_S512x512_13_1024))
      (View.ld z (Rect.unit ![12, 1024] ![512, 512] inb_S528x2048_S512x512_12_1024))
      (View.ld z (Rect.unit ![11, 1024] ![512, 512] inb_S528x2048_S512x512_11_1024))
      (View.ld z (Rect.unit ![10, 1024] ![512, 512] inb_S528x2048_S512x512_10_1024))
      (View.ld z (Rect.unit ![9, 1024] ![512, 512] inb_S528x2048_S512x512_9_1024))
      (View.ld w (Rect.unit ![2, 0, 0] ![1, 512, 512] inb_S4x512x512_S1x512x512_2_0_0)) (View.ld s (Rect.unit ![0, 1024] ![1, 512] inb_S1x2048_S1x512_0_1024)) (ix2 a j)
      = PoolRow.group 2 (back z a) (fun k i j => w (ix3 k i j)) (fun b => s (ix2 0 b)) (avail i a) j := by
  unfold PoolRow.group PoolRow.count back
  simp only [PoolRow.total]
  pointwise [k0_pay8, k0_pay7, k0_pay3]
  simp only [col2]
  rfl

/-- The fourth group's columns. -/
theorem group3 (i : grid0.Coords) (z : Vec Ideal S528x2048 .f32) (w : Vec Ideal S4x512x512 .bf16) (s : Vec Ideal S1x2048 .f32) (a j : Fin 512) :
    k0_pay11 (View.ld z (Rect.unit ![16, 1536] ![512, 512] inb_S528x2048_S512x512_16_1536))
      (k0_pay10 (k0_pay3 i) (View.ld z (Rect.unit ![16, 1536] ![512, 512] inb_S528x2048_S512x512_16_1536))
        (k0_pay9 (View.ld z (Rect.unit ![16, 1536] ![512, 512] inb_S528x2048_S512x512_16_1536)) (View.ld z (Rect.unit ![15, 1536] ![512, 512] inb_S528x2048_S512x512_15_1536)))
        (View.ld z (Rect.unit ![14, 1536] ![512, 512] inb_S528x2048_S512x512_14_1536))
        (View.ld z (Rect.unit ![13, 1536] ![512, 512] inb_S528x2048_S512x512_13_1536))
        (View.ld z (Rect.unit ![12, 1536] ![512, 512] inb_S528x2048_S512x512_12_1536))
        (View.ld z (Rect.unit ![11, 1536] ![512, 512] inb_S528x2048_S512x512_11_1536))
        (View.ld z (Rect.unit ![10, 1536] ![512, 512] inb_S528x2048_S512x512_10_1536))
        (View.ld z (Rect.unit ![9, 1536] ![512, 512] inb_S528x2048_S512x512_9_1536))
        (View.ld z (Rect.unit ![8, 1536] ![512, 512] inb_S528x2048_S512x512_8_1536))
        (View.ld z (Rect.unit ![7, 1536] ![512, 512] inb_S528x2048_S512x512_7_1536))
        (View.ld z (Rect.unit ![6, 1536] ![512, 512] inb_S528x2048_S512x512_6_1536))
        (View.ld z (Rect.unit ![5, 1536] ![512, 512] inb_S528x2048_S512x512_5_1536))
        (View.ld z (Rect.unit ![4, 1536] ![512, 512] inb_S528x2048_S512x512_4_1536))
        (View.ld z (Rect.unit ![3, 1536] ![512, 512] inb_S528x2048_S512x512_3_1536))
        (View.ld z (Rect.unit ![2, 1536] ![512, 512] inb_S528x2048_S512x512_2_1536))
        (View.ld z (Rect.unit ![1, 1536] ![512, 512] inb_S528x2048_S512x512_1_1536)))
      (View.ld w (Rect.unit ![3, 0, 0] ![1, 512, 512] inb_S4x512x512_S1x512x512_3_0_0)) (View.ld s (Rect.unit ![0, 1536] ![1, 512] inb_S1x2048_S1x512_0_1536)) (ix2 a j)
      = PoolRow.group 3 (back z a) (fun k i j => w (ix3 k i j)) (fun b => s (ix2 0 b)) (avail i a) j := by
  unfold PoolRow.group PoolRow.count back
  simp only [PoolRow.total]
  pointwise [k0_pay11, k0_pay10, k0_pay9, k0_pay3]
  simp only [col3]
  rfl

/-- The scratch: sixteen rows before the tile's, and the tile's. -/
def stacked (h : Vec Ideal S16x2048 .f32) (x : Vec Ideal S512x2048 .f32) : Vec Ideal S528x2048 .f32 := fun y =>
  if hy : (y 0).val < 16 then h (ix2 ⟨(y 0).val, hy⟩ (y 1)) else x (ix2 ⟨(y 0).val - 16, by have : (y 0).val < 528 := (y 0).isLt; omega⟩ (y 1))

/-- Its first sixteen rows, -/
theorem stacked_before (h : Vec Ideal S16x2048 .f32) (x : Vec Ideal S512x2048 .f32) (a : Fin 16) (b : Fin 2048) :
    stacked h x (ix2 ⟨a.val, by omega⟩ b) = h (ix2 a b) := by
  unfold stacked
  exact dif_pos a.isLt

/-- and the others. -/
theorem stacked_tile (h : Vec Ideal S16x2048 .f32) (x : Vec Ideal S512x2048 .f32) (a : Fin 512) (b : Fin 2048) :
    stacked h x (ix2 ⟨16 + a.val, by omega⟩ b) = x (ix2 a b) := by
  unfold stacked
  refine (dif_neg (by show ¬ 16 + a.val < 16; omega)).trans ?_
  refine congrArg (fun r : Fin 512 => x (ix2 r b)) (Fin.ext ?_)
  show 16 + a.val - 16 = a.val
  omega

/-- The scratch's two stores, last first. -/
abbrev stores (h : Vec Ideal S16x2048 .f32) (x : Vec Ideal S512x2048 .f32) : List (View.Piece (Elt Ideal) S528x2048 .f32) :=
  [⟨Rect.unit ![16, 0] ![512, 2048] inb_S528x2048_S512x2048_16_0, x⟩, ⟨Rect.unit ![0, 0] ![16, 2048] inb_S528x2048_S16x2048_0_0, h⟩]

/-- The scratch after them. -/
theorem stored (h : Vec Ideal S16x2048 .f32) (x : Vec Ideal S512x2048 .f32) (y : S528x2048.Idx) :
    View.canon (stores h x) y = stacked h x y := by
  have hp : View.PiecesOf (stacked h x) (stores h x) := by
    unfold stores View.PiecesOf View.PiecesOf View.PiecesOf
    refine ⟨fun q => ?_, fun q => ?_, trivial⟩
    · obtain ⟨a, b, rfl⟩ : ∃ (a : Fin 512) (b : Fin 2048), q = ix2 a b := ⟨q 0, q 1, eq_ix2 q⟩
      refine (stacked_tile h x a b).symm.trans (congrArg (stacked h x) ?_)
      blk_ext []
    · obtain ⟨a, b, rfl⟩ : ∃ (a : Fin 16) (b : Fin 2048), q = ix2 a b := ⟨q 0, q 1, eq_ix2 q⟩
      refine (stacked_before h x a b).symm.trans (congrArg (stacked h x) ?_)
      blk_ext []
  refine View.canon_apply_of_pieces (stacked h x) (stores h x) hp.mem y ?_
  · have h0 : (y 0).val < 528 := (y 0).isLt
    have h1 : (y 1).val < 2048 := (y 1).isLt
    by_cases hy : (y 0).val < 16
    · have hm : y ∈ (Rect.unit (s := S528x2048) ![0, 0] ![16, 2048] inb_S528x2048_S16x2048_0_0).set := Rect.mem_set_unit.mpr fun a => by
        match a with
        | ⟨0, _⟩ => exact ⟨Nat.zero_le _, by show (y 0).val < 0 + 16; omega⟩
        | ⟨1, _⟩ => exact ⟨Nat.zero_le _, by show (y 1).val < 0 + 2048; omega⟩
      exact ⟨_, List.mem_cons_of_mem _ List.mem_cons_self, hm⟩
    · have hm : y ∈ (Rect.unit (s := S528x2048) ![16, 0] ![512, 2048] inb_S528x2048_S512x2048_16_0).set := Rect.mem_set_unit.mpr fun a => by
        match a with
        | ⟨0, _⟩ => exact ⟨by show 16 ≤ (y 0).val; omega, by show (y 0).val < 16 + 512; omega⟩
        | ⟨1, _⟩ => exact ⟨Nat.zero_le _, by show (y 1).val < 0 + 2048; omega⟩
      exact ⟨_, List.mem_cons_self, hm⟩

/-- A load of it. -/
theorem scratch (v : View sig .tc .vmem S528x2048 .f32) (h : Vec Ideal S16x2048 .f32) (x : Vec Ideal S512x2048 .f32) (r : Rect S528x2048) :
    v.readCov (stores h x) r.toLoadRect = View.ld (stacked h x) r := by
  rw [View.readCov_eq_canon']
  exact funext fun j => stored h x _

/-- The body's last store at an index. -/
theorem last (z : Vec Ideal S512x2048 .f32) (g h : Vec Ideal S1x2048 .f32) (a : Fin 512) (b : Fin 2048) :
    k0_pay12 z g h (ix2 a b) = RowNorm.norm (fun b => z (ix2 a b)) (fun b => g (ix2 0 b)) (fun b => h (ix2 0 b)) b := by
  unfold RowNorm.norm RowNorm.mean
  pointwise [k0_pay12]

/-- The stores of the output's four groups of columns, last first. -/
abbrev written (p0 p1 p2 p3 : Vec Ideal S512x512 .f32) : List (View.Piece (Elt Ideal) S512x2048 .f32) :=
  [⟨Rect.unit ![0, 1536] ![512, 512] inb_S512x2048_S512x512_0_1536, p3⟩, ⟨Rect.unit ![0, 1024] ![512, 512] inb_S512x2048_S512x512_0_1024, p2⟩,
    ⟨Rect.unit ![0, 512] ![512, 512] inb_S512x2048_S512x512_0_512, p1⟩, ⟨Rect.unit ![0, 0] ![512, 512] inb_S512x2048_S512x512_0_0, p0⟩]

/-- The output's block after them. -/
theorem columns (p0 p1 p2 p3 : Vec Ideal S512x512 .f32) (G : Vec Ideal S512x2048 .f32)
    (h0 : ∀ a j, p0 (ix2 a j) = G (ix2 a (PoolRow.col 0 j))) (h1 : ∀ a j, p1 (ix2 a j) = G (ix2 a (PoolRow.col 1 j)))
    (h2 : ∀ a j, p2 (ix2 a j) = G (ix2 a (PoolRow.col 2 j))) (h3 : ∀ a j, p3 (ix2 a j) = G (ix2 a (PoolRow.col 3 j))) (y : S512x2048.Idx) :
    View.canon (written p0 p1 p2 p3) y = G y := by
  have hy0 : (y 0).val < 512 := (y 0).isLt
  have hy1 : (y 1).val < 2048 := (y 1).isLt
  have hp : View.PiecesOf G (written p0 p1 p2 p3) := by
    unfold written View.PiecesOf View.PiecesOf View.PiecesOf View.PiecesOf View.PiecesOf
    refine ⟨fun q => ?_, fun q => ?_, fun q => ?_, fun q => ?_, trivial⟩
    · obtain ⟨a, b, rfl⟩ : ∃ (a : Fin 512) (b : Fin 512), q = ix2 a b := ⟨q 0, q 1, eq_ix2 q⟩
      refine (h3 a b).trans (congrArg G ?_)
      blk_ext [PoolRow.col]
    · obtain ⟨a, b, rfl⟩ : ∃ (a : Fin 512) (b : Fin 512), q = ix2 a b := ⟨q 0, q 1, eq_ix2 q⟩
      refine (h2 a b).trans (congrArg G ?_)
      blk_ext [PoolRow.col]
    · obtain ⟨a, b, rfl⟩ : ∃ (a : Fin 512) (b : Fin 512), q = ix2 a b := ⟨q 0, q 1, eq_ix2 q⟩
      refine (h1 a b).trans (congrArg G ?_)
      blk_ext [PoolRow.col]
    · obtain ⟨a, b, rfl⟩ : ∃ (a : Fin 512) (b : Fin 512), q = ix2 a b := ⟨q 0, q 1, eq_ix2 q⟩
      refine (h0 a b).trans (congrArg G ?_)
      blk_ext [PoolRow.col]
  refine View.canon_apply_of_pieces G (written p0 p1 p2 p3) hp.mem y ?_
  · by_cases c3 : 1536 ≤ (y 1).val
    · have hm : y ∈ (Rect.unit (s := S512x2048) ![0, 1536] ![512, 512] inb_S512x2048_S512x512_0_1536).set := Rect.mem_set_unit.mpr fun a => by
        match a with
        | ⟨0, _⟩ => exact ⟨Nat.zero_le _, by show (y 0).val < 0 + 512; omega⟩
        | ⟨1, _⟩ => exact ⟨by show 1536 ≤ (y 1).val; omega, by show (y 1).val < 1536 + 512; omega⟩
      exact ⟨_, List.mem_cons_self, hm⟩
    by_cases c2 : 1024 ≤ (y 1).val
    · have hm : y ∈ (Rect.unit (s := S512x2048) ![0, 1024] ![512, 512] inb_S512x2048_S512x512_0_1024).set := Rect.mem_set_unit.mpr fun a => by
        match a with
        | ⟨0, _⟩ => exact ⟨Nat.zero_le _, by show (y 0).val < 0 + 512; omega⟩
        | ⟨1, _⟩ => exact ⟨by show 1024 ≤ (y 1).val; omega, by show (y 1).val < 1024 + 512; omega⟩
      exact ⟨_, List.mem_cons_of_mem _ List.mem_cons_self, hm⟩
    by_cases c1 : 512 ≤ (y 1).val
    · have hm : y ∈ (Rect.unit (s := S512x2048) ![0, 512] ![512, 512] inb_S512x2048_S512x512_0_512).set := Rect.mem_set_unit.mpr fun a => by
        match a with
        | ⟨0, _⟩ => exact ⟨Nat.zero_le _, by show (y 0).val < 0 + 512; omega⟩
        | ⟨1, _⟩ => exact ⟨by show 512 ≤ (y 1).val; omega, by show (y 1).val < 512 + 512; omega⟩
      exact ⟨_, List.mem_cons_of_mem _ (List.mem_cons_of_mem _ List.mem_cons_self), hm⟩
    · have hm : y ∈ (Rect.unit (s := S512x2048) ![0, 0] ![512, 512] inb_S512x2048_S512x512_0_0).set := Rect.mem_set_unit.mpr fun a => by
        match a with
        | ⟨0, _⟩ => exact ⟨Nat.zero_le _, by show (y 0).val < 0 + 512; omega⟩
        | ⟨1, _⟩ => exact ⟨Nat.zero_le _, by show (y 1).val < 0 + 512; omega⟩
      exact ⟨_, List.mem_cons_of_mem _ (List.mem_cons_of_mem _ (List.mem_cons_of_mem _ List.mem_cons_self)), hm⟩

/-- The second store's rows are the tile's. -/
theorem tile (x : Vec Ideal S512x2048 .f32) : k0_pay2 x = x := by
  funext y
  pointwise [k0_pay2]

variable (m : (ℓ : Loc nD τ sig) → Buf (Elt Ideal) ℓ)

/-- What a point writes, at an index. -/
theorem block_apply (c : Dev nD) (t : Fin cfg0.N) (a : Fin 512) (b : Fin 2048) :
    (outsAt0 m c t : S512x2048.Idx → EReal) (ix2 a b) = RowNorm.norm
      (PoolRow.row (back (stacked (k0_pay1 (grid0.coords t) (iblk m c 1 t)) (X0_0 m c t)) a) (fun k i j => iblk m c 2 t (ix3 k i j))
        (fun b => iblk m c 3 t (ix2 0 b)) (avail (grid0.coords t) a))
      (fun b => iblk m c 4 t (ix2 0 b)) (fun b => iblk m c 5 t (ix2 0 b)) b := by
  unfold outsAt0
  frame_open
  frame_out
  simp only [tile, scratch]
  refine (last _ _ _ a b).trans ?_
  congr 1
  funext b
  rw [View.readCov_eq_canon']
  refine (columns _ _ _ _ (fun y => PoolRow.row (back (stacked (k0_pay1 (grid0.coords t) (iblk m c 1 t)) (X0_0 m c t)) (y 0)) (fun k i j => iblk m c 2 t (ix3 k i j))
      (fun b => iblk m c 3 t (ix2 0 b)) (avail (grid0.coords t) (y 0)) (y 1))
    (fun a j => (group0 _ _ _ _ a j).trans (PoolRow.row_col _ _ _ _ 0 j).symm) (fun a j => (group1 _ _ _ _ a j).trans (PoolRow.row_col _ _ _ _ 1 j).symm)
    (fun a j => (group2 _ _ _ _ a j).trans (PoolRow.row_col _ _ _ _ 2 j).symm) (fun a j => (group3 _ _ _ _ a j).trans (PoolRow.row_col _ _ _ _ 3 j).symm) _).trans ?_
  have e : (Rect.unit (s := S512x2048) ![0, 0] ![512, 2048] inb_S512x2048_S512x2048_0_0).idx (ix2 a b) = ix2 a b := by
    funext q
    match q with
    | ⟨0, _⟩ => exact Fin.ext (by show 0 + 1 * a.val = a.val; omega)
    | ⟨1, _⟩ => exact Fin.ext (by show 0 + 1 * b.val = b.val; omega)
  exact congrArg (fun y : S512x2048.Idx => PoolRow.row (back (stacked (k0_pay1 (grid0.coords t) (iblk m c 1 t)) (X0_0 m c t)) (y 0)) (fun k i j => iblk m c 2 t (ix3 k i j))
      (fun b => iblk m c 3 t (ix2 0 b)) (avail (grid0.coords t) (y 0)) (y 1)) e

/-- The weights as the region finds them are the argument's. -/
theorem weights (c : Dev nD) : V m c main_v0 = (m ((c : Thread nD τ).loc main_arg1) : S4x512x512.Idx → EReal) := by
  have h : V m c main_v0 = (truncf (F := Ideal) .bf16 (m ((c : Thread nD τ).loc main_arg1) : FVec Ideal S4x512x512 .f32) bitsLt_bf16_f32 : FVec Ideal S4x512x512 .bf16) := by
    show StableHlo.after hostOps0 _ (Proc.devRef .tc main_v0) = _
    after_results
  rw [h]
  funext y
  pointwise []

/-- The point's rows. -/
theorem index0 : ∀ t : Fin cfg0.N, win0_0.index t = ![t.val, 0] := (by decide +kernel : ∀ t : Fin grid0.N, win0_0.index t = ![t.val, 0])
/-- The sixteen rows before them, or any at the start. -/
theorem index1 : ∀ t : Fin cfg0.N, win0_1.index t = ![t.val * 32 - 1, 0] := (by decide +kernel : ∀ t : Fin grid0.N, win0_1.index t = ![t.val * 32 - 1, 0])
/-- The weights: all. -/
theorem index2 : ∀ t : Fin cfg0.N, win0_2.index t = ![0, 0, 0] := (by decide +kernel : ∀ t : Fin grid0.N, win0_2.index t = ![0, 0, 0])
/-- The scales: all. -/
theorem index3 : ∀ t : Fin cfg0.N, win0_3.index t = ![0, 0] := (by decide +kernel : ∀ t : Fin grid0.N, win0_3.index t = ![0, 0])
/-- The gains: all. -/
theorem index4 : ∀ t : Fin cfg0.N, win0_4.index t = ![0, 0] := (by decide +kernel : ∀ t : Fin grid0.N, win0_4.index t = ![0, 0])
/-- The shifts: all. -/
theorem index5 : ∀ t : Fin cfg0.N, win0_5.index t = ![0, 0] := (by decide +kernel : ∀ t : Fin grid0.N, win0_5.index t = ![0, 0])
/-- The point's block of the result. -/
theorem index6 : ∀ t : Fin cfg0.N, win0_6.index t = ![t.val, 0] := (by decide +kernel : ∀ t : Fin grid0.N, win0_6.index t = ![t.val, 0])
/-- The point's tile in its prompt. -/
theorem tile_of : ∀ t : Fin cfg0.N, (grid0.coords t 1).val = t.val % 8 := (by decide +kernel : ∀ t : Fin grid0.N, (grid0.coords t 1).val = t.val % 8)

/-- The tile's rows. -/
theorem rows_apply (c : Dev nD) (t : Fin cfg0.N) (a : Fin 512) (b : Fin 2048) :
    (X0_0 m c t : S512x2048.Idx → EReal) (ix2 a b) = (m ((c : Thread nD τ).loc main_arg0) : S8320x2048.Idx → EReal) (ix2 ⟨t.val * 512 + a.val, by have : t.val < 16 := t.isLt; omega⟩ b) := by
  unfold X0_0 Pipeline.Window.fill
  rw [dif_pos (moved0_0 t _)]
  blk_simp [iblk]
  rw [V_main_arg0]
  refine congrArg (m ((c : Thread nD τ).loc main_arg0)) ?_
  blk_ext [index0]

/-- The rows before it. -/
theorem before_apply (c : Dev nD) (t : Fin cfg0.N) (a : Fin 16) (b : Fin 2048) :
    (iblk m c 1 t : S16x2048.Idx → EReal) (ix2 a b) = (m ((c : Thread nD τ).loc main_arg0) : S8320x2048.Idx → EReal) (ix2 ⟨(t.val * 32 - 1) * 16 + a.val, by have : t.val < 16 := t.isLt; omega⟩ b) := by
  blk_simp [iblk]
  rw [V_main_arg0]
  refine congrArg (m ((c : Thread nD τ).loc main_arg0)) ?_
  blk_ext [index1]

/-- The first store's rows: zero at the prompt's start. -/
theorem halo (i : grid0.Coords) (h : Vec Ideal S16x2048 .f32) (a : Fin 16) (b : Fin 2048) :
    k0_pay1 i h (ix2 a b) = if (i 1).val = 0 then 0 else h (ix2 a b) := by
  have hi : (i 1).val < 8 := (i 1).isLt
  pointwise [k0_pay1]
  generalize (i 1).val = n at hi ⊢
  interval_cases n <;> rfl

/-- The tokens before row `a` of the tile, of the scratch's rows, are those before its token. -/
theorem back_eq (c : Dev nD) (t : Fin cfg0.N) (a : Fin 512) (d : ℕ) (hd : d < 16) (b : Fin 2048) :
    back (stacked (k0_pay1 (grid0.coords t) (iblk m c 1 t)) (X0_0 m c t)) a d b
      = PoolRow.past (fun r b => (m ((c : Thread nD τ).loc main_arg0) : S8320x2048.Idx → EReal) (ix2 r b)) ⟨t.val * 512 + a.val, by have : t.val < 16 := t.isLt; omega⟩ d b := by
  have ht : t.val < 16 := t.isLt
  unfold back PoolRow.past
  by_cases hda : d ≤ a.val
  · have e : (⟨16 - d + a.val, by omega⟩ : Fin 528) = ⟨16 + (⟨a.val - d, by omega⟩ : Fin 512).val, by simp only []; omega⟩ := Fin.ext (by simp only []; omega)
    rw [e, stacked_tile, rows_apply, if_pos (by simp only []; omega)]
    refine congrArg (fun r : Fin 8320 => (m ((c : Thread nD τ).loc main_arg0) : S8320x2048.Idx → EReal) (ix2 r b)) (Fin.ext ?_)
    simp only []; omega
  · have e : (⟨16 - d + a.val, by omega⟩ : Fin 528) = ⟨(⟨16 - d + a.val, by omega⟩ : Fin 16).val, by simp only []; omega⟩ := rfl
    rw [e, stacked_before, halo, tile_of]
    by_cases h0 : t.val % 8 = 0
    · rw [if_pos h0, if_neg (by simp only []; omega)]
    · rw [if_neg h0, before_apply, if_pos (by simp only []; omega)]
      refine congrArg (fun r : Fin 8320 => (m ((c : Thread nD τ).loc main_arg0) : S8320x2048.Idx → EReal) (ix2 r b)) (Fin.ext ?_)
      simp only []; omega

/-- The count of the tokens up to a row. -/
theorem avail_eq (t : Fin cfg0.N) (a : Fin 512) : avail (grid0.coords t) a = BitVec.ofNat 32 ((t.val * 512 + a.val) % 4096) + 1#32 := by
  have ht : t.val < 16 := t.isLt
  unfold avail
  rw [tile_of, show (512#32 : BitVec 32) = BitVec.ofNat 32 512 from rfl, ← BitVec.ofNat_mul, ← BitVec.ofNat_add]
  congr 2
  omega

/-- The result, as one array of the arguments'. -/
def whole (c : Dev nD) (y : S8320x2048.Idx) : EReal :=
  PoolRow.out (fun r b => (m ((c : Thread nD τ).loc main_arg0) : S8320x2048.Idx → EReal) (ix2 r b))
    (fun k i j => (m ((c : Thread nD τ).loc main_arg1) : S4x512x512.Idx → EReal) (ix3 k i j)) (fun b => (m ((c : Thread nD τ).loc main_arg2) : S1x2048.Idx → EReal) (ix2 0 b))
    (fun b => (m ((c : Thread nD τ).loc main_arg3) : S1x2048.Idx → EReal) (ix2 0 b)) (fun b => (m ((c : Thread nD τ).loc main_arg4) : S1x2048.Idx → EReal) (ix2 0 b)) (y 0) (y 1)

/-- What a point writes is its block of that array. -/
theorem point_apply (c : Dev nD) (t : Fin cfg0.N) (a : Fin 512) (b : Fin 2048) (r : Fin 8320) (hr : r.val = t.val * 512 + a.val) :
    (outsAt0 m c t : S512x2048.Idx → EReal) (ix2 a b) = whole m c (ix2 r b) := by
  have ht : t.val < 16 := t.isLt
  have e : r = ⟨t.val * 512 + a.val, by omega⟩ := Fin.ext hr
  rw [block_apply, avail_eq]
  show _ = PoolRow.out _ _ _ _ _ r b
  unfold PoolRow.out
  have e2 : ∀ k i j, (iblk m c 2 t : S4x512x512.Idx → EReal) (ix3 k i j) = (m ((c : Thread nD τ).loc main_arg1) : S4x512x512.Idx → EReal) (ix3 k i j) := fun k i j => by
    blk_simp [iblk]
    rw [weights]
    refine congrArg (m ((c : Thread nD τ).loc main_arg1)) ?_
    blk_ext [index2]
  have e3 : ∀ k : Fin 2048, (iblk m c 3 t : S1x2048.Idx → EReal) (ix2 0 k) = m ((c : Thread nD τ).loc main_arg2) (ix2 0 k) := fun k => by
    blk_simp [iblk]
    rw [V_main_arg2]
    refine congrArg (m ((c : Thread nD τ).loc main_arg2)) ?_
    blk_ext [index3]
  have e4 : ∀ k : Fin 2048, (iblk m c 4 t : S1x2048.Idx → EReal) (ix2 0 k) = m ((c : Thread nD τ).loc main_arg3) (ix2 0 k) := fun k => by
    blk_simp [iblk]
    rw [V_main_arg3]
    refine congrArg (m ((c : Thread nD τ).loc main_arg3)) ?_
    blk_ext [index4]
  have e5 : ∀ k : Fin 2048, (iblk m c 5 t : S1x2048.Idx → EReal) (ix2 0 k) = m ((c : Thread nD τ).loc main_arg4) (ix2 0 k) := fun k => by
    blk_simp [iblk]
    rw [V_main_arg4]
    refine congrArg (m ((c : Thread nD τ).loc main_arg4)) ?_
    blk_ext [index5]
  have er : ∀ k, PoolRow.row (back (stacked (k0_pay1 (grid0.coords t) (iblk m c 1 t)) (X0_0 m c t)) a) (fun k i j => iblk m c 2 t (ix3 k i j))
      (fun b => iblk m c 3 t (ix2 0 b)) (BitVec.ofNat 32 ((t.val * 512 + a.val) % 4096) + 1#32) k
      = PoolRow.row (PoolRow.past (fun r b => (m ((c : Thread nD τ).loc main_arg0) : S8320x2048.Idx → EReal) (ix2 r b)) r) (fun k i j => (m ((c : Thread nD τ).loc main_arg1) : S4x512x512.Idx → EReal) (ix3 k i j))
        (fun b => (m ((c : Thread nD τ).loc main_arg2) : S1x2048.Idx → EReal) (ix2 0 b)) (BitVec.ofNat 32 (r.val % 4096) + 1#32) k := fun k =>
    PoolRow.row_congr (fun d hd b => (back_eq m c t a d hd b).trans (by rw [e])) e2 e3 (by rw [e]) k
  exact (congrArg (fun z => RowNorm.norm z _ _ b) (funext er)).trans (by rw [funext e4, funext e5])

/-- The blocks a point writes are the first sixteen of the result. -/
theorem covers : (cfg0.win 6).CoversWhere (fun β => β 0 < 16) := by decide +kernel

/-- The rows of those blocks are the prompts'. -/
theorem cells (j : (cfg0.win 6).shape.Idx) : (((cfg0.win 6).arr.view.emb j : S8320x2048.Idx) 0).val < 8192 ↔ (cfg0.win 6).cell j 0 < 16 := by
  blk_simp [Pipeline.Window.cell_apply]
  omega

/-- A point's rows are rows of the result. -/
theorem row_lt (t : Fin cfg0.N) (a : Fin 512) : t.val * 512 + a.val < 8320 := by
  have ht : t.val < 16 := t.isLt
  omega

/-- The place of a block's element in the result. -/
theorem place (t : Fin cfg0.N) (y : ((cfg0.win 6).xblock (cfg0.grid.coords t)).Idx) :
    (((cfg0.win 6).blk t).view.emb y : S8320x2048.Idx) = ix2 ⟨t.val * 512 + ((cfg0.win 6).xinj (cfg0.grid.coords t) y 0).val, row_lt t _⟩ ((cfg0.win 6).xinj (cfg0.grid.coords t) y 1) := by
  blk_ext [index6]

/-- What a point writes back. -/
theorem point_whole (c : Dev nD) (t : Fin cfg0.N) (y : ((cfg0.win 6).xblock (cfg0.grid.coords t)).Idx) :
    (outsAt0 m c t : S512x2048.Idx → EReal) ((cfg0.win 6).xinj (cfg0.grid.coords t) y) = whole m c (((cfg0.win 6).blk t).view.emb y) := by
  rw [place]
  exact (congrArg (outsAt0 m c t) (eq_ix2 _)).trans (point_apply m c t _ _ _ rfl)

/-- A written cell of the result. -/
theorem final_cell (c : Dev nD) (j : (cfg0.win 6).shape.Idx) (h : (cfg0.win 6).cell j 0 < 16) :
    (dats m 0 c).arrAt 6 cfg0.N ((cfg0.win 6).arr.view.emb j) = whole m c ((cfg0.win 6).arr.view.emb j) := by
  obtain ⟨t, hf, hi⟩ := (covers.covered_iff j).mpr h
  have hA : ∀ t, (cfg0.win 6).flush t = true → ∀ y : ((cfg0.win 6).xblock (cfg0.grid.coords t)).Idx,
      (dats m 0 c).after 6 t ((cfg0.win 6).xinj (cfg0.grid.coords t) y) = whole m c (((cfg0.win 6).blk t).view.emb y) := fun t _ y => by
    rw [after0_6]; exact point_whole m c t y
  exact (dats m 0 c).arrAt_forall_of_flushed 6 (fun i v => v = whole m c i) hA cfg0.N t _ t.isLt hf hi

/-- The result is its only window's. -/
theorem emb_eq (j : S8320x2048.Idx) : ((cfg0.win 6).arr.view.emb j : S8320x2048.Idx) = j := by
  blk_ext []

/-- The result's row of a prompt's token. -/
theorem final_rows (c : Dev nD) (r : Fin 8320) (b : Fin 2048) (hr : r.val < 8192) : (dats m 0 c).arrAt 6 cfg0.N (ix2 r b) = whole m c (ix2 r b) := by
  have e := emb_eq (ix2 r b)
  have h := final_cell m c (ix2 r b) ((cells (ix2 r b)).mp (by rw [e]; exact hr))
  rw [e] at h
  exact h

end Cert.Kernel6Ideal.Pool
end
-- ==== Proof.PoolRef.lean ====
/- The reference of the pooling over the extended reals, read at an index: the same rows. -/
module

public import proofs.«01_k».proof.Proof.PoolValue
public import proofs.«01_k».proof.Proof.Gen.Reference6Ideal.Run

@[expose] public section

set_option maxRecDepth 16384

noncomputable section

namespace Cert.Reference6Ideal.Pool

open Cert.Reference6Ideal Cert.Reference6Ideal.Gen
open Idealize.ShloMosaic Idealize.ShloMosaic.TcCoe

/-- The prompts' rows, prompt by prompt. -/
def prompts (x : FVec Ideal S8320x2048 .f32) : FVec Ideal S2x4096x2048 .f32 :=
  shapeCast _ (extractStridedSlice S8192x2048 ![0, 0] x slices_S8320x2048_S8192x2048_0_0) shapeCasts_S8192x2048_S2x4096x2048

/-- Fifteen rows of zeros before each prompt. -/
def padded (y : FVec Ideal S2x4096x2048 .f32) : FVec Ideal S2x4111x2048 .f32 :=
  concatenate S2x4111x2048 1 [⟨S2x15x2048, (broadcastInDim S2x15x2048 ![] bcast_S_S2x15x2048 (constant S_ .f32 0x00000000#32))⟩, ⟨S2x4096x2048, y⟩] concatenates_S2x15x2048_S2x4096x2048_S2x4111x2048_d1

/-- How many tokens there are up to each. -/
def seen : IVec S1x4096x1 32 :=
  broadcastInDim S1x4096x1 ![1] bcast_S4096_S1x4096x1_1 (addi (iotaInDim S4096 32 0) (broadcastInDim S4096 ![] bcast_S_S4096 (constantI S_ 32 1#32)))

/-- The sums of two rows, -/
def twos (z : FVec Ideal S2x4111x2048 .f32) : FVec Ideal S2x4110x2048 .f32 :=
  addf (extractStridedSlice S2x4110x2048 ![0, 1, 0] z slices_S2x4111x2048_S2x4110x2048_0_1_0) (extractStridedSlice S2x4110x2048 ![0, 0, 0] z slices_S2x4111x2048_S2x4110x2048_0_0_0)

/-- of four, -/
def fours (z : FVec Ideal S2x4110x2048 .f32) : FVec Ideal S2x4108x2048 .f32 :=
  addf (extractStridedSlice S2x4108x2048 ![0, 2, 0] z slices_S2x4110x2048_S2x4108x2048_0_2_0) (extractStridedSlice S2x4108x2048 ![0, 0, 0] z slices_S2x4110x2048_S2x4108x2048_0_0_0)

/-- of eight -/
def eights (z : FVec Ideal S2x4108x2048 .f32) : FVec Ideal S2x4104x2048 .f32 :=
  addf (extractStridedSlice S2x4104x2048 ![0, 4, 0] z slices_S2x4108x2048_S2x4104x2048_0_4_0) (extractStridedSlice S2x4104x2048 ![0, 0, 0] z slices_S2x4108x2048_S2x4104x2048_0_0_0)

/-- and of sixteen. -/
def sixteens (z : FVec Ideal S2x4104x2048 .f32) : FVec Ideal S2x4096x2048 .f32 :=
  addf (extractStridedSlice S2x4096x2048 ![0, 8, 0] z slices_S2x4104x2048_S2x4096x2048_0_8_0) (extractStridedSlice S2x4096x2048 ![0, 0, 0] z slices_S2x4104x2048_S2x4096x2048_0_0_0)

/-- The first group through its weights. -/
def part0 (y : FVec Ideal S2x4096x2048 .f32) (z : FVec Ideal S2x4110x2048 .f32) (n : IVec S1x4096x1 32) (w : FVec Ideal S4x512x512 .f32) : FVec Ideal S2x4096x512 .f32 :=
  Host.dotGeneral dot_S2x4096x512_S512x512_S2x4096x512_2_0_01_1_n_n none (subf (Host.divf (extractStridedSlice S2x4096x512 ![0, 14, 0] z slices_S2x4110x2048_S2x4096x512_0_14_0) (broadcastInDim S2x4096x512 ![0, 1, 2] bcast_S1x4096x1_S2x4096x512_0_1_2 (sitofp .f32 (minsi (broadcastInDim S1x4096x1 ![] bcast_S_S1x4096x1 (constantI S_ 32 2#32)) n)))) (extractStridedSlice S2x4096x512 ![0, 0, 0] y slices_S2x4096x2048_S2x4096x512_0_0_0)) (shapeCast _ (extractStridedSlice S1x512x512 ![0, 0, 0] w slices_S4x512x512_S1x512x512_0_0_0) shapeCasts_S1x512x512_S512x512)

/-- The second group through its weights. -/
def part1 (y : FVec Ideal S2x4096x2048 .f32) (z : FVec Ideal S2x4108x2048 .f32) (n : IVec S1x4096x1 32) (w : FVec Ideal S4x512x512 .f32) : FVec Ideal S2x4096x512 .f32 :=
  Host.dotGeneral dot_S2x4096x512_S512x512_S2x4096x512_2_0_01_1_n_n none (subf (Host.divf (extractStridedSlice S2x4096x512 ![0, 12, 512] z slices_S2x4108x2048_S2x4096x512_0_12_512) (broadcastInDim S2x4096x512 ![0, 1, 2] bcast_S1x4096x1_S2x4096x512_0_1_2 (sitofp .f32 (minsi (broadcastInDim S1x4096x1 ![] bcast_S_S1x4096x1 (constantI S_ 32 4#32)) n)))) (extractStridedSlice S2x4096x512 ![0, 0, 512] y slices_S2x4096x2048_S2x4096x512_0_0_512)) (shapeCast _ (extractStridedSlice S1x512x512 ![1, 0, 0] w slices_S4x512x512_S1x512x512_1_0_0) shapeCasts_S1x512x512_S512x512)

/-- The third group through its weights. -/
def part2 (y : FVec Ideal S2x4096x2048 .f32) (z : FVec Ideal S2x4104x2048 .f32) (n : IVec S1x4096x1 32) (w : FVec Ideal S4x512x512 .f32) : FVec Ideal S2x4096x512 .f32 :=
  Host.dotGeneral dot_S2x4096x512_S512x512_S2x4096x512_2_0_01_1_n_n none (subf (Host.divf (extractStridedSlice S2x4096x512 ![0, 8, 1024] z slices_S2x4104x2048_S2x4096x512_0_8_1024) (broadcastInDim S2x4096x512 ![0, 1, 2] bcast_S1x4096x1_S2x4096x512_0_1_2 (sitofp .f32 (minsi (broadcastInDim S1x4096x1 ![] bcast_S_S1x4096x1 (constantI S_ 32 8#32)) n)))) (extractStridedSlice S2x4096x512 ![0, 0, 1024] y slices_S2x4096x2048_S2x4096x512_0_0_1024)) (shapeCast _ (extractStridedSlice S1x512x512 ![2, 0, 0] w slices_S4x512x512_S1x512x512_2_0_0) shapeCasts_S1x512x512_S512x512)

/-- The fourth group through its weights. -/
def part3 (y : FVec Ideal S2x4096x2048 .f32) (z : FVec Ideal S2x4096x2048 .f32) (n : IVec S1x4096x1 32) (w : FVec Ideal S4x512x512 .f32) : FVec Ideal S2x4096x512 .f32 :=
  Host.dotGeneral dot_S2x4096x512_S512x512_S2x4096x512_2_0_01_1_n_n none (subf (Host.divf (extractStridedSlice S2x4096x512 ![0, 0, 1536] z slices_S2x4096x2048_S2x4096x512_0_0_1536) (broadcastInDim S2x4096x512 ![0, 1, 2] bcast_S1x4096x1_S2x4096x512_0_1_2 (sitofp .f32 (minsi (broadcastInDim S1x4096x1 ![] bcast_S_S1x4096x1 (constantI S_ 32 16#32)) n)))) (extractStridedSlice S2x4096x512 ![0, 0, 1536] y slices_S2x4096x2048_S2x4096x512_0_0_1536)) (shapeCast _ (extractStridedSlice S1x512x512 ![3, 0, 0] w slices_S4x512x512_S1x512x512_3_0_0) shapeCasts_S1x512x512_S512x512)

/-- The array that the reference normalises, of the four groups, -/
def joined (y : FVec Ideal S2x4096x2048 .f32) (p0 p1 p2 p3 : FVec Ideal S2x4096x512 .f32) (s : FVec Ideal S1x2048 .f32) : FVec Ideal S2x4096x2048 .f32 :=
  addf (mulf (broadcastInDim S2x4096x2048 ![] bcast_S_S2x4096x2048 (constant S_ .f32 0x3FD744FD#32)) y) (mulf (concatenate S2x4096x2048 2 [⟨S2x4096x512, p0⟩, ⟨S2x4096x512, p1⟩, ⟨S2x4096x512, p2⟩, ⟨S2x4096x512, p3⟩] concatenates_S2x4096x512_S2x4096x512_S2x4096x512_S2x4096x512_S2x4096x2048_d2) (broadcastInDim S2x4096x2048 ![0, 1, 2] bcast_S1x1x2048_S2x4096x2048_0_1_2 (broadcastInDim S1x1x2048 ![1, 2] bcast_S1x2048_S1x1x2048_1_2 s)))

/-- of the prompts and the weights, -/
def mixed (y : FVec Ideal S2x4096x2048 .f32) (w : FVec Ideal S4x512x512 .f32) (s : FVec Ideal S1x2048 .f32) : FVec Ideal S2x4096x2048 .f32 :=
  joined y (part0 y (twos (padded y)) seen w) (part1 y (fours (twos (padded y))) seen w) (part2 y (eights (fours (twos (padded y)))) seen w) (part3 y (sixteens (eights (fours (twos (padded y))))) seen w) s

/-- row by row, -/
def flat (z : FVec Ideal S2x4096x2048 .f32) : FVec Ideal S8192x2048 .f32 := shapeCast _ z shapeCasts_S2x4096x2048_S8192x2048

/-- and its layer norm. -/
def normed (z : FVec Ideal S8192x2048 .f32) (g bb : FVec Ideal S1x2048 .f32) : FVec Ideal S8192x2048 .f32 :=
  addf (mulf (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (broadcastInDim S8192x2048 ![0, 1] bcast_S8192x1_S8192x2048_0_1 (Host.rsqrt (addf (Host.divf (broadcastInDim S8192x1 ![0] bcast_S8192_S8192x1_0 (Host.reduceAdd (mulf (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32))))) (subf z (broadcastInDim S8192x2048 ![0, 1] bcast_S8192x1_S8192x2048_0_1 (Host.divf (broadcastInDim S8192x1 ![0] bcast_S8192_S8192x1_0 (Host.reduceAdd z (constant S_ .f32 0x00000000#32) reducesTo_S8192x2048_S8192_d1 h_S_)) (broadcastInDim S8192x1 ![] bcast_S_S8192x1 (constant S_ .f32 0x45000000#32)))))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 g)) (broadcastInDim S8192x2048 ![0, 1] bcast_S1x2048_S8192x2048_0_1 bb)

/-- The layer norm at an index is that of its row. -/
theorem normed_apply (z : FVec Ideal S8192x2048 .f32) (g bb : FVec Ideal S1x2048 .f32) (a : Fin 8192) (b : Fin 2048) :
    normed z g bb (ix2 a b) = RowNorm.norm (fun k => z (ix2 a k)) (fun k => g (ix2 0 k)) (fun k => bb (ix2 0 k)) b := by
  unfold RowNorm.norm RowNorm.mean
  pointwise [normed]

/-- The reference's result: the prompts' rows and rows of zeros. -/
def result (x : FVec Ideal S8320x2048 .f32) (w : FVec Ideal S4x512x512 .f32) (s g bb : FVec Ideal S1x2048 .f32) : FVec Ideal S8320x2048 .f32 :=
  concatenate S8320x2048 0 [⟨S8192x2048, normed (flat (mixed (prompts x) w s)) g bb⟩, ⟨S128x2048, (broadcastInDim S128x2048 ![] bcast_S_S128x2048 (constant S_ .f32 0x00000000#32))⟩] concatenates_S8192x2048_S128x2048_S8320x2048_d0

/-- What the reference leaves, in these words. -/
theorem leaves (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v95) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m g

/-- Row `p` of a padded prompt. -/
def line (z : FVec Ideal S2x4111x2048 .f32) (q : Fin 2) (b : Fin 2048) (p : ℕ) : EReal := if h : p < 4111 then z (ix3 q ⟨p, h⟩ b) else 0

/-- A sum of two rows. -/
theorem twos_apply (z : FVec Ideal S2x4111x2048 .f32) (q : Fin 2) (p : Fin 4110) (b : Fin 2048) : twos z (ix3 q p b) = line z q b (p.val + 1) + line z q b p.val := by
  have h1 : line z q b (p.val + 1) = z (ix3 q ⟨1 + p.val, by omega⟩ b) := by
    unfold line; rw [dif_pos (by omega)]; exact congrArg (fun i => z (ix3 q i b)) (Fin.ext (Nat.add_comm _ _))
  have h0 : line z q b p.val = z (ix3 q ⟨p.val, by omega⟩ b) := by
    unfold line; rw [dif_pos (by omega)]
  rw [h1, h0]
  pointwise [twos]

/-- A sum of four rows. -/
theorem fours_apply (z : FVec Ideal S2x4111x2048 .f32) (q : Fin 2) (p : Fin 4108) (b : Fin 2048) : fours (twos z) (ix3 q p b)
    = (line z q b (p.val + 3) + line z q b (p.val + 2)) + (line z q b (p.val + 1) + line z q b p.val) := by
  have e : fours (twos z) (ix3 q p b) = twos z (ix3 q ⟨p.val + 2, by omega⟩ b) + twos z (ix3 q ⟨p.val, by omega⟩ b) :=
    by
    have h : (⟨p.val + 2, by omega⟩ : Fin 4110) = ⟨2 + p.val, by omega⟩ := Fin.ext (Nat.add_comm _ _)
    rw [h]
    pointwise [fours]
  rw [e, twos_apply, twos_apply]

/-- A sum of eight rows. -/
theorem eights_apply (z : FVec Ideal S2x4111x2048 .f32) (q : Fin 2) (p : Fin 4104) (b : Fin 2048) : eights (fours (twos z)) (ix3 q p b)
    = ((line z q b (p.val + 7) + line z q b (p.val + 6)) + (line z q b (p.val + 5) + line z q b (p.val + 4))) + ((line z q b (p.val + 3) + line z q b (p.val + 2)) + (line z q b (p.val + 1) + line z q b p.val)) := by
  have e : eights (fours (twos z)) (ix3 q p b) = fours (twos z) (ix3 q ⟨p.val + 4, by omega⟩ b) + fours (twos z) (ix3 q ⟨p.val, by omega⟩ b) :=
    by
    have h : (⟨p.val + 4, by omega⟩ : Fin 4108) = ⟨4 + p.val, by omega⟩ := Fin.ext (Nat.add_comm _ _)
    rw [h]
    pointwise [eights]
  rw [e, fours_apply, fours_apply]

/-- A sum of sixteen rows. -/
theorem sixteens_apply (z : FVec Ideal S2x4111x2048 .f32) (q : Fin 2) (p : Fin 4096) (b : Fin 2048) : sixteens (eights (fours (twos z))) (ix3 q p b)
    = eights (fours (twos z)) (ix3 q ⟨p.val + 8, by omega⟩ b) + eights (fours (twos z)) (ix3 q ⟨p.val, by omega⟩ b) :=
  by
  have h : (⟨p.val + 8, by omega⟩ : Fin 4104) = ⟨8 + p.val, by omega⟩ := Fin.ext (Nat.add_comm _ _)
  rw [h]
  pointwise [sixteens]

/-- The token `d` before token `t` of a padded prompt. -/
def late (z : FVec Ideal S2x4111x2048 .f32) (q : Fin 2) (t : Fin 4096) (d : ℕ) (b : Fin 2048) : EReal := line z q b (t.val + (15 - d))

/-- The first group's sums. -/
theorem sums0 (z : FVec Ideal S2x4111x2048 .f32) (q : Fin 2) (t : Fin 4096) (p : Fin 4110) (hp : p.val = t.val + 14) (b : Fin 2048) :
    twos z (ix3 q p b) = PoolRow.total 0 fun d => late z q t d b := by
  rw [twos_apply, hp]
  simp only [PoolRow.total, late, add_assoc, Nat.reduceAdd, Nat.reduceSub]

/-- The second group's sums. -/
theorem sums1 (z : FVec Ideal S2x4111x2048 .f32) (q : Fin 2) (t : Fin 4096) (p : Fin 4108) (hp : p.val = t.val + 12) (b : Fin 2048) :
    fours (twos z) (ix3 q p b) = PoolRow.total 1 fun d => late z q t d b := by
  rw [fours_apply, hp]
  simp only [PoolRow.total, late, add_assoc, Nat.reduceAdd, Nat.reduceSub]

/-- The third group's sums. -/
theorem sums2 (z : FVec Ideal S2x4111x2048 .f32) (q : Fin 2) (t : Fin 4096) (p : Fin 4104) (hp : p.val = t.val + 8) (b : Fin 2048) :
    eights (fours (twos z)) (ix3 q p b) = PoolRow.total 2 fun d => late z q t d b := by
  rw [eights_apply, hp]
  simp only [PoolRow.total, late, add_assoc, Nat.reduceAdd, Nat.reduceSub]

/-- The fourth group's sums. -/
theorem sums3 (z : FVec Ideal S2x4111x2048 .f32) (q : Fin 2) (t : Fin 4096) (b : Fin 2048) :
    sixteens (eights (fours (twos z))) (ix3 q t b) = PoolRow.total 3 fun d => late z q t d b := by
  rw [sixteens_apply, eights_apply, eights_apply]
  simp only [PoolRow.total, late, add_assoc, Nat.reduceAdd, Nat.reduceSub, Nat.add_zero]

/-- How many tokens there are up to token `t`. -/
theorem seen_apply (t : Fin 4096) : seen (ix3 0 t 0) = BitVec.ofNat 32 t.val + 1#32 := by
  pointwise [seen]
  rfl

/-- The first group through its weights, at an index. -/
theorem part0_apply (y : FVec Ideal S2x4096x2048 .f32) (z : FVec Ideal S2x4110x2048 .f32) (w : FVec Ideal S4x512x512 .f32) (q : Fin 2) (t : Fin 4096) (j : Fin 512) :
    part0 y z seen w (ix3 q t j) = ∑ i : Fin 512, (Ideal.div (z (ix3 q ⟨14 + t.val, by omega⟩ (PoolRow.col 0 i))) (PoolRow.count 0 (BitVec.ofNat 32 t.val + 1#32)) - y (ix3 q t (PoolRow.col 0 i))) * w (ix3 0 i j) := by
  unfold PoolRow.count
  rw [← seen_apply]
  pointwise [part0]
  simp only [Cert.Kernel6Ideal.Pool.col0]
  rfl

/-- The second group through its weights, at an index. -/
theorem part1_apply (y : FVec Ideal S2x4096x2048 .f32) (z : FVec Ideal S2x4108x2048 .f32) (w : FVec Ideal S4x512x512 .f32) (q : Fin 2) (t : Fin 4096) (j : Fin 512) :
    part1 y z seen w (ix3 q t j) = ∑ i : Fin 512, (Ideal.div (z (ix3 q ⟨12 + t.val, by omega⟩ (PoolRow.col 1 i))) (PoolRow.count 1 (BitVec.ofNat 32 t.val + 1#32)) - y (ix3 q t (PoolRow.col 1 i))) * w (ix3 1 i j) := by
  unfold PoolRow.count
  rw [← seen_apply]
  pointwise [part1]
  simp only [Cert.Kernel6Ideal.Pool.col1]
  rfl

/-- The third group through its weights, at an index. -/
theorem part2_apply (y : FVec Ideal S2x4096x2048 .f32) (z : FVec Ideal S2x4104x2048 .f32) (w : FVec Ideal S4x512x512 .f32) (q : Fin 2) (t : Fin 4096) (j : Fin 512) :
    part2 y z seen w (ix3 q t j) = ∑ i : Fin 512, (Ideal.div (z (ix3 q ⟨8 + t.val, by omega⟩ (PoolRow.col 2 i))) (PoolRow.count 2 (BitVec.ofNat 32 t.val + 1#32)) - y (ix3 q t (PoolRow.col 2 i))) * w (ix3 2 i j) := by
  unfold PoolRow.count
  rw [← seen_apply]
  pointwise [part2]
  simp only [Cert.Kernel6Ideal.Pool.col2]
  rfl

/-- The fourth group through its weights, at an index. -/
theorem part3_apply (y : FVec Ideal S2x4096x2048 .f32) (z : FVec Ideal S2x4096x2048 .f32) (w : FVec Ideal S4x512x512 .f32) (q : Fin 2) (t : Fin 4096) (j : Fin 512) :
    part3 y z seen w (ix3 q t j) = ∑ i : Fin 512, (Ideal.div (z (ix3 q t (PoolRow.col 3 i))) (PoolRow.count 3 (BitVec.ofNat 32 t.val + 1#32)) - y (ix3 q t (PoolRow.col 3 i))) * w (ix3 3 i j) := by
  unfold PoolRow.count
  rw [← seen_apply]
  pointwise [part3]
  simp only [Cert.Kernel6Ideal.Pool.col3]
  rfl

/-- A column of the first group before the layer norm, -/
theorem joined0 (y : FVec Ideal S2x4096x2048 .f32) (p0 p1 p2 p3 : FVec Ideal S2x4096x512 .f32) (s : FVec Ideal S1x2048 .f32) (q : Fin 2) (t : Fin 4096) (j : Fin 512) :
    joined y p0 p1 p2 p3 s (ix3 q t (PoolRow.col 0 j)) = Ideal.ofBits .f32 0x3FD744FD#32 * y (ix3 q t (PoolRow.col 0 j)) + p0 (ix3 q t j) * s (ix2 0 (PoolRow.col 0 j)) := by
  have h : (PoolRow.col 0 j).val = j.val := Nat.zero_add _
  pointwise [joined, h]
  simp only [Cert.Kernel6Ideal.Pool.col0]

/-- of the second, -/
theorem joined1 (y : FVec Ideal S2x4096x2048 .f32) (p0 p1 p2 p3 : FVec Ideal S2x4096x512 .f32) (s : FVec Ideal S1x2048 .f32) (q : Fin 2) (t : Fin 4096) (j : Fin 512) :
    joined y p0 p1 p2 p3 s (ix3 q t (PoolRow.col 1 j)) = Ideal.ofBits .f32 0x3FD744FD#32 * y (ix3 q t (PoolRow.col 1 j)) + p1 (ix3 q t j) * s (ix2 0 (PoolRow.col 1 j)) := by
  have h : (PoolRow.col 1 j).val = 512 + j.val := rfl
  pointwise [joined, h]
  simp only [Cert.Kernel6Ideal.Pool.col1]

/-- of the third -/
theorem joined2 (y : FVec Ideal S2x4096x2048 .f32) (p0 p1 p2 p3 : FVec Ideal S2x4096x512 .f32) (s : FVec Ideal S1x2048 .f32) (q : Fin 2) (t : Fin 4096) (j : Fin 512) :
    joined y p0 p1 p2 p3 s (ix3 q t (PoolRow.col 2 j)) = Ideal.ofBits .f32 0x3FD744FD#32 * y (ix3 q t (PoolRow.col 2 j)) + p2 (ix3 q t j) * s (ix2 0 (PoolRow.col 2 j)) := by
  have h : (PoolRow.col 2 j).val = 1024 + j.val := rfl
  have hj : ∀ l, (⟨1024 + j.val - 512 - 512, l⟩ : Fin 512) = j := fun _ => Fin.ext (by show 1024 + j.val - 512 - 512 = j.val; omega)
  pointwise [joined, h]
  rw [dif_neg (by omega), dif_neg (by omega), dif_pos (by omega), hj]
  simp only [Cert.Kernel6Ideal.Pool.col2]

/-- and of the fourth. -/
theorem joined3 (y : FVec Ideal S2x4096x2048 .f32) (p0 p1 p2 p3 : FVec Ideal S2x4096x512 .f32) (s : FVec Ideal S1x2048 .f32) (q : Fin 2) (t : Fin 4096) (j : Fin 512) :
    joined y p0 p1 p2 p3 s (ix3 q t (PoolRow.col 3 j)) = Ideal.ofBits .f32 0x3FD744FD#32 * y (ix3 q t (PoolRow.col 3 j)) + p3 (ix3 q t j) * s (ix2 0 (PoolRow.col 3 j)) := by
  have h : (PoolRow.col 3 j).val = 1536 + j.val := rfl
  have hj : ∀ l, (⟨1536 + j.val - 512 - 512 - 512, l⟩ : Fin 512) = j := fun _ => Fin.ext (by show 1536 + j.val - 512 - 512 - 512 = j.val; omega)
  pointwise [joined, h]
  rw [dif_neg (by omega), dif_neg (by omega), dif_neg (by omega), hj]
  simp only [Cert.Kernel6Ideal.Pool.col3]

/-- A token of a padded prompt is the prompt's, or zero. -/
theorem late_apply (y : FVec Ideal S2x4096x2048 .f32) (q : Fin 2) (t : Fin 4096) (d : ℕ) (hd : d < 16) (b : Fin 2048) :
    late (padded y) q t d b = if d ≤ t.val then y (ix3 q ⟨t.val - d, by omega⟩ b) else 0 := by
  unfold late line
  rw [dif_pos (by omega)]
  pointwise [padded]
  by_cases h : d ≤ t.val
  · rw [dif_neg (by omega), if_pos h]
    exact congrArg (fun i => y (ix3 q i b)) (Fin.ext (by show t.val + (15 - d) - 15 = t.val - d; omega))
  · rw [dif_pos (by omega), if_neg h]

/-- The row that the reference normalises. -/
theorem mixed_apply (y : FVec Ideal S2x4096x2048 .f32) (w : FVec Ideal S4x512x512 .f32) (s : FVec Ideal S1x2048 .f32) (q : Fin 2) (t : Fin 4096) (b : Fin 2048) :
    mixed y w s (ix3 q t b) = PoolRow.row (late (padded y) q t) (fun k i j => w (ix3 k i j)) (fun b => s (ix2 0 b)) (BitVec.ofNat 32 t.val + 1#32) b := by
  obtain ⟨k, j, rfl⟩ := PoolRow.exists_col b
  have h0 : ∀ b, late (padded y) q t 0 b = y (ix3 q t b) := fun b => (late_apply y q t 0 (by decide) b).trans (if_pos (Nat.zero_le _))
  rw [PoolRow.row_col]
  unfold PoolRow.group mixed
  match k with
  | 0 => rw [joined0, part0_apply]; simp only [h0, sums0 (padded y) q t ⟨14 + t.val, by omega⟩ (Nat.add_comm 14 t.val)]
  | 1 => rw [joined1, part1_apply]; simp only [h0, sums1 (padded y) q t ⟨12 + t.val, by omega⟩ (Nat.add_comm 12 t.val)]
  | 2 => rw [joined2, part2_apply]; simp only [h0, sums2 (padded y) q t ⟨8 + t.val, by omega⟩ (Nat.add_comm 8 t.val)]
  | 3 => rw [joined3, part3_apply]; simp only [h0, sums3 (padded y) q t]

/-- A prompt's token is the row of all the tokens. -/
theorem prompts_apply (x : FVec Ideal S8320x2048 .f32) (q : Fin 2) (t : Fin 4096) (b : Fin 2048) :
    prompts x (ix3 q t b) = x (ix2 ⟨4096 * q.val + t.val, by omega⟩ b) := by
  have h : prompts x (ix3 q t b) = extractStridedSlice S8192x2048 ![0, 0] x slices_S8320x2048_S8192x2048_0_0 (ix2 ⟨4096 * q.val + t.val, by omega⟩ b) := by
    unfold prompts
    refine shapeCast_apply _ _ _ _ ?_
    rw [Shape.rowMajor_val_two, Shape.rowMajor_val_three]
    show (4096 * q.val + t.val) * 2048 + b.val = (q.val * 4096 + t.val) * 2048 + b.val
    omega
  rw [h]
  pointwise []

/-- Row by row. -/
theorem flat_apply (z : FVec Ideal S2x4096x2048 .f32) (a : Fin 8192) (b : Fin 2048) :
    flat z (ix2 a b) = z (ix3 ⟨a.val / 4096, by omega⟩ ⟨a.val % 4096, by omega⟩ b) := by
  unfold flat
  refine shapeCast_apply _ _ _ _ ?_
  rw [Shape.rowMajor_val_two, Shape.rowMajor_val_three]
  show (a.val / 4096 * 4096 + a.val % 4096) * 2048 + b.val = a.val * 2048 + b.val
  omega

/-- The reference's row of a prompt's token is the same. -/
theorem result_apply (x : FVec Ideal S8320x2048 .f32) (w : FVec Ideal S4x512x512 .f32) (s g bb : FVec Ideal S1x2048 .f32) (r : Fin 8320) (b : Fin 2048) (hr : r.val < 8192) :
    result x w s g bb (ix2 r b) = PoolRow.out (fun r b => x (ix2 r b)) (fun k i j => w (ix3 k i j)) (fun b => s (ix2 0 b)) (fun b => g (ix2 0 b)) (fun b => bb (ix2 0 b)) r b := by
  have e : result x w s g bb (ix2 r b) = normed (flat (mixed (prompts x) w s)) g bb (ix2 ⟨r.val, hr⟩ b) := by
    pointwise [result]
    rw [dif_pos hr]
  have hp : ∀ d < 16, ∀ b, late (padded (prompts x)) ⟨r.val / 4096, by omega⟩ ⟨r.val % 4096, by omega⟩ d b = PoolRow.past (fun r b => x (ix2 r b)) r d b := fun d hd b => by
    rw [late_apply _ _ _ d hd]
    unfold PoolRow.past
    by_cases h : d ≤ r.val % 4096
    · rw [if_pos h, if_pos h, prompts_apply]
      exact congrArg (fun i => x (ix2 i b)) (Fin.ext (by show 4096 * (r.val / 4096) + (r.val % 4096 - d) = r.val - d; omega))
    · rw [if_neg h, if_neg h]
  rw [e, normed_apply]
  unfold PoolRow.out
  refine congrArg (fun z => RowNorm.norm z _ _ b) (funext fun k => ?_)
  rw [flat_apply, mixed_apply]
  exact PoolRow.row_congr hp (fun _ _ _ => rfl) (fun _ => rfl) rfl k

end Cert.Reference6Ideal.Pool

end
-- ==== Proof.PoolClaims.lean ====
/- What is claimed of the prompts' pooling. -/
module

public import proofs.«01_k».proof.Defs
public import proofs.«01_k».proof.Proof.Gen.Kernel6
public import proofs.«01_k».proof.Proof.Gen.Kernel6.Frame
public import proofs.«01_k».proof.Proof.Gen.On_prompt_rows
public import proofs.«01_k».proof.Proof.PoolValue
public import proofs.«01_k».proof.Proof.PoolRef
public import Idealize.ShloMosaic.Lib.StableHlo.Predicate
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- A row under the mask is a prompt's. -/
theorem prompt_row {F : FTy → Type} [FloatOps F] (a0 a1 a2 a3 a4) (r : Fin 8320) (b : Fin 2048)
    (h : haveI := Cert.On_prompt_rows.Gen.facts; Cert.On_prompt_rows.fn (F := F) a0 a1 a2 a3 a4 (ix2 r b) = 1#1) : r.val < 8192 := by
  have e : (BitVec.ofNat 32 r.val).slt 8192#32 = true := (StableHlo.Predicate.ofBool_eq_one_iff _).mp h
  have e2 : (BitVec.ofNat 32 r.val).toNat = r.val := by
    rw [BitVec.toNat_ofNat]; exact Nat.mod_eq_of_lt (by omega)
  rw [BitVec.slt_eq_decide, BitVec.toInt_eq_toNat_of_lt (by omega), BitVec.toInt_eq_toNat_of_lt (by decide), e2, decide_eq_true_eq] at e
  exact_mod_cast e

/-- The frame of the prompts' pooling at the machine's floats. -/
theorem frame_bits6 : haveI := Cert.Kernel6.Gen.facts; Cert.quiescent_Kernel6 := fun m g _ => Cert.Kernel6.Gen.frame m g

/-- and over the extended reals. -/
theorem frame_ideal6 : haveI := Cert.Kernel6Ideal.Gen.facts; Cert.quiescent_Kernel6Ideal := fun m g _ => Cert.Kernel6Ideal.Gen.frame m g

/-- The frame of its reference. -/
theorem frame_reference6 : haveI := Cert.Reference6Ideal.Gen.facts; Cert.quiescent_Reference6Ideal := by
  intro m g _
  exact (θ_run _ _ _).mono (fun r h => ⟨fun c => (h c).2, sem_eq_zero_of_no_sems (by decide) r.2⟩) (Cert.Reference6Ideal.Pool.leaves m g)

/-- The prompts' rows are the reference's. -/
theorem equal6 : haveI := Cert.Kernel6Ideal.Gen.facts; haveI := Cert.Reference6Ideal.Gen.facts; haveI := Cert.On_prompt_rows.Gen.facts;
    Cert.algebraic_Kernel6Ideal_Reference6Ideal_on_prompt_rows := by
  intro m g m' g' _ hargs
  refine ⟨fun c => Cert.Kernel6Ideal.Pool.whole m c, ?_, ?_⟩
  · refine (θ_run _ _ _).mono (fun r h c => ⟨fun i hi => ?_, (h c).2⟩) (Cert.Kernel6Ideal.Value.run_blocks m g)
    obtain ⟨a, b, rfl⟩ : ∃ (a : Fin 8320) (b : Fin 2048), i = ix2 a b := ⟨i 0, i 1, eq_ix2 i⟩
    exact (congrFun (h c).1 (ix2 a b)).trans (Cert.Kernel6Ideal.Pool.final_rows m c a b (prompt_row _ _ _ _ _ a b hi))
  · refine (θ_run _ _ _).mono (fun r h c => ⟨fun i hi => ?_, (h c).2⟩) (Cert.Reference6Ideal.Pool.leaves m' g')
    obtain ⟨a, b, rfl⟩ : ∃ (a : Fin 8320) (b : Fin 2048), i = ix2 a b := ⟨i 0, i 1, eq_ix2 i⟩
    have e := hargs c
    refine (congrFun (h c).1 (ix2 a b)).trans ?_
    rw [e.1, e.2.1, e.2.2.1, e.2.2.2.1, e.2.2.2.2]
    exact Cert.Reference6Ideal.Pool.result_apply _ _ _ _ _ a b (prompt_row _ _ _ _ _ a b hi)

end Cert.Proof

end
-- ==== Proof.lean ====
/- The claim: the experts' call keeps its frame at the machine's floats and over the extended reals, and over the extended
   reals the rows of its used blocks are the reference's; and the same of three projections' calls and
   of the combine with the shared expert, at all their entries, and of the prompts' pooling, at the prompts' rows. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Pre_in_range
public import proofs.«01_k».proof.Proof.Gen.On_used_rows
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_rows_exist
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.On_prompt_rows
public import proofs.«01_k».proof.Proof.BitsFrame
public import proofs.«01_k».proof.Proof.IdealValue
public import proofs.«01_k».proof.Proof.RefValue
public import proofs.«01_k».proof.Proof.Mask
public import proofs.«01_k».proof.Proof.Products
public import proofs.«01_k».proof.Proof.CombClaims
public import proofs.«01_k».proof.Proof.PoolClaims
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- The kernel's frame at the machine's floats, at tables in range. -/
theorem frame_bits : haveI := Cert.Kernel.Gen.facts; haveI := Cert.Pre_in_range.Gen.facts; Cert.quiescent_Kernel := by
  intro m g hpre
  have hT := Experts.tabs_of_pre (F := Bits) _ _ _ _ _ _ (hpre 0)
  have hb : ∀ c : Dev Cert.Kernel.nD, m ((c : Thread Cert.Kernel.nD Cert.Kernel.τ).loc Cert.Kernel.main_arg1) = m (((0 : Dev Cert.Kernel.nD) : Thread Cert.Kernel.nD Cert.Kernel.τ).loc Cert.Kernel.main_arg1) := fun c => by
    rw [Subsingleton.elim (α := Fin 1) c 0]
  have hn : ∀ c : Dev Cert.Kernel.nD, m ((c : Thread Cert.Kernel.nD Cert.Kernel.τ).loc Cert.Kernel.main_arg2) = m (((0 : Dev Cert.Kernel.nD) : Thread Cert.Kernel.nD Cert.Kernel.τ).loc Cert.Kernel.main_arg2) := fun c => by
    rw [Subsingleton.elim (α := Fin 1) c 0]
  exact (θ_run _ _ _).mono (fun r h => ⟨fun c => Cert.Kernel.Exp.leaves_args hT m g hb hn h.1 c, h.2⟩) (Cert.Kernel.Exp.runs hT m g hb hn)

/-- The kernel's frame over the extended reals. -/
theorem frame_ideal : haveI := Cert.KernelIdeal.Gen.facts; haveI := Cert.Pre_in_range.Gen.facts; Cert.quiescent_KernelIdeal := by
  intro m g hpre
  have hT := Experts.tabs_of_pre (F := Ideal) _ _ _ _ _ _ (hpre 0)
  have hb : ∀ c : Dev Cert.KernelIdeal.nD, m ((c : Thread Cert.KernelIdeal.nD Cert.KernelIdeal.τ).loc Cert.KernelIdeal.main_arg1) = m (((0 : Dev Cert.KernelIdeal.nD) : Thread Cert.KernelIdeal.nD Cert.KernelIdeal.τ).loc Cert.KernelIdeal.main_arg1) := fun c => by
    rw [Subsingleton.elim (α := Fin 1) c 0]
  have hn : ∀ c : Dev Cert.KernelIdeal.nD, m ((c : Thread Cert.KernelIdeal.nD Cert.KernelIdeal.τ).loc Cert.KernelIdeal.main_arg2) = m (((0 : Dev Cert.KernelIdeal.nD) : Thread Cert.KernelIdeal.nD Cert.KernelIdeal.τ).loc Cert.KernelIdeal.main_arg2) := fun c => by
    rw [Subsingleton.elim (α := Fin 1) c 0]
  exact (θ_run _ _ _).mono (fun r h => ⟨fun c => Cert.KernelIdeal.Exp.leaves_args hT m g hb hn h.1 c, h.2⟩) (Cert.KernelIdeal.Exp.runs hT m g hb hn)

/-- The reference's frame. -/
theorem frame_reference : haveI := Cert.ReferenceIdeal.Gen.facts; Cert.quiescent_ReferenceIdeal := by
  intro m g hpre
  exact (θ_run _ _ _).mono (fun r h => ⟨fun c => (h c).2, sem_eq_zero_of_no_sems (by decide) r.2⟩) (Cert.ReferenceIdeal.Value.run m g)

/-- The rows of the used blocks are the reference's. -/
theorem rows_equal : haveI := Cert.KernelIdeal.Gen.facts; haveI := Cert.ReferenceIdeal.Gen.facts; haveI := Cert.Pre_in_range.Gen.facts; haveI := Cert.On_used_rows.Gen.facts;
    Cert.algebraic_KernelIdeal_ReferenceIdeal_on_used_rows := by
  intro m g m' g' hpre hargs
  have hT := Experts.tabs_of_pre (F := Ideal) _ _ _ _ _ _ (hpre 0)
  have hb : ∀ c : Dev Cert.KernelIdeal.nD, m ((c : Thread Cert.KernelIdeal.nD Cert.KernelIdeal.τ).loc Cert.KernelIdeal.main_arg1) = m (((0 : Dev Cert.KernelIdeal.nD) : Thread Cert.KernelIdeal.nD Cert.KernelIdeal.τ).loc Cert.KernelIdeal.main_arg1) := fun c => by
    rw [Subsingleton.elim (α := Fin 1) c 0]
  have hn : ∀ c : Dev Cert.KernelIdeal.nD, m ((c : Thread Cert.KernelIdeal.nD Cert.KernelIdeal.τ).loc Cert.KernelIdeal.main_arg2) = m (((0 : Dev Cert.KernelIdeal.nD) : Thread Cert.KernelIdeal.nD Cert.KernelIdeal.τ).loc Cert.KernelIdeal.main_arg2) := fun c => by
    rw [Subsingleton.elim (α := Fin 1) c 0]
  refine ⟨fun c => Cert.KernelIdeal.Exp.whole hT m c, ?_, ?_⟩
  · refine (θ_run _ _ _).mono (fun r h c => ⟨fun i hi => ?_, Cert.KernelIdeal.Exp.leaves_args hT m g hb hn h.1 c⟩) (Cert.KernelIdeal.Exp.runs hT m g hb hn)
    obtain ⟨a, b, rfl⟩ : ∃ (a : Fin 82944) (b : Fin 2048), i = ix2 a b := ⟨i 0, i 1, eq_ix2 i⟩
    rw [hb c, hn c] at hi
    have hr := Experts.row_of_mask hT _ _ _ _ _ hi
    exact (congrFun ((h.1 c).1 (4 : Fin 5)) (ix2 a b)).trans (Cert.KernelIdeal.Exp.final_rows hT m g c a b hr)
  · refine (θ_run _ _ _).mono (fun r h c => ⟨fun i hi => ?_, (h c).2⟩) (Cert.ReferenceIdeal.Value.run m' g')
    obtain ⟨a, b, rfl⟩ : ∃ (a : Fin 82944) (b : Fin 2048), i = ix2 a b := ⟨i 0, i 1, eq_ix2 i⟩
    have e := hargs c
    refine (congrFun (h c).1 (ix2 a b)).trans ((congrFun (Cert.ReferenceIdeal.Exp.res_eq m' c) (ix2 a b)).trans ?_)
    rw [e.1, e.2.1, e.2.2.2.1, e.2.2.2.2.1, e.2.2.2.2.2, hb c]
    exact Cert.ReferenceIdeal.Exp.result_apply hT _ _ _ _ a b

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_in_range.Gen.facts, Cert.Pre_rows_exist.Gen.facts, Cert.On_used_rows.Gen.facts, Cert.On_prompt_rows.Gen.facts,
    frame_bits, frame_ideal, frame_reference, fun m g _ => frame_reference m g trivial,
    frame_bits2, frame_ideal2, frame_reference2, frame_bits3, frame_ideal3, frame_reference3, frame_bits4, frame_ideal4, frame_reference4,
    frame_bits5, frame_ideal5, frame_reference5, fun m g _ => frame_reference5 m g trivial,
    frame_bits6, frame_ideal6, frame_reference6,
    trivial, rows_equal, trivial, equal2, trivial, equal3, trivial, equal4, trivial, equal5, trivial, equal6⟩

end Cert.Proof

end
